-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_operands [hPre_finite_operands : Cert.Pre_finite_operands.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_operands.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_operands [hPre_finite_operands : Cert.Pre_finite_operands.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_operands.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_operands [hKernel4Ideal : Cert.Kernel4Ideal.Facts] [hPre_finite_operands : Cert.Pre_finite_operands.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_operands m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_operands [hReference4Ideal : Cert.Reference4Ideal.Facts] [hPre_finite_operands : Cert.Pre_finite_operands.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_operands m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "inv_qk" .f32 0x3BAAAAAB#32 ((1 / 192 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v63_0)) (v1 : (c : Dev Cert.Kernel3Ideal.nD) → Buf (Elt Ideal) ((c.tc : Thread Cert.Kernel3Ideal.nD Cert.Kernel3Ideal.τ).loc Cert.Kernel3Ideal.main_v63_1)) (v2 : (c : Dev Cert.Kernel3Ideal.nD) → Buf (Elt Ideal) ((c.tc : Thread Cert.Kernel3Ideal.nD Cert.Kernel3Ideal.τ).loc Cert.Kernel3Ideal.main_v63_2)) (v3 : (c : Dev Cert.Kernel3Ideal.nD) → Buf (Elt Ideal) ((c.tc : Thread Cert.Kernel3Ideal.nD Cert.Kernel3Ideal.τ).loc Cert.Kernel3Ideal.main_v63_3)) (v4 : (c : Dev Cert.Kernel3Ideal.nD) → Buf (Elt Ideal) ((c.tc : Thread Cert.Kernel3Ideal.nD Cert.Kernel3Ideal.τ).loc Cert.Kernel3Ideal.main_v63_4)) (v5 : (c : Dev Cert.Kernel3Ideal.nD) → Buf (Elt Ideal) ((c.tc : Thread Cert.Kernel3Ideal.nD Cert.Kernel3Ideal.τ).loc Cert.Kernel3Ideal.main_v63_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v63_0) = v0 c
          ∧ r.2.mem ((c.tc : Thread Cert.Kernel3Ideal.nD Cert.Kernel3Ideal.τ).loc Cert.Kernel3Ideal.main_v63_1) = v1 c
          ∧ r.2.mem ((c.tc : Thread Cert.Kernel3Ideal.nD Cert.Kernel3Ideal.τ).loc Cert.Kernel3Ideal.main_v63_2) = v2 c
          ∧ r.2.mem ((c.tc : Thread Cert.Kernel3Ideal.nD Cert.Kernel3Ideal.τ).loc Cert.Kernel3Ideal.main_v63_3) = v3 c
          ∧ r.2.mem ((c.tc : Thread Cert.Kernel3Ideal.nD Cert.Kernel3Ideal.τ).loc Cert.Kernel3Ideal.main_v63_4) = v4 c
          ∧ r.2.mem ((c.tc : Thread Cert.Kernel3Ideal.nD Cert.Kernel3Ideal.τ).loc Cert.Kernel3Ideal.main_v63_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v179) = v0 c
          ∧ r.2.mem ((c.tc : Thread Cert.Reference3Ideal.nD Cert.Reference3Ideal.τ).loc Cert.Reference3Ideal.main_v182) = v1 c
          ∧ r.2.mem ((c.tc : Thread Cert.Reference3Ideal.nD Cert.Reference3Ideal.τ).loc Cert.Reference3Ideal.main_v143) = v2 c
          ∧ r.2.mem ((c.tc : Thread Cert.Reference3Ideal.nD Cert.Reference3Ideal.τ).loc Cert.Reference3Ideal.main_v184) = v3 c
          ∧ r.2.mem ((c.tc : Thread Cert.Reference3Ideal.nD Cert.Reference3Ideal.τ).loc Cert.Reference3Ideal.main_v187) = v4 c
          ∧ r.2.mem ((c.tc : Thread Cert.Reference3Ideal.nD Cert.Reference3Ideal.τ).loc Cert.Reference3Ideal.main_v190) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "mask" .f32 0xF149F2CA#32 ⊥

def algebraic_Kernel4Ideal_Reference4Ideal_pre_finite_operands [hKernel4Ideal : Cert.Kernel4Ideal.Facts] [hReference4Ideal : Cert.Reference4Ideal.Facts] [hPre_finite_operands : Cert.Pre_finite_operands.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_operands m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_operands : Cert.Pre_finite_operands.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_operands (hKernel4Ideal := hKernel4Ideal) (hPre_finite_operands := hPre_finite_operands)
    ∧ quiescent_Reference4Ideal (hReference4Ideal := hReference4Ideal)
    ∧ quiescent_Reference4Ideal_pre_finite_operands (hReference4Ideal := hReference4Ideal) (hPre_finite_operands := hPre_finite_operands)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_operands (hKernel4Ideal := hKernel4Ideal) (hReference4Ideal := hReference4Ideal) (hPre_finite_operands := hPre_finite_operands)
-- ==== Pre_finite_operands.lean ====
abbrev S16 : Shape := ⟨1, ![16]⟩
abbrev S4x4096x1024 : Shape := ⟨3, ![4, 4096, 1024]⟩
abbrev S4x4096x256 : Shape := ⟨3, ![4, 4096, 256]⟩
abbrev S4x4096 : Shape := ⟨2, ![4, 4096]⟩
abbrev S32x16 : Shape := ⟨2, ![32, 16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x4096x256 : S_.BroadcastsInDim S4x4096x256 (![] : Fin 0 → Fin S4x4096x256.rank)
  reducesTo_S4x4096x256_S_d0_1_2 : S4x4096x256.ReducesTo [0, 1, 2] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v15 : IVec S_ 1) (main_v16 : FVec F S32x16 .f32) (main_cst_4 : FVec F S_ .f32) : IVec S_ 1 :=
  let main_v17 : FVec F S32x16 .f32 := broadcastInDim S32x16 ![] bcast_S_S32x16 main_cst_4
  let main_v18 : IVec S32x16 1 := cmpf .olt main_v16 main_v17
  let main_c_5 : IVec S_ 1 := constantI S_ 1 1#1
  let main_v19 : IVec S_ 1 := (fun x v => Host.reduce IntOp.andi x v reducesTo_S32x16_S_d0_1 h_S_) main_v18 main_c_5
  let main_v20 : IVec S_ 1 := andi main_v15 main_v19
  main_v20

def fn {F : FTy → Type} [FloatOps F] (main_arg0 : FVec F S16 .f32) (main_arg1 : FVec F S4x4096x1024 .bf16) (main_arg2 : FVec F S4x4096x256 .bf16) (main_arg3 : FVec F S4x4096x256 .bf16) (main_arg4 : IVec S4x4096 32) (main_arg5 : FVec F S32x16 .f32) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S4x4096x1024 .f32 := (extf .f32 · bitsLt_bf16_f32) main_arg1
  let main_v5 : FVec F S4x4096x1024 .f32 := Host.absf main_v4
  let main_cst_0 : FVec F S_ .f32 := constant S_ .f32 0x7F800000#32
  let main_v6 : FVec F S4x4096x1024 .f32 := broadcastInDim S4x4096x1024 ![] bcast_S_S4x4096x1024 main_cst_0
  let main_v7 : IVec S4x4096x1024 1 := cmpf .olt main_v5 main_v6
  let main_c_1 : IVec S_ 1 := constantI S_ 1 1#1
  let main_v8 : IVec S_ 1 := (fun x v => Host.reduce IntOp.andi x v reducesTo_S4x4096x1024_S_d0_1_2 h_S_) main_v7 main_c_1
  let main_v9 : IVec S_ 1 := andi main_v3 main_v8
  let main_v10 : FVec F S4x4096x256 .f32 := (extf .f32 · bitsLt_bf16_f32) main_arg2
  let main_v11 : FVec F S4x4096x256 .f32 := Host.absf main_v10
  let main_cst_2 : FVec F S_ .f32 := constant S_ .f32 0x7F800000#32
  let main_v12 : FVec F S4x4096x256 .f32 := broadcastInDim S4x4096x256 ![] bcast_S_S4x4096x256 main_cst_2
  let main_v13 : IVec S4x4096x256 1 := cmpf .olt main_v11 main_v12
  let main_c_3 : IVec S_ 1 := constantI S_ 1 1#1
  let main_v14 : IVec S_ 1 := (fun x v => Host.reduce IntOp.andi x v reducesTo_S4x4096x256_S_d0_1_2 h_S_) main_v13 main_c_3
  let main_v15 : IVec S_ 1 := andi main_v9 main_v14
  let main_v16 : FVec F S32x16 .f32 := Host.absf main_arg5
  let main_cst_4 : FVec F S_ .f32 := constant S_ .f32 0x7F800000#32
  fn_part1 (F := F) main_v15 main_v16 main_cst_4
-- ==== Pre_finite_scores.lean ====
abbrev S4x8x4096x256 : Shape := ⟨4, ![4, 8, 4096, 256]⟩
abbrev S4x8x8x128x512 : Shape := ⟨5, ![4, 8, 8, 128, 512]⟩
abbrev S_ : Shape := ⟨0, ![]⟩

class Facts : Prop where
  bitsLt_bf16_f32 : FTy.bits .bf16 < FTy.bits .f32
  bcast_S_S4x8x4096x256 : S_.BroadcastsInDim S4x8x4096x256 (![] : Fin 0 → Fin S4x8x4096x256.rank)
  reducesTo_S4x8x4096x256_S_d0_1_2_3 : S4x8x4096x256.ReducesTo [0, 1, 2, 3] S_
  h_S_ : 0 < S_.numel

variable [Facts]

def fn {F : FTy → Type} [FloatOps F] (main_arg0 : FVec F S4x8x4096x256 .bf16) (main_arg1 : FVec F S4x8x4096x256 .bf16) (main_arg2 : FVec F S4x8x8x128x512 .bf16) : IVec S_ 1 :=
  let main_v0 : FVec F S4x8x4096x256 .f32 := (extf .f32 · bitsLt_bf16_f32) main_arg0
  let main_v1 : FVec F S4x8x4096x256 .f32 := Host.absf main_v0
  let main_v2 : FVec F S4x8x4096x256 .f32 := (extf .f32 · bitsLt_bf16_f32) main_arg1
  let main_v3 : FVec F S4x8x4096x256 .f32 := Host.absf main_v2
  let main_cst : FVec F S_ .f32 := constant S_ .f32 0x7F800000#32
  let main_v4 : FVec F S4x8x4096x256 .f32 := broadcastInDim S4x8x4096x256 ![] bcast_S_S4x8x4096x256 main_cst
  let main_v5 : IVec S4x8x4096x256 1 := cmpf .olt main_v1 main_v4
  let main_c : IVec S_ 1 := constantI S_ 1 1#1
  let main_v6 : IVec S_ 1 := (fun x v => Host.reduce IntOp.andi x v reducesTo_S4x8x4096x256_S_d0_1_2_3 h_S_) main_v5 main_c
  let main_cst_0 : FVec F S_ .f32 := constant S_ .f32 0x7F800000#32
  let main_v7 : FVec F S4x8x4096x256 .f32 := broadcastInDim S4x8x4096x256 ![] bcast_S_S4x8x4096x256 main_cst_0
  let main_v8 : IVec S4x8x4096x256 1 := cmpf .olt main_v3 main_v7
  let main_c_1 : IVec S_ 1 := constantI S_ 1 1#1
  let main_v9 : IVec S_ 1 := (fun x v => Host.reduce IntOp.andi x v reducesTo_S4x8x4096x256_S_d0_1_2_3 h_S_) main_v8 main_c_1
  let main_v10 : IVec S_ 1 := andi main_v6 main_v9
  main_v10
-- ==== Kernel.lean ====
abbrev S4x8x4096x256 : Shape := ⟨4, ![4, 8, 4096, 256]⟩
abbrev S4x8x8x128x512 : Shape := ⟨5, ![4, 8, 8, 128, 512]⟩
abbrev S4x4096x1024 : Shape := ⟨3, ![4, 4096, 1024]⟩
abbrev S1x4x512x256 : Shape := ⟨4, ![1, 4, 512, 256]⟩
abbrev S1x4x4096x256 : Shape := ⟨4, ![1, 4, 4096, 256]⟩
abbrev S1x4x8x128x512 : Shape := ⟨5, ![1, 4, 8, 128, 512]⟩
abbrev S1x512x512 : Shape := ⟨3, ![1, 512, 512]⟩
abbrev S1x512 : Shape := ⟨2, ![1, 512]⟩
abbrev S128x512 : Shape := ⟨2, ![128, 512]⟩
abbrev S1x1x512x256 : Shape := ⟨4, ![1, 1, 512, 256]⟩
abbrev S512x256 : Shape := ⟨2, ![512, 256]⟩
abbrev S512x512 : Shape := ⟨2, ![512, 512]⟩
abbrev S512 : Shape := ⟨1, ![512]⟩
abbrev S1x1x1x128x512 : Shape := ⟨5, ![1, 1, 1, 128, 512]⟩
abbrev S512x128 : Shape := ⟨2, ![512, 128]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x8x128x512, .bf16⟩
  | .hbm, ⟨3, _⟩ => ⟨S4x4096x1024, .f32⟩
  | .local _ .vmem, ⟨0, _⟩ => ⟨S1x4x512x256, .bf16⟩
  | .local _ .vmem, ⟨1, _⟩ => ⟨S1x4x512x256, .bf16⟩
  | .local _ .vmem, ⟨2, _⟩ => ⟨S1x4x4096x256, .bf16⟩
  | .local _ .vmem, ⟨3, _⟩ => ⟨S1x4x4096x256, .bf16⟩
  | .local _ .vmem, ⟨4, _⟩ => ⟨S1x4x8x128x512, .bf16⟩
  | .local _ .vmem, ⟨5, _⟩ => ⟨S1x4x8x128x512, .bf16⟩
  | .local _ .vmem, ⟨6, _⟩ => ⟨S1x512x512, .f32⟩
  | .local _ .vmem, ⟨7, _⟩ => ⟨S1x512x512, .f32⟩
  | _, _ => ⟨S4x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  ⟨c0_i32, v16, c1_i32_11⟩
def k0_mult1 (i : grid0.Coords) (k0_t1 : Fin (k0_t1_loop i).trips) : BitVec 32 :=
  let c0_i32 : BitVec 32 := 0#32
  let c1_i32_11 : BitVec 32 := 1#32
  let arg7 : BitVec 32 := Scf.iv c0_i32 c1_i32_11 k0_t1
  let c512_i32_82 : BitVec 32 := 512#32
  let v169 : BitVec 32 := Scalar.muli arg7 c512_i32_82
  v169
def k0_off1 (i : grid0.Coords) (k0_t1 : Fin (k0_t1_loop i).trips) : Fin 4 → Nat :=
  let c0_83 : Index := 0#32
  let c0_84 : Index := 0#32
  let c0_i32 : BitVec 32 := 0#32
  let c1_i32_11 : BitVec 32 := 1#32
  let arg7 : BitVec 32 := Scf.iv c0_i32 c1_i32_11 k0_t1
  let c512_i32_82 : BitVec 32 := 512#32
  let v169 : BitVec 32 := Scalar.muli arg7 c512_i32_82
  let v170 : BitVec 32 := v169
  let v171 : Index := Scalar.indexCast v170
  let c0_85 : Index := 0#32
  ![0, 0, v171.toNat, 0]
def k0_off2 (i : grid0.Coords) (k0_t1 : Fin (k0_t1_loop i).trips) : Fin 4 → Nat :=
  let c0_91 : Index := 0#32
  let c1_92 : Index := 1#32
  let c0_i32 : BitVec 32 := 0#32
  let c1_i32_11 : BitVec 32 := 1#32
  let arg7 : BitVec 32 := Scf.iv c0_i32 c1_i32_11 k0_t1
  let c512_i32_82 : BitVec 32 := 512#32
  let v169 : BitVec 32 := Scalar.muli arg7 c512_i32_82
  let v170 : BitVec 32 := v169
  let v177 : Index := Scalar.indexCast v170
  let c0_93 : Index := 0#32
  ![0, 1, v177.toNat, 0]
def k0_off3 (i : grid0.Coords) (k0_t1 : Fin (k0_t1_loop i).trips) : Fin 4 → Nat :=
  let c0_99 : Index := 0#32
  let c2_100 : Index := 2#32
  let c0_i32 : BitVec 32 := 0#32
  let c1_i32_11 : BitVec 32 := 1#32
  let arg7 : BitVec 32 := Scf.iv c0_i32 c1_i32_11 k0_t1
  let c512_i32_82 : BitVec 32 := 512#32
  let v169 : BitVec 32 := Scalar.muli arg7 c512_i32_82
  let v170 : BitVec 32 := v169
  let v183 : Index := Scalar.indexCast v170
  let c0_101 : Index := 0#32
  ![0, 2, v183.toNat, 0]
def k0_off4 (i : grid0.Coords) (k0_t1 : Fin (k0_t1_loop i).trips) : Fin 4 → Nat :=
  let c0_107 : Index := 0#32
  let c3_108 : Index := 3#32
  let c0_i32 : BitVec 32 := 0#32
  let c1_i32_11 : BitVec 32 := 1#32
  let arg7 : BitVec 32 := Scf.iv c0_i32 c1_i32_11 k0_t1
  let c512_i32_82 : BitVec 32 := 512#32
  let v169 : BitVec 32 := Scalar.muli arg7 c512_i32_82
  let v170 : BitVec 32 := v169
  let v189 : Index := Scalar.indexCast v170
  let c0_109 : Index := 0#32
  ![0, 3, v189.toNat, 0]
def k0_off5 (i : grid0.Coords) (k0_t1 : Fin (k0_t1_loop i).trips) : Fin 5 → Nat :=
  let c0_117 : Index := 0#32
  let c0_118 : Index := 0#32
  let c0_i32 : BitVec 32 := 0#32
  let c1_i32_11 : BitVec 32 := 1#32
  let arg7 : BitVec 32 := Scf.iv c0_i32 c1_i32_11 k0_t1
  let v209 : Index := Scalar.indexCast arg7
  let c0_119 : Index := 0#32
  let c0_120 : Index := 0#32
  ![0, 0, v209.toNat, 0, 0]
def k0_off6 (i : grid0.Coords) (k0_t1 : Fin (k0_t1_loop i).trips) : Fin 5 → Nat :=
  let c0_124 : Index := 0#32
  let c1_125 : Index := 1#32
  let c0_i32 : BitVec 32 := 0#32
  let c1_i32_11 : BitVec 32 := 1#32
  let arg7 : BitVec 32 := Scf.iv c0_i32 c1_i32_11 k0_t1
  let v229 : Index := Scalar.indexCast arg7
  let c0_126 : Index := 0#32
  let c0_127 : Index := 0#32
  ![0, 1, v229.toNat, 0, 0]
def k0_off7 (i : grid0.Coords) (k0_t1 : Fin (k0_t1_loop i).trips) : Fin 5 → Nat :=
  let c0_131 : Index := 0#32
  let c2_132 : Index := 2#32
  let c0_i32 : BitVec 32 := 0#32
  let c1_i32_11 : BitVec 32 := 1#32
  let arg7 : BitVec 32 := Scf.iv c0_i32 c1_i32_11 k0_t1
  let v249 : Index := Scalar.indexCast arg7
  let c0_133 : Index := 0#32
  let c0_134 : Index := 0#32
  ![0, 2, v249.toNat, 0, 0]
def k0_off8 (i : grid0.Coords) (k0_t1 : Fin (k0_t1_loop i).trips) : Fin 5 → Nat :=
  let c0_138 : Index := 0#32
  let c3_139 : Index := 3#32
  let c0_i32 : BitVec 32 := 0#32
  let c1_i32_11 : BitVec 32 := 1#32
  let arg7 : BitVec 32 := Scf.iv c0_i32 c1_i32_11 k0_t1
  let v269 : Index := Scalar.indexCast arg7
  let c0_140 : Index := 0#32
  let c0_141 : Index := 0#32
  ![0, 3, v269.toNat, 0, 0]
@[reducible] def k0_t2_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_12 : BitVec 32 := 1#32
  ⟨v16, v13, c1_i32_12⟩
def k0_mult2 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c512_i32_82 : BitVec 32 := 512#32
  let v169 : BitVec 32 := Scalar.muli arg7 c512_i32_82
  v169
def k0_off9 (i : grid0.Coords) (k0_t2 : Fin (k0_t2_loop i).trips) : Fin 4 → Nat :=
  let c0_83 : Index := 0#32
  let c0_84 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c512_i32_82 : BitVec 32 := 512#32
  let v169 : BitVec 32 := Scalar.muli arg7 c512_i32_82
  let v170 : BitVec 32 := v169
  let v171 : Index := Scalar.indexCast v170
  let c0_85 : Index := 0#32
  ![0, 0, v171.toNat, 0]
def k0_off10 (i : grid0.Coords) (k0_t2 : Fin (k0_t2_loop i).trips) : Fin 4 → Nat :=
  let c0_91 : Index := 0#32
  let c1_92 : Index := 1#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c512_i32_82 : BitVec 32 := 512#32
  let v169 : BitVec 32 := Scalar.muli arg7 c512_i32_82
  let v170 : BitVec 32 := v169
  let v177 : Index := Scalar.indexCast v170
  let c0_93 : Index := 0#32
  ![0, 1, v177.toNat, 0]
def k0_off11 (i : grid0.Coords) (k0_t2 : Fin (k0_t2_loop i).trips) : Fin 4 → Nat :=
  let c0_99 : Index := 0#32
  let c2_100 : Index := 2#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c512_i32_82 : BitVec 32 := 512#32
  let v169 : BitVec 32 := Scalar.muli arg7 c512_i32_82
  let v170 : BitVec 32 := v169
  let v183 : Index := Scalar.indexCast v170
  let c0_101 : Index := 0#32
  ![0, 2, v183.toNat, 0]
def k0_off12 (i : grid0.Coords) (k0_t2 : Fin (k0_t2_loop i).trips) : Fin 4 → Nat :=
  let c0_107 : Index := 0#32
  let c3_108 : Index := 3#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c512_i32_82 : BitVec 32 := 512#32
  let v169 : BitVec 32 := Scalar.muli arg7 c512_i32_82
  let v170 : BitVec 32 := v169
  let v189 : Index := Scalar.indexCast v170
  let c0_109 : Index := 0#32
  ![0, 3, v189.toNat, 0]
def k0_off13 (i : grid0.Coords) (k0_t2 : Fin (k0_t2_loop i).trips) : Fin 5 → Nat :=
  let c0_117 : Index := 0#32
  let c0_118 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let v209 : Index := Scalar.indexCast arg7
  let c0_119 : Index := 0#32
  let c0_120 : Index := 0#32
  ![0, 0, v209.toNat, 0, 0]
def k0_off14 (i : grid0.Coords) (k0_t2 : Fin (k0_t2_loop i).trips) : Fin 5 → Nat :=
  let c0_124 : Index := 0#32
  let c1_125 : Index := 1#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let v229 : Index := Scalar.indexCast arg7
  let c0_126 : Index := 0#32
  let c0_127 : Index := 0#32
  ![0, 1, v229.toNat, 0, 0]
def k0_off15 (i : grid0.Coords) (k0_t2 : Fin (k0_t2_loop i).trips) : Fin 5 → Nat :=
  let c0_131 : Index := 0#32
  let c2_132 : Index := 2#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let v249 : Index := Scalar.indexCast arg7
  let c0_133 : Index := 0#32
  let c0_134 : Index := 0#32
  ![0, 2, v249.toNat, 0, 0]
def k0_off16 (i : grid0.Coords) (k0_t2 : Fin (k0_t2_loop i).trips) : Fin 5 → Nat :=
  let c0_138 : Index := 0#32
  let c3_139 : Index := 3#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let v269 : Index := Scalar.indexCast arg7
  let c0_140 : Index := 0#32
  let c0_141 : Index := 0#32
  ![0, 3, v269.toNat, 0, 0]
def k0_mult3 (i : grid0.Coords) : BitVec 32 :=
  let arg2 : BitVec 32 := BitVec.ofNat 32 (i 2).val
  let c512_i32 : BitVec 32 := 512#32
  let v19 : BitVec 32 := Scalar.muli arg2 c512_i32
  v19
def k0_off17 (i : grid0.Coords) : Fin 4 → Nat :=
  let c0 : Index := 0#32
  let c0_13 : Index := 0#32
  let arg2 : BitVec 32 := BitVec.ofNat 32 (i 2).val
  let c512_i32 : BitVec 32 := 512#32
  let v19 : BitVec 32 := Scalar.muli arg2 c512_i32
  let v20 : BitVec 32 := v19
  let v21 : Index := Scalar.indexCast v20
  let c0_14 : Index := 0#32
  ![0, 0, v21.toNat, 0]
def k0_off18 (i : grid0.Coords) : Fin 4 → Nat :=
  let c0_20 : Index := 0#32
  let c1 : Index := 1#32
  let arg2 : BitVec 32 := BitVec.ofNat 32 (i 2).val
  let c512_i32 : BitVec 32 := 512#32
  let v19 : BitVec 32 := Scalar.muli arg2 c512_i32
  let v20 : BitVec 32 := v19
  let v27 : Index := Scalar.indexCast v20
  let c0_21 : Index := 0#32
  ![0, 1, v27.toNat, 0]
def k0_off19 (i : grid0.Coords) : Fin 4 → Nat :=
  let c0_27 : Index := 0#32
  let c2 : Index := 2#32
  let arg2 : BitVec 32 := BitVec.ofNat 32 (i 2).val
  let c512_i32 : BitVec 32 := 512#32
  let v19 : BitVec 32 := Scalar.muli arg2 c512_i32
  let v20 : BitVec 32 := v19
  let v33 : Index := Scalar.indexCast v20
  let c0_28 : Index := 0#32
  ![0, 2, v33.toNat, 0]
def k0_off20 (i : grid0.Coords) : Fin 4 → Nat :=
  let c0_34 : Index := 0#32
  let c3 : Index := 3#32
  let arg2 : BitVec 32 := BitVec.ofNat 32 (i 2).val
  let c512_i32 : BitVec 32 := 512#32
  let v19 : BitVec 32 := Scalar.muli arg2 c512_i32
  let v20 : BitVec 32 := v19
  let v39 : Index := Scalar.indexCast v20
  let c0_35 : Index := 0#32
  ![0, 3, v39.toNat, 0]
def k0_off21 (i : grid0.Coords) : Fin 5 → Nat :=
  let c0_44 : Index := 0#32
  let c0_45 : Index := 0#32
  let arg2 : BitVec 32 := BitVec.ofNat 32 (i 2).val
  let v64 : Index := Scalar.indexCast arg2
  let c0_46 : Index := 0#32
  let c0_47 : Index := 0#32
  ![0, 0, v64.toNat, 0, 0]
def k0_off22 (i : grid0.Coords) : Fin 5 → Nat :=
  let c0_52 : Index := 0#32
  let c1_53 : Index := 1#32
  let arg2 : BitVec 32 := BitVec.ofNat 32 (i 2).val
  let v89 : Index := Scalar.indexCast arg2
  let c0_54 : Index := 0#32
  let c0_55 : Index := 0#32
  ![0, 1, v89.toNat, 0, 0]
def k0_off23 (i : grid0.Coords) : Fin 5 → Nat :=
  let c0_60 : Index := 0#32
  let c2_61 : Index := 2#32
  let arg2 : BitVec 32 := BitVec.ofNat 32 (i 2).val
  let v114 : Index := Scalar.indexCast arg2
  let c0_62 : Index := 0#32
  let c0_63 : Index := 0#32
  ![0, 2, v114.toNat, 0, 0]
def k0_off24 (i : grid0.Coords) : Fin 5 → Nat :=
  let c0_68 : Index := 0#32
  let c3_69 : Index := 3#32
  let arg2 : BitVec 32 := BitVec.ofNat 32 (i 2).val
  let v139 : Index := Scalar.indexCast arg2
  let c0_70 : Index := 0#32
  let c0_71 : Index := 0#32
  ![0, 3, v139.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8x4096x256 : Shape := ⟨4, ![4, 8, 4096, 256]⟩
abbrev S4x8x8x128x512 : Shape := ⟨5, ![4, 8, 8, 128, 512]⟩
abbrev S4x8x8x512x128 : Shape := ⟨5, ![4, 8, 8, 512, 128]⟩
abbrev S4x8x4096x128 : Shape := ⟨4, ![4, 8, 4096, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S4x4096x8x128 : Shape := ⟨4, ![4, 4096, 8, 128]⟩
abbrev S4x4096x1024 : Shape := ⟨3, ![4, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8x4096x256, .bf16⟩
  | .hbm, ⟨1, _⟩ => ⟨S4x8x4096x256, .bf16⟩
  | .hbm, ⟨2, _⟩ => ⟨S4x8x8x128x512, .bf16⟩
  | .hbm, ⟨3, _⟩ => ⟨S4x8x4096x256, .f32⟩
  | .hbm, ⟨4, _⟩ => ⟨S4x8x4096x256, .f32⟩
  | .hbm, ⟨5, _⟩ => ⟨S4x8x8x128x512, .f32⟩
  | .hbm, ⟨6, _⟩ => ⟨S4x8x8x512x128, .f32⟩
  | .hbm, ⟨7, _⟩ => ⟨S4x8x4096x128, .f32⟩
  | .hbm, ⟨8, _⟩ => ⟨S4x8x4096x4096, .f32⟩
  | .hbm, ⟨9, _⟩ => ⟨S_, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S_, .f32⟩
  | .hbm, ⟨26, _⟩ => ⟨S4x8x4096, .f32⟩
  | .hbm, ⟨27, _⟩ => ⟨S_, .f32⟩
  | .hbm, ⟨28, _⟩ => ⟨S4x8x4096, .f32⟩
  | .hbm, ⟨29, _⟩ => ⟨S4x8x4096, .f32⟩
  | .hbm, ⟨30, _⟩ => ⟨S4x8x4096x1, .f32⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S_, .f32⟩
  | .hbm, ⟨35, _⟩ => ⟨S4x8x4096, .f32⟩
  | .hbm, ⟨36, _⟩ => ⟨S4x8x4096x1, .f32⟩
  | .hbm, ⟨37, _⟩ => ⟨S4x8x4096x4096, .f32⟩
  | .hbm, ⟨38, _⟩ => ⟨S4x8x4096x4096, .f32⟩
  | .hbm, ⟨39, _⟩ => ⟨S4x8x128x4096, .f32⟩
  | .hbm, ⟨40, _⟩ => ⟨S4x4096x8x128, .f32⟩
  | .hbm, ⟨41, _⟩ => ⟨S4x4096x1024, .f32⟩
  | _, _ => ⟨S4x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel2.lean ====
abbrev S16384x1024 : Shape := ⟨2, ![16384, 1024]⟩
abbrev S16384x2048 : Shape := ⟨2, ![16384, 2048]⟩
abbrev S2048 : Shape := ⟨1, ![2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .hbm, ⟨10, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S16384x2048 : Shape := ⟨2, ![16384, 2048]⟩
abbrev S2048 : Shape := ⟨1, ![2048]⟩
abbrev S2048x2048 : Shape := ⟨2, ![2048, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x4096 : Shape := ⟨2, ![4, 4096]⟩
abbrev S2048 : Shape := ⟨1, ![2048]⟩
abbrev S2048x2112 : Shape := ⟨2, ![2048, 2112]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S64 : Shape := ⟨1, ![64]⟩
abbrev S_ : Shape := ⟨0, ![]⟩
abbrev S2048x64 : Shape := ⟨2, ![2048, 64]⟩
abbrev S2048x128 : Shape := ⟨2, ![2048, 128]⟩
abbrev S2048x832 : Shape := ⟨2, ![2048, 832]⟩
abbrev S2048x1024 : Shape := ⟨2, ![2048, 1024]⟩
abbrev S2048x256 : Shape := ⟨2, ![2048, 256]⟩
abbrev S2048x2432 : Shape := ⟨2, ![2048, 2432]⟩
abbrev S512x8x192 : Shape := ⟨3, ![512, 8, 192]⟩
abbrev S512x8x256 : Shape := ⟨3, ![512, 8, 256]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S8x128x256 : Shape := ⟨3, ![8, 128, 256]⟩
abbrev S4x4096x1 : Shape := ⟨3, ![4, 4096, 1]⟩
abbrev S1x2048 : Shape := ⟨2, ![1, 2048]⟩
abbrev S1x512 : Shape := ⟨2, ![1, 512]⟩
abbrev S1x256 : Shape := ⟨2, ![1, 256]⟩
abbrev S1x192 : Shape := ⟨2, ![1, 192]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32 : Shape := ⟨1, ![32]⟩
abbrev S3x128 : Shape := ⟨2, ![3, 128]⟩
abbrev S8x128 : Shape := ⟨2, ![8, 128]⟩
abbrev S4x8x4096x256 : Shape := ⟨4, ![4, 8, 4096, 256]⟩
abbrev S4x8x8x128x512 : Shape := ⟨5, ![4, 8, 8, 128, 512]⟩
abbrev S4x4096x1024 : Shape := ⟨3, ![4, 4096, 1024]⟩
abbrev S4x4096x256 : Shape := ⟨3, ![4, 4096, 256]⟩
abbrev S1x512x2048 : Shape := ⟨3, ![1, 512, 2048]⟩
abbrev S1x512x1 : Shape := ⟨3, ![1, 512, 1]⟩
abbrev S1x8x512x256 : Shape := ⟨4, ![1, 8, 512, 256]⟩
abbrev S1x8x1x128x512 : Shape := ⟨5, ![1, 8, 1, 128, 512]⟩
abbrev S1x512x1024 : Shape := ⟨3, ![1, 512, 1024]⟩
abbrev S1x512x256 : Shape := ⟨3, ![1, 512, 256]⟩
abbrev S512x1 : Shape := ⟨2, ![512, 1]⟩
abbrev S512x2432 : Shape := ⟨2, ![512, 2432]⟩
abbrev S512x512 : Shape := ⟨2, ![512, 512]⟩
abbrev S512x256 : Shape := ⟨2, ![512, 256]⟩
abbrev S512x1024 : Shape := ⟨2, ![512, 1024]⟩
abbrev S1x128x256 : Shape := ⟨3, ![1, 128, 256]⟩
abbrev S128x256 : Shape := ⟨2, ![128, 256]⟩
abbrev S128x512 : Shape := ⟨2, ![128, 512]⟩
abbrev S1x1x1x128x512 : Shape := ⟨5, ![1, 1, 1, 128, 512]⟩
abbrev S512x128 : Shape := ⟨2, ![512, 128]⟩
abbrev S1x1x512x128 : Shape := ⟨4, ![1, 1, 512, 128]⟩
abbrev S1x512x128 : Shape := ⟨3, ![1, 512, 128]⟩

abbrev nBuf : Space → Nat
  | .hbm => 96
  | .vmem => 28
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S2048, .f32⟩
  | .hbm, ⟨3, _⟩ => ⟨S2048x2112, .f32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S192, .f32⟩
  | .hbm, ⟨9, _⟩ => ⟨S192, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S2048x64, .f32⟩
  | .hbm, ⟨14, _⟩ => ⟨S2048x128, .f32⟩
  | .hbm, ⟨15, _⟩ => ⟨S2048x128, .f32⟩
  | .hbm, ⟨16, _⟩ => ⟨S2048x832, .f32⟩
  | .hbm, ⟨17, _⟩ => ⟨S2048x1024, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x256, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x256, .f32⟩
  | .hbm, ⟨28, _⟩ => ⟨S2048x2432, .f32⟩
  | .hbm, ⟨29, _⟩ => ⟨S2048x2432, .bf16⟩
  | .hbm, ⟨30, _⟩ => ⟨S512x8x192, .f32⟩
  | .hbm, ⟨31, _⟩ => ⟨S_, .i32⟩
  | .hbm, ⟨32, _⟩ => ⟨S_, .f32⟩
  | .hbm, ⟨33, _⟩ => ⟨S512x8x256, .f32⟩
  | .hbm, ⟨34, _⟩ => ⟨S512x2048, .f32⟩
  | .hbm, ⟨35, _⟩ => ⟨S512x2048, .bf16⟩
  | .hbm, ⟨36, _⟩ => ⟨S256x8x256, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S256x8x128, .f32⟩
  | .hbm, ⟨41, _⟩ => ⟨S8x128x256, .f32⟩
  | .hbm, ⟨42, _⟩ => ⟨S8x128x256, .bf16⟩
  | .hbm, ⟨43, _⟩ => ⟨S4x4096x1, .i32⟩
  | .hbm, ⟨44, _⟩ => ⟨S1x2048, .f32⟩
  | .hbm, ⟨45, _⟩ => ⟨S1x512, .f32⟩
  | .hbm, ⟨46, _⟩ => ⟨S1x256, .f32⟩
  | .hbm, ⟨47, _⟩ => ⟨S1x192, .f32⟩
  | .hbm, ⟨48, _⟩ => ⟨S_, .i32⟩
  | .hbm, ⟨49, _⟩ => ⟨S_, .f32⟩
  | .hbm, ⟨50, _⟩ => ⟨S1x256, .f32⟩
  | .hbm, ⟨51, _⟩ => ⟨S1x192, .f32⟩
  | .hbm, ⟨52, _⟩ => ⟨S_, .i32⟩
  | .hbm, ⟨53, _⟩ => ⟨S_, .f32⟩
  | .hbm, ⟨54, _⟩ => ⟨S1x256, .f32⟩
  | .hbm, ⟨55, _⟩ => ⟨S1x64, .f32⟩
  | .hbm, ⟨56, _⟩ => ⟨S2x64, .f32⟩
  | .hbm, ⟨57, _⟩ => ⟨S128, .f32⟩
  | .hbm, ⟨58, _⟩ => ⟨S1x128, .f32⟩
  | .hbm, ⟨59, _⟩ => ⟨S1x64, .f32⟩
  | .hbm, ⟨60, _⟩ => ⟨S2x64, .f32⟩
  | .hbm, ⟨61, _⟩ => ⟨S128, .f32⟩
  | .hbm, ⟨62, _⟩ => ⟨S1x128, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S64, .f32⟩
  | .hbm, ⟨73, _⟩ => ⟨S128, .f32⟩
  | .hbm, ⟨74, _⟩ => ⟨S_, .f32⟩
  | .hbm, ⟨75, _⟩ => ⟨S64, .f32⟩
  | .hbm, ⟨76, _⟩ => ⟨S128, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S3x128, .f32⟩
  | .hbm, ⟨87, _⟩ => ⟨S_, .i32⟩
  | .hbm, ⟨88, _⟩ => ⟨S_, .f32⟩
  | .hbm, ⟨89, _⟩ => ⟨S8x128, .f32⟩
  | .hbm, ⟨90, _⟩ => ⟨S4x8x4096x256, .bf16⟩
  | .hbm, ⟨91, _⟩ => ⟨S4x8x4096x256, .bf16⟩
  | .hbm, ⟨92, _⟩ => ⟨S4x8x8x128x512, .bf16⟩
  | .hbm, ⟨93, _⟩ => ⟨S4x4096x1024, .bf16⟩
  | .hbm, ⟨94, _⟩ => ⟨S4x4096x256, .bf16⟩
  | .hbm, ⟨95, _⟩ => ⟨S4x4096x256, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x1, .i32⟩
  | .local _ .vmem, ⟨3, _⟩ => ⟨S1x512x1, .i32⟩
  | .local _ .vmem, ⟨4, _⟩ => ⟨S1x2048, .f32⟩
  | .local _ .vmem, ⟨5, _⟩ => ⟨S2048x2432, .bf16⟩
  | .local _ .vmem, ⟨6, _⟩ => ⟨S1x512, .f32⟩
  | .local _ .vmem, ⟨7, _⟩ => ⟨S512x2048, .bf16⟩
  | .local _ .vmem, ⟨8, _⟩ => ⟨S1x256, .f32⟩
  | .local _ .vmem, ⟨9, _⟩ => ⟨S256x1024, .bf16⟩
  | .local _ .vmem, ⟨10, _⟩ => ⟨S8x128x256, .bf16⟩
  | .local _ .vmem, ⟨11, _⟩ => ⟨S1x256, .f32⟩
  | .local _ .vmem, ⟨12, _⟩ => ⟨S1x256, .f32⟩
  | .local _ .vmem, ⟨13, _⟩ => ⟨S1x128, .f32⟩
  | .local _ .vmem, ⟨14, _⟩ => ⟨S1x128, .f32⟩
  | .local _ .vmem, ⟨15, _⟩ => ⟨S8x128, .f32⟩
  | .local _ .vmem, ⟨16, _⟩ => ⟨S1x8x512x256, .bf16⟩
  | .local _ .vmem, ⟨17, _⟩ => ⟨S1x8x512x256, .bf16⟩
  | .local _ .vmem, ⟨18, _⟩ => ⟨S1x8x512x256, .bf16⟩
  | .local _ .vmem, ⟨19, _⟩ => ⟨S1x8x512x256, .bf16⟩
  | .local _ .vmem, ⟨20, _⟩ => ⟨S1x8x1x128x512, .bf16⟩
  | .local _ .vmem, ⟨21, _⟩ => ⟨S1x8x1x128x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_0 : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_c_1 : Ref sig .tc := ⟨.hbm, 52, rfl⟩
abbrev main_call2_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_8 : Ref sig .tc := ⟨.hbm, 87, rfl⟩
abbrev main_call3_v0 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev main_v63_2 : Ref sig .tc := ⟨.hbm, 92, rfl⟩
abbrev main_v63_3 : Ref sig .tc := ⟨.hbm, 93, rfl⟩
abbrev main_v63_4 : Ref sig .tc := ⟨.hbm, 94, rfl⟩
abbrev main_v63_5 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![arg0.toNat, c0_i32_11.toNat, v16.toNat, c0_i32_12.toNat, v26.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Kernel3Ideal.lean ====
variable {F : FTy → Type} [FloatOps F] [Named F]
def κ : String → Option EReal := fun
  | "inv_qk" => some ((1 / 192 : ℝ) : EReal)
  | _ => none
-- ==== Reference3Ideal.lean ====
abbrev S4x4096x2048 : Shape := ⟨3, ![4, 4096, 2048]⟩
abbrev S4x4096 : Shape := ⟨2, ![4, 4096]⟩
abbrev S2048 : Shape := ⟨1, ![2048]⟩
abbrev S2048x2112 : Shape := ⟨2, ![2048, 2112]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S64 : Shape := ⟨1, ![64]⟩
abbrev S_ : Shape := ⟨0, ![]⟩
abbrev S4x4096x1 : Shape := ⟨3, ![4, 4096, 1]⟩
abbrev S1x1x2048 : Shape := ⟨3, ![1, 1, 2048]⟩
abbrev S4x4096x2112 : Shape := ⟨3, ![4, 4096, 2112]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x1024 : Shape := ⟨3, ![4, 4096, 1024]⟩
abbrev S4x4096x128 : Shape := ⟨3, ![4, 4096, 128]⟩
abbrev S1x1x512 : Shape := ⟨3, ![1, 1, 512]⟩
abbrev S4x4096x1536 : Shape := ⟨3, ![4, 4096, 1536]⟩
abbrev S4x4096x8x192 : Shape := ⟨4, ![4, 4096, 8, 192]⟩
abbrev S1x1x256 : Shape := ⟨3, ![1, 1, 256]⟩
abbrev S4x4096x8x256 : Shape := ⟨4, ![4, 4096, 8, 256]⟩
abbrev S4x4096x8x128 : Shape := ⟨4, ![4, 4096, 8, 128]⟩
abbrev S4x4096x1x64 : Shape := ⟨4, ![4, 4096, 1, 64]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x192 : Shape := ⟨4, ![1, 1, 1, 192]⟩
abbrev S32 : Shape := ⟨1, ![32]⟩
abbrev S4x4096x1x1 : Shape := ⟨4, ![4, 4096, 1, 1]⟩
abbrev S1x1x1x32 : Shape := ⟨4, ![1, 1, 1, 32]⟩
abbrev S4x4096x1x32 : Shape := ⟨4, ![4, 4096, 1, 32]⟩
abbrev S4x4096x8x32 : Shape := ⟨4, ![4, 4096, 8, 32]⟩
abbrev S4x8x512x8x128 : Shape := ⟨5, ![4, 8, 512, 8, 128]⟩
abbrev S4x8x8x128x512 : Shape := ⟨5, ![4, 8, 8, 128, 512]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x8x4096x192 : Shape := ⟨4, ![4, 8, 4096, 192]⟩
abbrev S4x8x4096x256 : Shape := ⟨4, ![4, 8, 4096, 256]⟩
abbrev S4x4096x2x128 : Shape := ⟨4, ![4, 4096, 2, 128]⟩

abbrev nBuf : Space → Nat
  | .hbm => 234
  | .vmem => 0
  | .smem => 0
  | _ => 0

abbrev hbmTy0_0 (i : Nat) : BufTy := match i % 128 with
  | 0 => ⟨S4x4096x2048, .f32⟩
  | 1 => ⟨S4x4096, .i32⟩
  | 2 => ⟨S2048, .f32⟩
  | 3 => ⟨S2048x2112, .f32⟩
  | 4 => ⟨S512, .f32⟩
  | 5 => ⟨S512x1536, .f32⟩
  | 6 => ⟨S256, .f32⟩
  | 7 => ⟨S256x2048, .f32⟩
  | 8 => ⟨S192, .f32⟩
  | 9 => ⟨S192, .f32⟩
  | 10 => ⟨S64, .f32⟩
  | 11 => ⟨S64, .f32⟩
  | 12 => ⟨S4x4096x2048, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x2048, .f32⟩
  | 24 => ⟨S4x4096x2048, .f32⟩
  | 25 => ⟨S1x1x2048, .f32⟩
  | 26 => ⟨S4x4096x2048, .f32⟩
  | 27 => ⟨S4x4096x2048, .f32⟩
  | 28 => ⟨S4x4096x2112, .f32⟩
  | 29 => ⟨S4x4096x512, .f32⟩
  | 30 => ⟨S4x4096x256, .f32⟩
  | 31 => ⟨S4x4096x64, .f32⟩
  | 32 => ⟨S4x4096x1024, .f32⟩
  | 33 => ⟨S4x4096x128, .f32⟩
  | 34 => ⟨S4x4096x128, .f32⟩
  | 35 => ⟨S4x4096x512, .f32⟩
  | 36 => ⟨S_, .f32⟩
  | 37 => ⟨S4x4096, .f32⟩
  | 38 => ⟨S4x4096x1, .f32⟩
  | 39 => ⟨S_, .f32⟩
  | 40 => ⟨S4x4096x1, .f32⟩
  | 41 => ⟨S4x4096x1, .f32⟩
  | 42 => ⟨S_, .f32⟩
  | 43 => ⟨S4x4096x1, .f32⟩
  | 44 => ⟨S4x4096x1, .f32⟩
  | 45 => ⟨S4x4096x1, .f32⟩
  | 46 => ⟨S4x4096x512, .f32⟩
  | 47 => ⟨S4x4096x512, .f32⟩
  | 48 => ⟨S1x1x512, .f32⟩
  | 49 => ⟨S4x4096x512, .f32⟩
  | 50 => ⟨S4x4096x512, .f32⟩
  | 51 => ⟨S4x4096x1536, .f32⟩
  | 52 => ⟨S4x4096x8x192, .f32⟩
  | 53 => ⟨S4x4096x256, .f32⟩
  | 54 => ⟨S_, .f32⟩
  | 55 => ⟨S4x4096, .f32⟩
  | 56 => ⟨S4x4096x1, .f32⟩
  | 57 => ⟨S_, .f32⟩
  | 58 => ⟨S4x4096x1, .f32⟩
  | 59 => ⟨S4x4096x1, .f32⟩
  | 60 => ⟨S_, .f32⟩
  | 61 => ⟨S4x4096x1, .f32⟩
  | 62 => ⟨S4x4096x1, .f32⟩
  | 63 => ⟨S4x4096x1, .f32⟩
  | 64 => ⟨S4x4096x256, .f32⟩
  | 65 => ⟨S4x4096x256, .f32⟩
  | 66 => ⟨S1x1x256, .f32⟩
  | 67 => ⟨S4x4096x256, .f32⟩
  | 68 => ⟨S4x4096x256, .f32⟩
  | 69 => ⟨S4x4096x2048, .f32⟩
  | 70 => ⟨S4x4096x8x256, .f32⟩
  | 71 => ⟨S4x4096x8x128, .f32⟩
  | 72 => ⟨S4x4096x1x64, .f32⟩
  | 73 => ⟨S4x4096x8x64, .f32⟩
  | 74 => ⟨S4x4096x8x192, .f32⟩
  | 75 => ⟨S4x4096x8x128, .f32⟩
  | 76 => ⟨S4x4096x8x192, .f32⟩
  | 77 => ⟨S_, .f32⟩
  | 78 => ⟨S4x4096x8, .f32⟩
  | 79 => ⟨S4x4096x8x1, .f32⟩
  | 80 => ⟨S_, .f32⟩
  | 81 => ⟨S4x4096x8x1, .f32⟩
  | 82 => ⟨S4x4096x8x1, .f32⟩
  | 83 => ⟨S_, .f32⟩
  | 84 => ⟨S4x4096x8x1, .f32⟩
  | 85 => ⟨S4x4096x8x1, .f32⟩
  | 86 => ⟨S4x4096x8x1, .f32⟩
  | 87 => ⟨S4x4096x8x192, .f32⟩
  | 88 => ⟨S4x4096x8x192, .f32⟩
  | 89 => ⟨S1x1x1x192, .f32⟩
  | 90 => ⟨S4x4096x8x192, .f32⟩
  | 91 => ⟨S4x4096x8x192, .f32⟩
  | 92 => ⟨S4x4096x8x192, .f32⟩
  | 93 => ⟨S_, .f32⟩
  | 94 => ⟨S4x4096x8, .f32⟩
  | 95 => ⟨S4x4096x8x1, .f32⟩
  | 96 => ⟨S_, .f32⟩
  | 97 => ⟨S4x4096x8x1, .f32⟩
  | 98 => ⟨S4x4096x8x1, .f32⟩
  | 99 => ⟨S_, .f32⟩
  | 100 => ⟨S4x4096x8x1, .f32⟩
  | 101 => ⟨S4x4096x8x1, .f32⟩
  | 102 => ⟨S4x4096x8x1, .f32⟩
  | 103 => ⟨S4x4096x8x192, .f32⟩
  | 104 => ⟨S4x4096x8x192, .f32⟩
  | 105 => ⟨S1x1x1x192, .f32⟩
  | 106 => ⟨S4x4096x8x192, .f32⟩
  | 107 => ⟨S4x4096x8x192, .f32⟩
  | 108 => ⟨S4x4096x8x128, .f32⟩
  | 109 => ⟨S4x4096x8x64, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S4x4096, .f32⟩
  | 119 => ⟨S4x4096x1x1, .f32⟩
  | 120 => ⟨S1x1x1x32, .f32⟩
  | 121 => ⟨S4x4096x1x32, .f32⟩
  | 122 => ⟨S4x4096x1x32, .f32⟩
  | 123 => ⟨S4x4096x1x32, .f32⟩
  | 124 => ⟨S4x4096x1x32, .f32⟩
  | 125 => ⟨S4x4096x1x32, .f32⟩
  | 126 => ⟨S4x4096x8x32, .f32⟩
  | 127 => ⟨S4x4096x8x32, .f32⟩
  | _ => ⟨S4x4096x2048, .f32⟩

abbrev hbmTy0_1 (i : Nat) : BufTy := match i % 128 with
  | 0 => ⟨S4x4096x8x32, .f32⟩
  | 1 => ⟨S4x4096x8x32, .f32⟩
  | 2 => ⟨S4x4096x8x32, .f32⟩
  | 3 => ⟨S4x4096x8x32, .f32⟩
  | 4 => ⟨S4x4096x8x32, .f32⟩
  | 5 => ⟨S4x4096x8x32, .f32⟩
  | 6 => ⟨S4x4096x8x32, .f32⟩
  | 7 => ⟨S4x4096x8x32, .f32⟩
  | 8 => ⟨S4x4096x8x32, .f32⟩
  | 9 => ⟨S4x4096x8x32, .f32⟩
  | 10 => ⟨S4x4096x8x64, .f32⟩
  | 11 => ⟨S4x4096x8x192, .f32⟩
  | 12 => ⟨S4x4096x8x128, .f32⟩
  | 13 => ⟨S4x4096x8x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4x4096, .f32⟩
  | 23 => ⟨S4x4096x1x1, .f32⟩
  | 24 => ⟨S1x1x1x32, .f32⟩
  | 25 => ⟨S4x4096x1x32, .f32⟩
  | 26 => ⟨S4x4096x1x32, .f32⟩
  | 27 => ⟨S4x4096x1x32, .f32⟩
  | 28 => ⟨S4x4096x1x32, .f32⟩
  | 29 => ⟨S4x4096x1x32, .f32⟩
  | 30 => ⟨S4x4096x8x32, .f32⟩
  | 31 => ⟨S4x4096x8x32, .f32⟩
  | 32 => ⟨S4x4096x8x32, .f32⟩
  | 33 => ⟨S4x4096x8x32, .f32⟩
  | 34 => ⟨S4x4096x8x32, .f32⟩
  | 35 => ⟨S4x4096x8x32, .f32⟩
  | 36 => ⟨S4x4096x8x32, .f32⟩
  | 37 => ⟨S4x4096x8x32, .f32⟩
  | 38 => ⟨S4x4096x8x32, .f32⟩
  | 39 => ⟨S4x4096x8x32, .f32⟩
  | 40 => ⟨S4x4096x8x32, .f32⟩
  | 41 => ⟨S4x4096x8x32, .f32⟩
  | 42 => ⟨S4x4096x8x64, .f32⟩
  | 43 => ⟨S4x4096x8x192, .f32⟩
  | 44 => ⟨S4x8x512x8x128, .f32⟩
  | 45 => ⟨S4x8x8x128x512, .f32⟩
  | 46 => ⟨S4x8x8x128x512, .bf16⟩
  | 47 => ⟨S4x4096x16x64, .f32⟩
  | 48 => ⟨S4x4096x16x64, .f32⟩
  | 49 => ⟨S_, .f32⟩
  | 50 => ⟨S4x4096x16, .f32⟩
  | 51 => ⟨S4x4096x16x1, .f32⟩
  | 52 => ⟨S_, .f32⟩
  | 53 => ⟨S4x4096x16x1, .f32⟩
  | 54 => ⟨S4x4096x16x1, .f32⟩
  | 55 => ⟨S_, .f32⟩
  | 56 => ⟨S4x4096x16x1, .f32⟩
  | 57 => ⟨S4x4096x16x1, .f32⟩
  | 58 => ⟨S4x4096x16x1, .f32⟩
  | 59 => ⟨S4x4096x16x64, .f32⟩
  | 60 => ⟨S4x4096x16x64, .f32⟩
  | 61 => ⟨S1x1x1x64, .f32⟩
  | 62 => ⟨S4x4096x16x64, .f32⟩
  | 63 => ⟨S4x4096x16x64, .f32⟩
  | 64 => ⟨S_, .f32⟩
  | 65 => ⟨S4x4096x16x64, .f32⟩
  | 66 => ⟨S4x4096x16x64, .f32⟩
  | 67 => ⟨S4x4096x2x64, .f32⟩
  | 68 => ⟨S4x4096x2x64, .f32⟩
  | 69 => ⟨S_, .f32⟩
  | 70 => ⟨S4x4096x2, .f32⟩
  | 71 => ⟨S4x4096x2x1, .f32⟩
  | 72 => ⟨S_, .f32⟩
  | 73 => ⟨S4x4096x2x1, .f32⟩
  | 74 => ⟨S4x4096x2x1, .f32⟩
  | 75 => ⟨S_, .f32⟩
  | 76 => ⟨S4x4096x2x1, .f32⟩
  | 77 => ⟨S4x4096x2x1, .f32⟩
  | 78 => ⟨S4x4096x2x1, .f32⟩
  | 79 => ⟨S4x4096x2x64, .f32⟩
  | 80 => ⟨S4x4096x2x64, .f32⟩
  | 81 => ⟨S1x1x1x64, .f32⟩
  | 82 => ⟨S4x4096x2x64, .f32⟩
  | 83 => ⟨S4x4096x2x64, .f32⟩
  | 84 => ⟨S4x4096x2x64, .f32⟩
  | 85 => ⟨S_, .f32⟩
  | 86 => ⟨S4x4096x8x192, .f32⟩
  | 87 => ⟨S4x4096x8x192, .f32⟩
  | 88 => ⟨S4x8x4096x192, .f32⟩
  | 89 => ⟨S_, .i32⟩
  | 90 => ⟨S_, .f32⟩
  | 91 => ⟨S4x8x4096x256, .f32⟩
  | 92 => ⟨S4x8x4096x256, .bf16⟩
  | 93 => ⟨S4x8x4096x192, .f32⟩
  | 94 => ⟨S_, .i32⟩
  | 95 => ⟨S_, .f32⟩
  | 96 => ⟨S4x8x4096x256, .f32⟩
  | 97 => ⟨S4x8x4096x256, .bf16⟩
  | 98 => ⟨S4x4096x1024, .f32⟩
  | 99 => ⟨S4x4096x1024, .bf16⟩
  | 100 => ⟨S4x4096x2x128, .f32⟩
  | 101 => ⟨S4x4096x256, .f32⟩
  | 102 => ⟨S4x4096x256, .bf16⟩
  | 103 => ⟨S4x4096x2x128, .f32⟩
  | 104 => ⟨S4x4096x256, .f32⟩
  | 105 => ⟨S4x4096x256, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_16 : Ref sig .tc := ⟨.hbm, 144, rfl⟩
abbrev main_v115 : Ref sig .tc := ⟨.hbm, 145, rfl⟩
abbrev main_v116 : Ref sig .tc := ⟨.hbm, 146, rfl⟩
abbrev main_cst_17 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_18 : Ref sig .tc := ⟨.hbm, 177, rfl⟩
abbrev main_v146 : Ref sig .tc := ⟨.hbm, 178, rfl⟩
abbrev main_v147 : Ref sig .tc := ⟨.hbm, 179, rfl⟩
abbrev main_cst_19 : Ref sig .tc := ⟨.hbm, 180, rfl⟩
abbrev main_v148 : Ref sig .tc := ⟨.hbm, 181, rfl⟩
abbrev main_v149 : Ref sig .tc := ⟨.hbm, 182, rfl⟩
abbrev main_cst_20 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_21 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_22 : Ref sig .tc := ⟨.hbm, 197, rfl⟩
abbrev main_v162 : Ref sig .tc := ⟨.hbm, 198, rfl⟩
abbrev main_v163 : Ref sig .tc := ⟨.hbm, 199, rfl⟩
abbrev main_cst_23 : Ref sig .tc := ⟨.hbm, 200, rfl⟩
abbrev main_v164 : Ref sig .tc := ⟨.hbm, 201, rfl⟩
abbrev main_v165 : Ref sig .tc := ⟨.hbm, 202, rfl⟩
abbrev main_cst_24 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_cst_25 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_c : Ref sig .tc := ⟨.hbm, 217, rfl⟩
abbrev main_call0_v0 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_c_26 : Ref sig .tc := ⟨.hbm, 222, rfl⟩
abbrev main_call1_v0 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩

abbrev nD : Nat := 1
abbrev τ : Topo := Topo.v7x

variable {F : FTy → Type} [FloatOps F]
-- ==== Kernel4.lean ====
abbrev S16 : Shape := ⟨1, ![16]⟩
abbrev S4x4096x1024 : Shape := ⟨3, ![4, 4096, 1024]⟩
abbrev S4x4096x256 : Shape := ⟨3, ![4, 4096, 256]⟩
abbrev S4x4096 : Shape := ⟨2, ![4, 4096]⟩
abbrev S32x16 : Shape := ⟨2, ![32, 16]⟩
abbrev S16x32 : Shape := ⟨2, ![16, 32]⟩
abbrev S_ : Shape := ⟨0, ![]⟩
abbrev S16x128 : Shape := ⟨2, ![16, 128]⟩
abbrev S4x4096x1 : Shape := ⟨3, ![4, 4096, 1]⟩
abbrev S4x1x4096 : Shape := ⟨3, ![4, 1, 4096]⟩
abbrev S1x128x1024 : Shape := ⟨3, ![1, 128, 1024]⟩
abbrev S1x128x256 : Shape := ⟨3, ![1, 128, 256]⟩
abbrev S1x128x1 : Shape := ⟨3, ![1, 128, 1]⟩
abbrev S1x1x128 : Shape := ⟨3, ![1, 1, 128]⟩
abbrev S128x256 : Shape := ⟨2, ![128, 256]⟩
abbrev S256x256 : Shape := ⟨2, ![256, 256]⟩
abbrev S128x1 : Shape := ⟨2, ![128, 1]⟩
abbrev S256x1 : Shape := ⟨2, ![256, 1]⟩
abbrev S1x128 : Shape := ⟨2, ![1, 128]⟩
abbrev S256x128 : Shape := ⟨2, ![256, 128]⟩
abbrev S1x128x128 : Shape := ⟨3, ![1, 128, 128]⟩
abbrev S128x128 : Shape := ⟨2, ![128, 128]⟩
abbrev S512x128 : Shape := ⟨2, ![512, 128]⟩
abbrev S256x512 : Shape := ⟨2, ![256, 512]⟩
abbrev S256x128x1 : Shape := ⟨3, ![256, 128, 1]⟩
abbrev S1 : Shape := ⟨1, ![1]⟩
abbrev S128 : Shape := ⟨1, ![128]⟩
abbrev S128x512 : Shape := ⟨2, ![128, 512]⟩
abbrev S1x512 : Shape := ⟨2, ![1, 512]⟩
abbrev S128x1024 : Shape := ⟨2, ![128, 1024]⟩

abbrev nBuf : Space → Nat
  | .hbm => 13
  | .vmem => 19
  | .smem => 1
  | _ => 0

abbrev bufTy : (tb : Table) → Fin (tcTables nBuf tb) → BufTy
  | .hbm, ⟨0, _⟩ => ⟨S16, .f32⟩
  | .hbm, ⟨1, _⟩ => ⟨S4x4096x1024, .bf16⟩
  | .hbm, ⟨2, _⟩ => ⟨S4x4096x256, .bf16⟩
  | .hbm, ⟨3, _⟩ => ⟨S4x4096x256, .bf16⟩
  | .hbm, ⟨4, _⟩ => ⟨S4x4096, .i32⟩
  | .hbm, ⟨5, _⟩ => ⟨S32x16, .f32⟩
  | .hbm, ⟨6, _⟩ => ⟨S16x32, .f32⟩
  | .hbm, ⟨7, _⟩ => ⟨S_, .i32⟩
  | .hbm, ⟨8, _⟩ => ⟨S_, .f32⟩
  | .hbm, ⟨9, _⟩ => ⟨S16x128, .f32⟩
  | .hbm, ⟨10, _⟩ => ⟨S4x4096x1, .i32⟩
  | .hbm, ⟨11, _⟩ => ⟨S4x1x4096, .i32⟩
  | .hbm, ⟨12, _⟩ => ⟨S4x4096x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x1, .i32⟩
  | .local _ .vmem, ⟨11, _⟩ => ⟨S1x128x1, .i32⟩
  | .local _ .vmem, ⟨12, _⟩ => ⟨S1x128x1, .i32⟩
  | .local _ .vmem, ⟨13, _⟩ => ⟨S1x128x1, .i32⟩
  | .local _ .vmem, ⟨14, _⟩ => ⟨S1x1x128, .i32⟩
  | .local _ .vmem, ⟨15, _⟩ => ⟨S1x1x128, .i32⟩
  | .local _ .vmem, ⟨16, _⟩ => ⟨S16x128, .f32⟩
  | .local _ .vmem, ⟨17, _⟩ => ⟨S1x128x1024, .f32⟩
  | .local _ .vmem, ⟨18, _⟩ => ⟨S1x128x1024, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S16 : Shape := ⟨1, ![16]⟩
abbrev S4x4096x1024 : Shape := ⟨3, ![4, 4096, 1024]⟩
abbrev S4x4096x256 : Shape := ⟨3, ![4, 4096, 256]⟩
abbrev S4x4096 : Shape := ⟨2, ![4, 4096]⟩
abbrev S32x16 : Shape := ⟨2, ![32, 16]⟩
abbrev S4x4096x2x4x2x64 : Shape := ⟨6, ![4, 4096, 2, 4, 2, 64]⟩
abbrev S4x4096x2x2x64 : Shape := ⟨5, ![4, 4096, 2, 2, 64]⟩
abbrev S4x2x2x4096x4096x4 : Shape := ⟨6, ![4, 2, 2, 4096, 4096, 4]⟩
abbrev S4x2x4x2x4096x4096 : Shape := ⟨6, ![4, 2, 4, 2, 4096, 4096]⟩
abbrev S4x16x4096x4096 : Shape := ⟨4, ![4, 16, 4096, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S_ : Shape := ⟨0, ![]⟩
abbrev S4x4096x4096x1 : Shape := ⟨4, ![4, 4096, 4096, 1]⟩
abbrev S4x4096x4096x16 : Shape := ⟨4, ![4, 4096, 4096, 16]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S1x16x1x1 : Shape := ⟨4, ![1, 16, 1, 1]⟩
abbrev S4x16x4096x1 : Shape := ⟨4, ![4, 16, 4096, 1]⟩
abbrev S4x16x4096x4097 : Shape := ⟨4, ![4, 16, 4096, 4097]⟩
abbrev S4x16x4096 : Shape := ⟨3, ![4, 16, 4096]⟩
abbrev S4x2x2x64x4x4096 : Shape := ⟨6, ![4, 2, 2, 64, 4, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16, .f32⟩
  | .hbm, ⟨1, _⟩ => ⟨S4x4096x1024, .bf16⟩
  | .hbm, ⟨2, _⟩ => ⟨S4x4096x256, .bf16⟩
  | .hbm, ⟨3, _⟩ => ⟨S4x4096x256, .bf16⟩
  | .hbm, ⟨4, _⟩ => ⟨S4x4096, .i32⟩
  | .hbm, ⟨5, _⟩ => ⟨S32x16, .f32⟩
  | .hbm, ⟨6, _⟩ => ⟨S4x4096x1024, .f32⟩
  | .hbm, ⟨7, _⟩ => ⟨S4x4096x2x4x2x64, .f32⟩
  | .hbm, ⟨8, _⟩ => ⟨S4x4096x256, .f32⟩
  | .hbm, ⟨9, _⟩ => ⟨S4x4096x2x2x64, .f32⟩
  | .hbm, ⟨10, _⟩ => ⟨S4x4096x256, .f32⟩
  | .hbm, ⟨11, _⟩ => ⟨S4x4096x2x2x64, .f32⟩
  | .hbm, ⟨12, _⟩ => ⟨S4x2x2x4096x4096x4, .f32⟩
  | .hbm, ⟨13, _⟩ => ⟨S4x2x4x2x4096x4096, .f32⟩
  | .hbm, ⟨14, _⟩ => ⟨S4x16x4096x4096, .f32⟩
  | .hbm, ⟨15, _⟩ => ⟨S4x4096x1, .i32⟩
  | .hbm, ⟨16, _⟩ => ⟨S4x1x4096, .i32⟩
  | .hbm, ⟨17, _⟩ => ⟨S4x4096x4096, .i32⟩
  | .hbm, ⟨18, _⟩ => ⟨S4x4096x4096, .i32⟩
  | .hbm, ⟨19, _⟩ => ⟨S4x4096x4096, .i32⟩
  | .hbm, ⟨20, _⟩ => ⟨S_, .i32⟩
  | .hbm, ⟨21, _⟩ => ⟨S4x4096x4096, .i32⟩
  | .hbm, ⟨22, _⟩ => ⟨S4x4096x4096, .i32⟩
  | .hbm, ⟨23, _⟩ => ⟨S_, .i32⟩
  | .hbm, ⟨24, _⟩ => ⟨S4x4096x4096, .i32⟩
  | .hbm, ⟨25, _⟩ => ⟨S4x4096x4096, .i32⟩
  | .hbm, ⟨26, _⟩ => ⟨S4x4096x4096, .f32⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S4x4096x4096, .i32⟩
  | .hbm, ⟨38, _⟩ => ⟨S_, .i32⟩
  | .hbm, ⟨39, _⟩ => ⟨S4x4096x4096, .i32⟩
  | .hbm, ⟨40, _⟩ => ⟨S4x4096x4096, .i32⟩
  | .hbm, ⟨41, _⟩ => ⟨S_, .i32⟩
  | .hbm, ⟨42, _⟩ => ⟨S4x4096x4096, .i32⟩
  | .hbm, ⟨43, _⟩ => ⟨S4x4096x4096, .i32⟩
  | .hbm, ⟨44, _⟩ => ⟨S_, .i32⟩
  | .hbm, ⟨45, _⟩ => ⟨S4x4096x4096, .i32⟩
  | .hbm, ⟨46, _⟩ => ⟨S4x4096x4096, .i1⟩
  | .hbm, ⟨47, _⟩ => ⟨S4x4096x4096, .i32⟩
  | .hbm, ⟨48, _⟩ => ⟨S_, .i32⟩
  | .hbm, ⟨49, _⟩ => ⟨S4x4096x4096, .i32⟩
  | .hbm, ⟨50, _⟩ => ⟨S4x4096x4096, .i1⟩
  | .hbm, ⟨51, _⟩ => ⟨S_, .i32⟩
  | .hbm, ⟨52, _⟩ => ⟨S4x4096x4096, .i32⟩
  | .hbm, ⟨53, _⟩ => ⟨S4x4096x4096, .i32⟩
  | .hbm, ⟨54, _⟩ => ⟨S4x4096x4096, .i32⟩
  | .hbm, ⟨55, _⟩ => ⟨S4x4096x4096x1, .i32⟩
  | .hbm, ⟨56, _⟩ => ⟨S4x4096x4096x16, .f32⟩
  | .hbm, ⟨57, _⟩ => ⟨S4x16x4096x4096, .f32⟩
  | .hbm, ⟨58, _⟩ => ⟨S4x16x4096x4096, .f32⟩
  | .hbm, ⟨59, _⟩ => ⟨S4096, .i32⟩
  | .hbm, ⟨60, _⟩ => ⟨S4096x1, .i32⟩
  | .hbm, ⟨61, _⟩ => ⟨S1x4096, .i32⟩
  | .hbm, ⟨62, _⟩ => ⟨S4096x4096, .i32⟩
  | .hbm, ⟨63, _⟩ => ⟨S4096x4096, .i32⟩
  | .hbm, ⟨64, _⟩ => ⟨S4096x4096, .i32⟩
  | .hbm, ⟨65, _⟩ => ⟨S_, .i32⟩
  | .hbm, ⟨66, _⟩ => ⟨S4096x4096, .i32⟩
  | .hbm, ⟨67, _⟩ => ⟨S4096x4096, .i1⟩
  | .hbm, ⟨68, _⟩ => ⟨S_, .i32⟩
  | .hbm, ⟨69, _⟩ => ⟨S4096x4096, .i32⟩
  | .hbm, ⟨70, _⟩ => ⟨S4096x4096, .i1⟩
  | .hbm, ⟨71, _⟩ => ⟨S4096x4096, .i1⟩
  | .hbm, ⟨72, _⟩ => ⟨S1x1x4096x4096, .i1⟩
  | .hbm, ⟨73, _⟩ => ⟨S_, .f32⟩
  | .hbm, ⟨74, _⟩ => ⟨S_, .f32⟩
  | .hbm, ⟨75, _⟩ => ⟨S4x16x4096x4096, .i1⟩
  | .hbm, ⟨76, _⟩ => ⟨S4x16x4096x4096, .f32⟩
  | .hbm, ⟨77, _⟩ => ⟨S4x16x4096x4096, .f32⟩
  | .hbm, ⟨78, _⟩ => ⟨S1x16x1x1, .f32⟩
  | .hbm, ⟨79, _⟩ => ⟨S4x16x4096x1, .f32⟩
  | .hbm, ⟨80, _⟩ => ⟨S4x16x4096x4097, .f32⟩
  | .hbm, ⟨81, _⟩ => ⟨S_, .f32⟩
  | .hbm, ⟨82, _⟩ => ⟨S4x16x4096, .f32⟩
  | .hbm, ⟨83, _⟩ => ⟨S_, .f32⟩
  | .hbm, ⟨84, _⟩ => ⟨S4x16x4096, .f32⟩
  | .hbm, ⟨85, _⟩ => ⟨S4x16x4096, .f32⟩
  | .hbm, ⟨86, _⟩ => ⟨S4x16x4096x1, .f32⟩
  | .hbm, ⟨87, _⟩ => ⟨S4x16x4096x4097, .f32⟩
  | .hbm, ⟨88, _⟩ => ⟨S4x16x4096x4097, .f32⟩
  | .hbm, ⟨89, _⟩ => ⟨S4x16x4096x4097, .f32⟩
  | .hbm, ⟨90, _⟩ => ⟨S_, .f32⟩
  | .hbm, ⟨91, _⟩ => ⟨S4x16x4096, .f32⟩
  | .hbm, ⟨92, _⟩ => ⟨S4x16x4096x1, .f32⟩
  | .hbm, ⟨93, _⟩ => ⟨S4x16x4096x4097, .f32⟩
  | .hbm, ⟨94, _⟩ => ⟨S4x16x4096x4097, .f32⟩
  | .hbm, ⟨95, _⟩ => ⟨S4x16x4096x4096, .f32⟩
  | .hbm, ⟨96, _⟩ => ⟨S4x2x4x2x4096x4096, .f32⟩
  | .hbm, ⟨97, _⟩ => ⟨S4x2x2x64x4x4096, .f32⟩
  | .hbm, ⟨98, _⟩ => ⟨S4x4096x2x4x2x64, .f32⟩
  | .hbm, ⟨99, _⟩ => ⟨S4x4096x1024, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_c_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Proof.Steps.lean ====
/- What one trip of the key loop, and the diagonal chunk after it, do to the three arrays that a head carries. -/
module

public import proofs.«01_k».proof.Proof.Gen.KernelIdeal.Value

@[expose] public section

set_option maxRecDepth 16384
set_option maxHeartbeats 1000000

noncomputable section

namespace Cert.Attn

open Cert.KernelIdeal Cert.KernelIdeal.Gen Idealize.ShloMosaic Idealize.ShloMosaic.TcCoe

variable {F : FTy → Type} [FloatOps F] [Named F]

/-- The running maximum, the running sum and the running weighted sum of one head. -/
abbrev Part (F : FTy → Type) := FVec F S1x512 .f32 × FVec F S1x512 .f32 × FVec F S128x512 .f32

/-- What the key loop carries: the three arrays of each of four heads. -/
abbrev Carry (F : FTy → Type) := FVec F S1x512 .f32 × FVec F S1x512 .f32 × FVec F S128x512 .f32 × FVec F S1x512 .f32 × FVec F S1x512 .f32 × FVec F S128x512 .f32 × FVec F S1x512 .f32 × FVec F S1x512 .f32 × FVec F S128x512 .f32 × FVec F S1x512 .f32 × FVec F S1x512 .f32 × FVec F S128x512 .f32

/-- Head 0's arrays. -/
def head0 (a : Carry F) : Part F := (a.1, a.2.1, a.2.2.1)

/-- Head 1's arrays. -/
def head1 (a : Carry F) : Part F := (a.2.2.2.1, a.2.2.2.2.1, a.2.2.2.2.2.1)

/-- Head 2's arrays. -/
def head2 (a : Carry F) : Part F := (a.2.2.2.2.2.2.1, a.2.2.2.2.2.2.2.1, a.2.2.2.2.2.2.2.2.1)

/-- Head 3's arrays. -/
def head3 (a : Carry F) : Part F := (a.2.2.2.2.2.2.2.2.2.1, a.2.2.2.2.2.2.2.2.2.2.1, a.2.2.2.2.2.2.2.2.2.2.2)

/-- A head's arrays before the first chunk. -/
def init : Part F := (k0_pay36, k0_pay37, k0_pay38)

/-- A head's arrays after a chunk of keys that every query sees: `st` the chunk's scores, `v` its values. -/
def upd (s : Part F) (st : FVec F S512x512 .f32) (v : Vec F S1x1x1x128x512 .bf16) : Part F :=
  (k0_pay8 s.1 st, k0_pay11 s.1 s.2.1 st, k0_pay12 s.1 s.2.2 st v)

/-- A head's arrays after the chunk on the diagonal. -/
def updDiag (s : Part F) (st : FVec F S512x512 .f32) (v : Vec F S1x1x1x128x512 .bf16) : Part F :=
  (k0_pay69 s.1 st, k0_pay72 s.1 s.2.1 st, k0_pay74 (k0_pay71 s.1 st) (k0_pay73 s.1 s.2.2 st) v)

/-- A head's block of the result. -/
def fin (s : Part F) : FVec F S1x512x128 .f32 := k0_pay94 s.2.1 s.2.2

/-- One trip of the key loop, at head 0. -/
theorem trip_head0 (𝒱 : Variants) (c : Dev nD) (bd : Option 𝒱.V) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (X_arg3 : BufTy.Contents (Elt F) arg3.view.ty) (X_arg4 : BufTy.Contents (Elt F) arg4.view.ty) (X_arg5 : BufTy.Contents (Elt F) arg5.view.ty) (k : Fin (k0_t1_loop i).trips) (acc : Carry F) :
    head0 (tripR_k0_t1 (F := F) 𝒱 c bd i arg3 harg3 arg4 harg4 arg5 harg5 arg6 harg6 X_arg3 X_arg4 X_arg5 k acc)
      = upd (head0 acc)
          (k0_pay4 (arg4.view.readAt (Elt F) (Rect.unit (s := S1x4x4096x256) (k0_off1 i k) S1x1x512x256.size (k0_off1_inb i k)).toLoadRect X_arg4)
            (arg3.view.readAt (Elt F) (Rect.unit (s := S1x4x512x256) ![0, 0, 0, 0] S1x1x512x256.size inb_S1x4x512x256_S1x1x512x256_0_0_0_0).toLoadRect X_arg3))
          (arg5.view.readAt (Elt F) (Rect.unit (s := S1x4x8x128x512) (k0_off5 i k) S1x1x1x128x512.size (k0_off5_inb i k)).toLoadRect X_arg5) := by
  unfold tripR_k0_t1 trip_k0_t1
  rfl

/-- One trip of the key loop, at head 1. -/
theorem trip_head1 (𝒱 : Variants) (c : Dev nD) (bd : Option 𝒱.V) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (X_arg3 : BufTy.Contents (Elt F) arg3.view.ty) (X_arg4 : BufTy.Contents (Elt F) arg4.view.ty) (X_arg5 : BufTy.Contents (Elt F) arg5.view.ty) (k : Fin (k0_t1_loop i).trips) (acc : Carry F) :
    head1 (tripR_k0_t1 (F := F) 𝒱 c bd i arg3 harg3 arg4 harg4 arg5 harg5 arg6 harg6 X_arg3 X_arg4 X_arg5 k acc)
      = upd (head1 acc)
          (k0_pay4 (arg4.view.readAt (Elt F) (Rect.unit (s := S1x4x4096x256) (k0_off2 i k) S1x1x512x256.size (k0_off2_inb i k)).toLoadRect X_arg4)
            (arg3.view.readAt (Elt F) (Rect.unit (s := S1x4x512x256) ![0, 1, 0, 0] S1x1x512x256.size inb_S1x4x512x256_S1x1x512x256_0_1_0_0).toLoadRect X_arg3))
          (arg5.view.readAt (Elt F) (Rect.unit (s := S1x4x8x128x512) (k0_off6 i k) S1x1x1x128x512.size (k0_off6_inb i k)).toLoadRect X_arg5) := by
  unfold tripR_k0_t1 trip_k0_t1
  rfl

/-- One trip of the key loop, at head 2. -/
theorem trip_head2 (𝒱 : Variants) (c : Dev nD) (bd : Option 𝒱.V) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (X_arg3 : BufTy.Contents (Elt F) arg3.view.ty) (X_arg4 : BufTy.Contents (Elt F) arg4.view.ty) (X_arg5 : BufTy.Contents (Elt F) arg5.view.ty) (k : Fin (k0_t1_loop i).trips) (acc : Carry F) :
    head2 (tripR_k0_t1 (F := F) 𝒱 c bd i arg3 harg3 arg4 harg4 arg5 harg5 arg6 harg6 X_arg3 X_arg4 X_arg5 k acc)
      = upd (head2 acc)
          (k0_pay4 (arg4.view.readAt (Elt F) (Rect.unit (s := S1x4x4096x256) (k0_off3 i k) S1x1x512x256.size (k0_off3_inb i k)).toLoadRect X_arg4)
            (arg3.view.readAt (Elt F) (Rect.unit (s := S1x4x512x256) ![0, 2, 0, 0] S1x1x512x256.size inb_S1x4x512x256_S1x1x512x256_0_2_0_0).toLoadRect X_arg3))
          (arg5.view.readAt (Elt F) (Rect.unit (s := S1x4x8x128x512) (k0_off7 i k) S1x1x1x128x512.size (k0_off7_inb i k)).toLoadRect X_arg5) := by
  unfold tripR_k0_t1 trip_k0_t1
  rfl

/-- One trip of the key loop, at head 3. -/
theorem trip_head3 (𝒱 : Variants) (c : Dev nD) (bd : Option 𝒱.V) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (X_arg3 : BufTy.Contents (Elt F) arg3.view.ty) (X_arg4 : BufTy.Contents (Elt F) arg4.view.ty) (X_arg5 : BufTy.Contents (Elt F) arg5.view.ty) (k : Fin (k0_t1_loop i).trips) (acc : Carry F) :
    head3 (tripR_k0_t1 (F := F) 𝒱 c bd i arg3 harg3 arg4 harg4 arg5 harg5 arg6 harg6 X_arg3 X_arg4 X_arg5 k acc)
      = upd (head3 acc)
          (k0_pay4 (arg4.view.readAt (Elt F) (Rect.unit (s := S1x4x4096x256) (k0_off4 i k) S1x1x512x256.size (k0_off4_inb i k)).toLoadRect X_arg4)
            (arg3.view.readAt (Elt F) (Rect.unit (s := S1x4x512x256) ![0, 3, 0, 0] S1x1x512x256.size inb_S1x4x512x256_S1x1x512x256_0_3_0_0).toLoadRect X_arg3))
          (arg5.view.readAt (Elt F) (Rect.unit (s := S1x4x8x128x512) (k0_off8 i k) S1x1x1x128x512.size (k0_off8_inb i k)).toLoadRect X_arg5) := by
  unfold tripR_k0_t1 trip_k0_t1
  rfl

/-- The carry before the first trip. -/
def init4 : Carry F := (k0_pay36, k0_pay37, k0_pay38, k0_pay39, k0_pay40, k0_pay41, k0_pay42, k0_pay43, k0_pay44, k0_pay45, k0_pay46, k0_pay47)

/-- The number of trips of the key loop: the number of the query block. -/
theorem trips1 (i : grid0.Coords) : (k0_t1_loop i).trips = (i 2).val := by
  have h : ∀ j : Fin 8, Scf.trips 0#32 (Scalar.addi 0#32 (Scalar.muli (Scalar.divsi (Scalar.subi (BitVec.ofNat 32 j.val) 0#32) 1#32) 1#32)) 1#32 = j.val := by decide +kernel
  exact h (i 2)

/-- The remainder loop makes no trip. -/
theorem trips2 (i : grid0.Coords) : (k0_t2_loop i).trips = 0 := by
  have h : ∀ j : Fin 8, Scf.trips (Scalar.addi 0#32 (Scalar.muli (Scalar.divsi (Scalar.subi (BitVec.ofNat 32 j.val) 0#32) 1#32) 1#32))
      (Scalar.addi 0#32 (Scalar.subi (BitVec.ofNat 32 j.val) 0#32)) 1#32 = 0 := by decide +kernel
  exact h (i 2)

/-- The carry after `n` trips. -/
def loopState (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) (n : ℕ) : Carry F :=
  st_k0_t1 (F := F) Variants.none c none i arg3 harg3 arg4 harg4 arg5 harg5 arg6 harg6 (harg3.unread x0) (harg4.unread x1) (harg5.unread x2) init4 n

/-- The carry after both loops. -/
def endState (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) : Carry F :=
  st_k0_t2 (F := F) Variants.none c none i arg3 harg3 arg4 harg4 arg5 harg5 arg6 harg6 (k0_t1_loop i).ub (harg3.unread x0) (harg4.unread x1) (harg5.unread x2)
    (loopState c i arg3 harg3 arg4 harg4 arg5 harg5 arg6 harg6 x0 x1 x2 (k0_t1_loop i).trips) (k0_t2_loop i).trips

/-- The remainder loop changes nothing. -/
theorem endState_eq (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) :
    endState c i arg3 harg3 arg4 harg4 arg5 harg5 arg6 harg6 x0 x1 x2
      = loopState c i arg3 harg3 arg4 harg4 arg5 harg5 arg6 harg6 x0 x1 x2 (i 2).val := by
  unfold endState
  rw [trips2, trips1]
  rfl

/-- Head 0's block of the result, from the carry after the loops. -/
def result0 (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) : FVec F S1x512x128 .f32 :=
  fin (updDiag (head0 (endState c i arg3 harg3 arg4 harg4 arg5 harg5 arg6 harg6 x0 x1 x2))
    (k0_pay64 (arg4.view.readAt (Elt F) (Rect.unit (s := S1x4x4096x256) (k0_off17 i) S1x1x512x256.size (k0_off17_inb i)).toLoadRect (harg4.unread x1))
      (arg3.view.readAt (Elt F) (Rect.unit (s := S1x4x512x256) ![0, 0, 0, 0] S1x1x512x256.size inb_S1x4x512x256_S1x1x512x256_0_0_0_0).toLoadRect (harg3.unread x0)))
    (arg5.view.readAt (Elt F) (Rect.unit (s := S1x4x8x128x512) (k0_off21 i) S1x1x1x128x512.size (k0_off21_inb i)).toLoadRect (harg5.unread x2)))

/-- Head 1's block of the result, from the carry after the loops. -/
def result1 (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) : FVec F S1x512x128 .f32 :=
  fin (updDiag (head1 (endState c i arg3 harg3 arg4 harg4 arg5 harg5 arg6 harg6 x0 x1 x2))
    (k0_pay64 (arg4.view.readAt (Elt F) (Rect.unit (s := S1x4x4096x256) (k0_off18 i) S1x1x512x256.size (k0_off18_inb i)).toLoadRect (harg4.unread x1))
      (arg3.view.readAt (Elt F) (Rect.unit (s := S1x4x512x256) ![0, 1, 0, 0] S1x1x512x256.size inb_S1x4x512x256_S1x1x512x256_0_1_0_0).toLoadRect (harg3.unread x0)))
    (arg5.view.readAt (Elt F) (Rect.unit (s := S1x4x8x128x512) (k0_off22 i) S1x1x1x128x512.size (k0_off22_inb i)).toLoadRect (harg5.unread x2)))

/-- Head 2's block of the result, from the carry after the loops. -/
def result2 (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) : FVec F S1x512x128 .f32 :=
  fin (updDiag (head2 (endState c i arg3 harg3 arg4 harg4 arg5 harg5 arg6 harg6 x0 x1 x2))
    (k0_pay64 (arg4.view.readAt (Elt F) (Rect.unit (s := S1x4x4096x256) (k0_off19 i) S1x1x512x256.size (k0_off19_inb i)).toLoadRect (harg4.unread x1))
      (arg3.view.readAt (Elt F) (Rect.unit (s := S1x4x512x256) ![0, 2, 0, 0] S1x1x512x256.size inb_S1x4x512x256_S1x1x512x256_0_2_0_0).toLoadRect (harg3.unread x0)))
    (arg5.view.readAt (Elt F) (Rect.unit (s := S1x4x8x128x512) (k0_off23 i) S1x1x1x128x512.size (k0_off23_inb i)).toLoadRect (harg5.unread x2)))

/-- Head 3's block of the result, from the carry after the loops. -/
def result3 (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) : FVec F S1x512x128 .f32 :=
  fin (updDiag (head3 (endState c i arg3 harg3 arg4 harg4 arg5 harg5 arg6 harg6 x0 x1 x2))
    (k0_pay64 (arg4.view.readAt (Elt F) (Rect.unit (s := S1x4x4096x256) (k0_off20 i) S1x1x512x256.size (k0_off20_inb i)).toLoadRect (harg4.unread x1))
      (arg3.view.readAt (Elt F) (Rect.unit (s := S1x4x512x256) ![0, 3, 0, 0] S1x1x512x256.size inb_S1x4x512x256_S1x1x512x256_0_3_0_0).toLoadRect (harg3.unread x0)))
    (arg5.view.readAt (Elt F) (Rect.unit (s := S1x4x8x128x512) (k0_off24 i) S1x1x1x128x512.size (k0_off24_inb i)).toLoadRect (harg5.unread x2)))

attribute [local irreducible] st_k0_t1 st_k0_t2

/-- The four stores of a grid point. -/
theorem pieces (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec F S1x4x512x256 .bf16) (x1 : Vec F S1x4x4096x256 .bf16) (x2 : Vec F S1x4x8x128x512 .bf16) :
    (kernelRun0_A (F := F) c i arg3 harg3 arg4 harg4 arg5 harg5 arg6 harg6 x0 x1 x2).1 =
      [⟨Rect.unit (s := S1x512x512) ![0, 0, 384] S1x512x128.size inb_S1x512x512_S1x512x128_0_0_384, result3 c i arg3 harg3 arg4 harg4 arg5 harg5 arg6 harg6 x0 x1 x2⟩,
       ⟨Rect.unit (s := S1x512x512) ![0, 0, 256] S1x512x128.size inb_S1x512x512_S1x512x128_0_0_256, result2 c i arg3 harg3 arg4 harg4 arg5 harg5 arg6 harg6 x0 x1 x2⟩,
       ⟨Rect.unit (s := S1x512x512) ![0, 0, 128] S1x512x128.size inb_S1x512x512_S1x512x128_0_0_128, result1 c i arg3 harg3 arg4 harg4 arg5 harg5 arg6 harg6 x0 x1 x2⟩,
       ⟨Rect.unit (s := S1x512x512) ![0, 0, 0] S1x512x128.size inb_S1x512x512_S1x512x128_0_0_0, result0 c i arg3 harg3 arg4 harg4 arg5 harg5 arg6 harg6 x0 x1 x2⟩] := by
  unfold kernelRun0_A
  sl_unfold_words
  unfold result0 result1 result2 result3 endState loopState
  rfl

end Cert.Attn

end
-- ==== Proof.Online.lean ====
/- The online softmax in exact arithmetic. One query's scores are real numbers, the values it weighs are extended reals.
   Keys are taken in chunks of 512; between chunks a running maximum, a running sum of powers of two and a running weighted
   sum are rescaled. However the maximum is chosen, the quotient of the two sums at the end is the same weighted sum. -/
module

public import Idealize.ShloMosaic.PureOps.Ideal

@[expose] public section

noncomputable section

namespace Cert.Attn

open Idealize.ShloMosaic

/-- The running maximum after a chunk with scores `t`. -/
def stepM (m : EReal) (t : Fin 512 → EReal) : EReal := max m (Finset.univ.fold max ⊥ t)

/-- The running sum after the chunk. -/
def stepL (m l : EReal) (t : Fin 512 → EReal) : EReal :=
  Ideal.exp2 (m - stepM m t) * l + ∑ j, Ideal.exp2 (t j - stepM m t)

/-- The running weighted sum after the chunk. -/
def stepA (m a : EReal) (t v : Fin 512 → EReal) : EReal :=
  Ideal.exp2 (m - stepM m t) * a + ∑ j, v j * Ideal.exp2 (t j - stepM m t)

/-- The real power of two. -/
def pw (x : ℝ) : ℝ := Real.rpow 2 x

theorem pw_pos (x : ℝ) : 0 < pw x := Real.rpow_pos_of_pos (by norm_num) x

theorem pw_add (x y : ℝ) : pw (x + y) = pw x * pw y := Real.rpow_add (by norm_num) x y

theorem pw_sub (x y : ℝ) : pw (x - y) = pw x / pw y := Real.rpow_sub (by norm_num) x y

theorem exp2_sub_coe (x y : ℝ) : Ideal.exp2 ((x : EReal) - (y : EReal)) = (pw (x - y) : ℝ) := rfl

theorem exp2_bot_sub (y : ℝ) : Ideal.exp2 (⊥ - (y : EReal)) = 0 := by
  rw [EReal.bot_sub]; rfl

/-- A nonnegative real factor goes into a finite sum of extended reals. -/
theorem mul_sum_real {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s h ih =>
    rw [Finset.sum_insert h, Finset.sum_insert h, EReal.left_distrib_of_nonneg_of_ne_top (by exact_mod_cast hc) (EReal.coe_ne_top c), ih]

theorem coe_sum_real {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The keys below `n` that the query `q` sees. -/
abbrev seen (q n : ℕ) : Finset ℕ := (Finset.range n).filter (· ≤ q)

/-- A sum over the keys seen in one more chunk. -/
theorem sum_seen_add {M : Type} [AddCommMonoid M] (q n : ℕ) (f : ℕ → M) :
    ∑ j ∈ seen q (n + 512), f j = ∑ j ∈ seen q n, f j + ∑ j : Fin 512, if n + j.val ≤ q then f (n + j.val) else 0 := by
  rw [Finset.sum_filter, Finset.sum_filter, Finset.sum_range_add, Finset.sum_range (fun x => if n + x ≤ q then f (n + x) else 0)]

/-- What the three numbers are once the keys below `n` have been taken: empty at the start, and later the sums at some real
    maximum `M`. -/
def Inv (S : ℕ → ℝ) (V : ℕ → EReal) (q n : ℕ) (m l a : EReal) : Prop :=
  (n = 0 ∧ m = ⊥ ∧ l = 0 ∧ a = 0) ∨
    ∃ M : ℝ, m = M ∧ l = ((∑ j ∈ seen q n, pw (S j - M) : ℝ) : EReal) ∧ a = ∑ j ∈ seen q n, V j * ((pw (S j - M) : ℝ) : EReal)

/-- A maximum of real numbers and of minus infinities, one of them real, is real. -/
theorem fold_max_real (t : Fin 512 → EReal) (ht : ∀ j, t j ≠ ⊤) (h0 : t 0 ≠ ⊥) : ∃ M : ℝ, Finset.univ.fold max ⊥ t = (M : EReal) := by
  have h1 : Finset.univ.fold max ⊥ t ≠ ⊥ := fun h => h0 (le_bot_iff.mp (h ▸ (Finset.le_fold_max (b := ⊥) (f := t) (s := Finset.univ) (t 0)).mpr (.inr ⟨0, Finset.mem_univ _, le_refl _⟩)))
  have h2 : Finset.univ.fold max ⊥ t < ⊤ := (Finset.fold_max_lt (b := ⊥) (f := t) (s := Finset.univ) (c := ⊤)).mpr ⟨bot_lt_top, fun j _ => lt_top_iff_ne_top.mpr (ht j)⟩
  exact ⟨(Finset.univ.fold max ⊥ t).toReal, (EReal.coe_toReal h2.ne h1).symm⟩

/-- One chunk. -/
theorem Inv.step {S : ℕ → ℝ} {V : ℕ → EReal} {q n : ℕ} {m l a : EReal} (h : Inv S V q n m l a) (hn : n ≤ q)
    (t v : Fin 512 → EReal) (ht : ∀ j : Fin 512, t j = if n + j.val ≤ q then ((S (n + j.val) : ℝ) : EReal) else ⊥)
    (hv : ∀ j : Fin 512, v j = V (n + j.val)) :
    Inv S V q (n + 512) (stepM m t) (stepL m l t) (stepA m a t v) := by
  obtain ⟨M₁, hM₁⟩ := fold_max_real t (fun j => by rw [ht]; split <;> simp) (by rw [ht, if_pos (by simpa using hn)]; simp)
  have key : ∀ M : ℝ, (∑ j, Ideal.exp2 (t j - (M : EReal)) = ((∑ j : Fin 512, if n + j.val ≤ q then pw (S (n + j.val) - M) else 0 : ℝ) : EReal))
      ∧ (∑ j, v j * Ideal.exp2 (t j - (M : EReal)) = ∑ j : Fin 512, if n + j.val ≤ q then V (n + j.val) * ((pw (S (n + j.val) - M) : ℝ) : EReal) else 0) := by
    intro M
    constructor
    · rw [coe_sum_real]
      refine Finset.sum_congr rfl fun j _ => ?_
      rw [ht]
      split
      · exact exp2_sub_coe _ _
      · rw [exp2_bot_sub]; simp
    · refine Finset.sum_congr rfl fun j _ => ?_
      rw [ht, hv]
      split
      · rw [exp2_sub_coe]
      · rw [exp2_bot_sub, mul_zero]
  rcases h with ⟨rfl, rfl, rfl, rfl⟩ | ⟨M₀, rfl, rfl, rfl⟩
  · have hm : stepM ⊥ t = (M₁ : EReal) := by unfold stepM; rw [hM₁]; simp
    refine .inr ⟨M₁, hm, ?_, ?_⟩
    · unfold stepL
      rw [hm, (key M₁).1, sum_seen_add]; simp [seen]
    · unfold stepA
      rw [hm, (key M₁).2, sum_seen_add]; simp [seen]
  · have hm : stepM (M₀ : EReal) t = ((max M₀ M₁ : ℝ) : EReal) := by unfold stepM; rw [hM₁]; exact (EReal.coe_strictMono.monotone.map_max).symm
    refine .inr ⟨max M₀ M₁, hm, ?_, ?_⟩
    · unfold stepL
      rw [hm, (key _).1, sum_seen_add, exp2_sub_coe, EReal.coe_add, ← EReal.coe_mul, Finset.mul_sum]
      congr 3
      funext j
      rw [← pw_add]; congr 1; ring
    · unfold stepA
      rw [hm, (key _).2, sum_seen_add, exp2_sub_coe, mul_sum_real _ _ (pw_pos _).le]
      congr 1
      refine Finset.sum_congr rfl fun j _ => ?_
      rw [mul_left_comm, ← EReal.coe_mul, ← pw_add]; congr 3; ring

/-- Causal attention at one query `q` and one value dimension: the values of the keys up to `q`, weighted by powers of two. -/
def attend (S : ℕ → ℝ) (V : ℕ → EReal) (q : ℕ) : EReal :=
  ∑ j ∈ Finset.range (q + 1), V j * ((pw (S j) / ∑ i ∈ Finset.range (q + 1), pw (S i) : ℝ) : EReal)

theorem seen_eq {q n : ℕ} (h : q < n) : seen q n = Finset.range (q + 1) := by
  ext j; simp; omega

theorem sum_pw_pos (S : ℕ → ℝ) (q : ℕ) : 0 < ∑ i ∈ Finset.range (q + 1), pw (S i) :=
  Finset.sum_pos (fun _ _ => pw_pos _) ⟨0, by simp⟩

/-- The weights do not depend on the maximum that is subtracted. -/
theorem weight_shift (S : ℕ → ℝ) (q j : ℕ) (M : ℝ) :
    pw (S j - M) / ∑ i ∈ Finset.range (q + 1), pw (S i - M) = pw (S j) / ∑ i ∈ Finset.range (q + 1), pw (S i) := by
  simp only [pw_sub, ← Finset.sum_div]
  exact div_div_div_cancel_right₀ (pw_pos M).ne' _ _

/-- Once every key up to `q` has been taken, the quotient is causal attention. -/
theorem Inv.result {S : ℕ → ℝ} {V : ℕ → EReal} {q n : ℕ} {m l a : EReal} (h : Inv S V q n m l a) (hq : q < n) :
    Ideal.div a l = attend S V q := by
  rcases h with ⟨rfl, -⟩ | ⟨M, -, rfl, rfl⟩
  · omega
  · rw [seen_eq hq]
    have hL : 0 < ∑ i ∈ Finset.range (q + 1), pw (S i - M) := Finset.sum_pos (fun _ _ => pw_pos _) ⟨0, by simp⟩
    unfold Ideal.div attend
    rw [if_neg (by exact_mod_cast hL.ne'), mul_comm, ← EReal.coe_inv, mul_sum_real _ _ (inv_nonneg.mpr hL.le)]
    refine Finset.sum_congr rfl fun j _ => ?_
    rw [mul_left_comm, ← EReal.coe_mul, ← weight_shift S q j M, mul_comm, div_eq_inv_mul]
    exact mul_comm _ _

end Cert.Attn

end
-- ==== Proof.Reads.lean ====
/- The arrays of one head after a chunk of keys, read at a query and a value dimension, in exact arithmetic. -/
module

public import proofs.«01_k».proof.Proof.Steps
public import proofs.«01_k».proof.Proof.Online
public import Idealize.ShloMosaic.Lib.Pointwise

@[expose] public section

set_option maxRecDepth 16384
set_option maxHeartbeats 1000000

noncomputable section

namespace Cert.Attn

open Cert.KernelIdeal Cert.KernelIdeal.Gen Idealize.ShloMosaic Idealize.ShloMosaic.TcCoe

theorem named_mask : (Named.named (F := Ideal) (φ := .f32) κ "mask" 0xF149F2CA#32 : EReal) = ⊥ := rfl

theorem neg_inf : Ideal.ofBits FTy.f32 0xFF800000#32 = ⊥ := by simp [Ideal.ofBits, Ideal.ieee]

/-- A chunk's score at a key and a query: the dot product of their vectors. -/
theorem score_at (kc qc : Vec Ideal S1x1x512x256 .bf16) (j r : Fin 512) :
    k0_pay4 (F := Ideal) kc qc (ix2 j r) = ∑ d : Fin 256, kc (ix4 0 0 j d) * qc (ix4 0 0 r d) := by
  pointwise [k0_pay4]

theorem max_at (m : FVec Ideal S1x512 .f32) (st : FVec Ideal S512x512 .f32) (r : Fin 512) :
    k0_pay8 (F := Ideal) m st (ix2 0 r) = stepM (m (ix2 0 r)) fun j => st (ix2 j r) := by
  pointwise [k0_pay8]
  rw [neg_inf]; rfl

theorem sum_at (m l : FVec Ideal S1x512 .f32) (st : FVec Ideal S512x512 .f32) (r : Fin 512) :
    k0_pay11 (F := Ideal) m l st (ix2 0 r) = stepL (m (ix2 0 r)) (l (ix2 0 r)) fun j => st (ix2 j r) := by
  pointwise [k0_pay11, k0_pay9, k0_pay10]
  rw [max_at]; rfl

theorem acc_at (m : FVec Ideal S1x512 .f32) (a : FVec Ideal S128x512 .f32) (st : FVec Ideal S512x512 .f32) (v : Vec Ideal S1x1x1x128x512 .bf16) (d : Fin 128) (r : Fin 512) :
    k0_pay12 (F := Ideal) m a st v (ix2 d r) = stepA (m (ix2 0 r)) (a (ix2 d r)) (fun j => st (ix2 j r)) fun j => v (ix5 0 0 0 d j) := by
  pointwise [k0_pay12, k0_pay9, k0_pay10]
  rw [max_at]; rfl

/-- The causal mask of the diagonal chunk: a key after the query scores minus infinity. -/
theorem mask_at (st : FVec Ideal S512x512 .f32) (j r : Fin 512) :
    k0_pay68 (F := Ideal) st (ix2 j r) = if j.val ≤ r.val then st (ix2 j r) else ⊥ := by
  pointwise [k0_pay68]
  rw [named_mask]
  have h : IntOp.cmpi CmpIPredicate.sle (BitVec.ofNat 32 j.val) (BitVec.ofNat 32 r.val) = BitVec.ofBool (decide (j.val ≤ r.val)) := by
    word_cmp
  rw [h]
  by_cases hjr : j.val ≤ r.val <;> simp [hjr, Scalar.select]

/-- The diagonal chunk is a chunk with masked scores. -/
theorem updDiag_eq (s : Part Ideal) (st : FVec Ideal S512x512 .f32) (v : Vec Ideal S1x1x1x128x512 .bf16) :
    updDiag s st v = upd s (k0_pay68 st) v := rfl

/-- A head's block of the result at a query and a value dimension: the quotient of the two sums. -/
theorem fin_at (s : Part Ideal) (d : Fin 128) (r : Fin 512) :
    fin (F := Ideal) s (ix3 0 r d) = Ideal.div (s.2.2 (ix2 d r)) (s.2.1 (ix2 0 r)) := by
  pointwise [fin, k0_pay94]

/-- The invariant of a head's arrays at query `r` of the block and value dimension `d`. -/
def InvAt (S : ℕ → ℝ) (V : ℕ → EReal) (q n : ℕ) (s : Part Ideal) (d : Fin 128) (r : Fin 512) : Prop :=
  Inv S V q n (s.1 (ix2 0 r)) (s.2.1 (ix2 0 r)) (s.2.2 (ix2 d r))

theorem init_at (S : ℕ → ℝ) (V : ℕ → EReal) (q : ℕ) (d : Fin 128) (r : Fin 512) : InvAt S V q 0 init d r := by
  refine .inl ⟨rfl, ?_, ?_, ?_⟩
  · exact named_mask
  · exact Ideal.ofBits_zero_f32
  · exact Ideal.ofBits_zero_f32

/-- A chunk of keys keeps the invariant. -/
theorem upd_at {S : ℕ → ℝ} {V : ℕ → EReal} {q n : ℕ} {s : Part Ideal} {d : Fin 128} {r : Fin 512} (h : InvAt S V q n s d r) (hn : n ≤ q)
    (st : FVec Ideal S512x512 .f32) (v : Vec Ideal S1x1x1x128x512 .bf16)
    (ht : ∀ j : Fin 512, st (ix2 j r) = if n + j.val ≤ q then ((S (n + j.val) : ℝ) : EReal) else ⊥)
    (hv : ∀ j : Fin 512, v (ix5 0 0 0 d j) = V (n + j.val)) :
    InvAt S V q (n + 512) (upd s st v) d r := by
  unfold InvAt upd
  dsimp only
  rw [max_at, sum_at, acc_at]
  exact Inv.step h hn _ _ ht hv

end Cert.Attn

end
-- ==== Proof.Point.lean ====
/- One grid point: what its four stores leave in the block of the result, as causal attention. -/
module

public import proofs.«01_k».proof.Proof.Reads

@[expose] public section

set_option maxRecDepth 16384
set_option maxHeartbeats 1000000

noncomputable section

namespace Cert.Attn

open Cert.KernelIdeal Cert.KernelIdeal.Gen Idealize.ShloMosaic Idealize.ShloMosaic.TcCoe

/-! ## The loads -/

/-- A load of 512 keys of head `h`, read at a key and a coordinate. -/
theorem kload_at {arg4 : Memref sig .tc .vmem S1x4x4096x256 .bf16} (harg4 : arg4.IsWhole) (x1 : Vec Ideal S1x4x4096x256 .bf16)
    (off : Fin 4 → ℕ) (inb : ∀ a, off a + S1x1x512x256.size a ≤ S1x4x4096x256.size a) (h : Fin 4) (n : ℕ)
    (hoff : off = ![0, h.val, n, 0]) (j : Fin 512) (d : Fin 256) (g : Fin 4096) (hg : g.val = n + j.val) :
    arg4.view.readAt (Elt Ideal) (Rect.unit (s := S1x4x4096x256) off S1x1x512x256.size inb).toLoadRect (harg4.unread x1) (ix4 0 0 j d)
      = x1 (ix4 0 h g d) := by
  subst hoff
  rw [View.readAt_apply, harg4.read_unread]
  congr 1
  funext a; apply Fin.ext
  match a with
  | ⟨0, _⟩ => rfl
  | ⟨1, _⟩ => rfl
  | ⟨2, _⟩ => exact (congrArg (n + ·) (Nat.one_mul _)).trans hg.symm
  | ⟨3, _⟩ => exact (Nat.zero_add _).trans (Nat.one_mul _)

/-- The load of head `h`'s queries, read at a query and a coordinate. -/
theorem qload_at {arg3 : Memref sig .tc .vmem S1x4x512x256 .bf16} (harg3 : arg3.IsWhole) (x0 : Vec Ideal S1x4x512x256 .bf16)
    (off : Fin 4 → ℕ) (inb : ∀ a, off a + S1x1x512x256.size a ≤ S1x4x512x256.size a) (h : Fin 4)
    (hoff : off = ![0, h.val, 0, 0]) (r : Fin 512) (d : Fin 256) :
    arg3.view.readAt (Elt Ideal) (Rect.unit (s := S1x4x512x256) off S1x1x512x256.size inb).toLoadRect (harg3.unread x0) (ix4 0 0 r d)
      = x0 (ix4 0 h r d) := by
  subst hoff
  rw [View.readAt_apply, harg3.read_unread]
  congr 1
  funext a; apply Fin.ext
  match a with
  | ⟨0, _⟩ => rfl
  | ⟨1, _⟩ => rfl
  | ⟨2, _⟩ => exact (Nat.zero_add _).trans (Nat.one_mul _)
  | ⟨3, _⟩ => exact (Nat.zero_add _).trans (Nat.one_mul _)

/-- A load of the values of 512 keys of head `h`, read at a value dimension and a key. -/
theorem vload_at {arg5 : Memref sig .tc .vmem S1x4x8x128x512 .bf16} (harg5 : arg5.IsWhole) (x2 : Vec Ideal S1x4x8x128x512 .bf16)
    (off : Fin 5 → ℕ) (inb : ∀ a, off a + S1x1x1x128x512.size a ≤ S1x4x8x128x512.size a) (h : Fin 4) (k : Fin 8)
    (hoff : off = ![0, h.val, k.val, 0, 0]) (d : Fin 128) (j : Fin 512) :
    arg5.view.readAt (Elt Ideal) (Rect.unit (s := S1x4x8x128x512) off S1x1x1x128x512.size inb).toLoadRect (harg5.unread x2) (ix5 0 0 0 d j)
      = x2 (ix5 0 h k d j) := by
  subst hoff
  rw [View.readAt_apply, harg5.read_unread]
  congr 1
  funext a; apply Fin.ext
  match a with
  | ⟨0, _⟩ => rfl
  | ⟨1, _⟩ => rfl
  | ⟨2, _⟩ => rfl
  | ⟨3, _⟩ => exact (Nat.zero_add _).trans (Nat.one_mul _)
  | ⟨4, _⟩ => exact (Nat.zero_add _).trans (Nat.one_mul _)

/-! ## The offsets -/

/-- The row at which chunk `n` of the keys begins. -/
theorem row_word (n : Fin 8) : (Scalar.indexCast (Scalar.muli (BitVec.ofNat 32 n.val) 512#32)).toNat = 512 * n.val := by
  revert n; decide +kernel

/-- The counter of the key loop. -/
theorem counter_word (n : Fin 8) : Scf.iv 0#32 1#32 n.val = BitVec.ofNat 32 n.val := by
  revert n; decide +kernel

theorem chunk_word (n : Fin 8) : (Scalar.indexCast (BitVec.ofNat 32 n.val)).toNat = n.val := by
  revert n; decide +kernel

theorem trip_lt {i : grid0.Coords} (k : Fin (k0_t1_loop i).trips) : k.val < (i 2).val := trips1 i ▸ k.isLt

theorem coord_lt (i : grid0.Coords) : (i 2).val < 8 := (i 2).isLt

theorem k0_off1_eq (i : grid0.Coords) (k : Fin (k0_t1_loop i).trips) : k0_off1 i k = ![0, 0, 512 * k.val, 0] := by
  have h := row_word ⟨k.val, (trip_lt k).trans (coord_lt i)⟩
  rw [← counter_word] at h
  unfold k0_off1
  dsimp only at h ⊢
  rw [h]

theorem k0_off5_eq (i : grid0.Coords) (k : Fin (k0_t1_loop i).trips) : k0_off5 i k = ![0, 0, k.val, 0, 0] := by
  have h := chunk_word ⟨k.val, (trip_lt k).trans (coord_lt i)⟩
  rw [← counter_word] at h
  unfold k0_off5
  dsimp only at h ⊢
  rw [h]

theorem k0_off17_eq (i : grid0.Coords) : k0_off17 i = ![0, 0, 512 * (i 2).val, 0] := by
  have h := row_word (i 2)
  unfold k0_off17
  dsimp only at h ⊢
  rw [h]

theorem k0_off21_eq (i : grid0.Coords) : k0_off21 i = ![0, 0, (i 2).val, 0, 0] := by
  have h := chunk_word (i 2)
  unfold k0_off21
  dsimp only at h ⊢
  rw [h]

theorem k0_off2_eq (i : grid0.Coords) (k : Fin (k0_t1_loop i).trips) : k0_off2 i k = ![0, 1, 512 * k.val, 0] := by
  have h := row_word ⟨k.val, (trip_lt k).trans (coord_lt i)⟩
  rw [← counter_word] at h
  unfold k0_off2
  dsimp only at h ⊢
  rw [h]

theorem k0_off6_eq (i : grid0.Coords) (k : Fin (k0_t1_loop i).trips) : k0_off6 i k = ![0, 1, k.val, 0, 0] := by
  have h := chunk_word ⟨k.val, (trip_lt k).trans (coord_lt i)⟩
  rw [← counter_word] at h
  unfold k0_off6
  dsimp only at h ⊢
  rw [h]

theorem k0_off18_eq (i : grid0.Coords) : k0_off18 i = ![0, 1, 512 * (i 2).val, 0] := by
  have h := row_word (i 2)
  unfold k0_off18
  dsimp only at h ⊢
  rw [h]

theorem k0_off22_eq (i : grid0.Coords) : k0_off22 i = ![0, 1, (i 2).val, 0, 0] := by
  have h := chunk_word (i 2)
  unfold k0_off22
  dsimp only at h ⊢
  rw [h]

theorem k0_off3_eq (i : grid0.Coords) (k : Fin (k0_t1_loop i).trips) : k0_off3 i k = ![0, 2, 512 * k.val, 0] := by
  have h := row_word ⟨k.val, (trip_lt k).trans (coord_lt i)⟩
  rw [← counter_word] at h
  unfold k0_off3
  dsimp only at h ⊢
  rw [h]

theorem k0_off7_eq (i : grid0.Coords) (k : Fin (k0_t1_loop i).trips) : k0_off7 i k = ![0, 2, k.val, 0, 0] := by
  have h := chunk_word ⟨k.val, (trip_lt k).trans (coord_lt i)⟩
  rw [← counter_word] at h
  unfold k0_off7
  dsimp only at h ⊢
  rw [h]

theorem k0_off19_eq (i : grid0.Coords) : k0_off19 i = ![0, 2, 512 * (i 2).val, 0] := by
  have h := row_word (i 2)
  unfold k0_off19
  dsimp only at h ⊢
  rw [h]

theorem k0_off23_eq (i : grid0.Coords) : k0_off23 i = ![0, 2, (i 2).val, 0, 0] := by
  have h := chunk_word (i 2)
  unfold k0_off23
  dsimp only at h ⊢
  rw [h]

theorem k0_off4_eq (i : grid0.Coords) (k : Fin (k0_t1_loop i).trips) : k0_off4 i k = ![0, 3, 512 * k.val, 0] := by
  have h := row_word ⟨k.val, (trip_lt k).trans (coord_lt i)⟩
  rw [← counter_word] at h
  unfold k0_off4
  dsimp only at h ⊢
  rw [h]

theorem k0_off8_eq (i : grid0.Coords) (k : Fin (k0_t1_loop i).trips) : k0_off8 i k = ![0, 3, k.val, 0, 0] := by
  have h := chunk_word ⟨k.val, (trip_lt k).trans (coord_lt i)⟩
  rw [← counter_word] at h
  unfold k0_off8
  dsimp only at h ⊢
  rw [h]

theorem k0_off20_eq (i : grid0.Coords) : k0_off20 i = ![0, 3, 512 * (i 2).val, 0] := by
  have h := row_word (i 2)
  unfold k0_off20
  dsimp only at h ⊢
  rw [h]

theorem k0_off24_eq (i : grid0.Coords) : k0_off24 i = ![0, 3, (i 2).val, 0, 0] := by
  have h := chunk_word (i 2)
  unfold k0_off24
  dsimp only at h ⊢
  rw [h]

/-! ## A head's arrays after the loop -/

/-- The scores and the values of head `h`, at query `r` of the block and value dimension `d`, named `S` and `V` by key. -/
structure Named (x0 : Vec Ideal S1x4x512x256 .bf16) (x1 : Vec Ideal S1x4x4096x256 .bf16) (x2 : Vec Ideal S1x4x8x128x512 .bf16) (h : Fin 4) (r : Fin 512) (d : Fin 128) (S : ℕ → ℝ) (V : ℕ → EReal) : Prop where
  score : ∀ g : Fin 4096, ∑ e : Fin 256, x1 (ix4 0 h g e) * x0 (ix4 0 h r e) = ((S g.val : ℝ) : EReal)
  value : ∀ (k : Fin 8) (j : Fin 512), x2 (ix5 0 h k d j) = V (512 * k.val + j.val)

/-- Arrays that begin empty and take chunk after chunk before the diagonal keep the invariant. -/
theorem chunks {S : ℕ → ℝ} {V : ℕ → EReal} {q : ℕ} {d : Fin 128} {r : Fin 512} (N : ℕ) (hN : 512 * N ≤ q) (f : ℕ → Part Ideal) (h0 : f 0 = init)
    (st : ℕ → FVec Ideal S512x512 .f32) (v : ℕ → Vec Ideal S1x1x1x128x512 .bf16) (hf : ∀ k < N, f (k + 1) = upd (f k) (st k) (v k))
    (hst : ∀ k < N, ∀ j : Fin 512, st k (ix2 j r) = ((S (512 * k + j.val) : ℝ) : EReal))
    (hv : ∀ k < N, ∀ j : Fin 512, v k (ix5 0 0 0 d j) = V (512 * k + j.val)) :
    ∀ n ≤ N, InvAt S V q (512 * n) (f n) d r := by
  intro n
  induction n with
  | zero => intro _; rw [h0]; exact init_at S V q d r
  | succ n ih =>
    intro hn
    rw [hf n (by omega), show 512 * (n + 1) = 512 * n + 512 by ring]
    refine upd_at (ih (by omega)) (by omega) _ _ (fun j => ?_) (fun j => hv n (by omega) j)
    rw [hst n (by omega), if_pos (by omega)]

/-- The diagonal chunk, and the quotient. -/
theorem diagonal {S : ℕ → ℝ} {V : ℕ → EReal} {N : ℕ} {d : Fin 128} {r : Fin 512} {s : Part Ideal} (h : InvAt S V (512 * N + r.val) (512 * N) s d r)
    (st : FVec Ideal S512x512 .f32) (v : Vec Ideal S1x1x1x128x512 .bf16)
    (hst : ∀ j : Fin 512, st (ix2 j r) = ((S (512 * N + j.val) : ℝ) : EReal))
    (hv : ∀ j : Fin 512, v (ix5 0 0 0 d j) = V (512 * N + j.val)) :
    fin (updDiag s st v) (ix3 0 r d) = attend S V (512 * N + r.val) := by
  rw [fin_at, updDiag_eq]
  refine Inv.result (upd_at h (Nat.le_add_right _ _) _ _ (fun j => ?_) hv) (Nat.add_lt_add_left r.isLt _)
  rw [mask_at, hst]
  exact if_congr (by omega) rfl rfl

/-- The scores of a chunk of keys, from its load. -/
theorem chunk_score {arg3 : Memref sig .tc .vmem S1x4x512x256 .bf16} (harg3 : arg3.IsWhole) {arg4 : Memref sig .tc .vmem S1x4x4096x256 .bf16} (harg4 : arg4.IsWhole)
    {x0 : Vec Ideal S1x4x512x256 .bf16} {x1 : Vec Ideal S1x4x4096x256 .bf16} {x2 : Vec Ideal S1x4x8x128x512 .bf16} {h : Fin 4} {r : Fin 512} {d : Fin 128} {S : ℕ → ℝ} {V : ℕ → EReal}
    (H : Named x0 x1 x2 h r d S V) (off : Fin 4 → ℕ) (inb : ∀ a, off a + S1x1x512x256.size a ≤ S1x4x4096x256.size a)
    (off' : Fin 4 → ℕ) (inb' : ∀ a, off' a + S1x1x512x256.size a ≤ S1x4x512x256.size a) (k : Fin 8)
    (hoff : off = ![0, h.val, 512 * k.val, 0]) (hoff' : off' = ![0, h.val, 0, 0]) (j : Fin 512) :
    k0_pay4 (F := Ideal) (arg4.view.readAt (Elt Ideal) (Rect.unit (s := S1x4x4096x256) off S1x1x512x256.size inb).toLoadRect (harg4.unread x1))
        (arg3.view.readAt (Elt Ideal) (Rect.unit (s := S1x4x512x256) off' S1x1x512x256.size inb').toLoadRect (harg3.unread x0)) (ix2 j r)
      = ((S (512 * k.val + j.val) : ℝ) : EReal) := by
  rw [score_at]
  have hg : 512 * k.val + j.val < 4096 := by omega
  rw [← H.score ⟨512 * k.val + j.val, hg⟩]
  refine Finset.sum_congr rfl fun e _ => ?_
  rw [kload_at harg4 x1 off inb h (512 * k.val) hoff j e ⟨512 * k.val + j.val, hg⟩ rfl, qload_at harg3 x0 off' inb' h hoff' r e]

/-- Head 0's block of the result is causal attention. -/
theorem result0_at (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec Ideal S1x4x512x256 .bf16) (x1 : Vec Ideal S1x4x4096x256 .bf16) (x2 : Vec Ideal S1x4x8x128x512 .bf16) (r : Fin 512) (d : Fin 128) (S : ℕ → ℝ) (V : ℕ → EReal) (H : Named x0 x1 x2 0 r d S V) :
    result0 c i arg3 harg3 arg4 harg4 arg5 harg5 arg6 harg6 x0 x1 x2 (ix3 0 r d) = attend S V (512 * (i 2).val + r.val) := by
  unfold result0
  rw [endState_eq]
  refine diagonal ?_ _ _ (fun j => ?_) (fun j => ?_)
  · refine chunks (S := S) (V := V) (i 2).val (Nat.le_add_right _ _) (fun n => head0 (loopState c i arg3 harg3 arg4 harg4 arg5 harg5 arg6 harg6 x0 x1 x2 n)) rfl
      (fun k => if hk : k < (k0_t1_loop i).trips then k0_pay4 (arg4.view.readAt (Elt Ideal) (Rect.unit (s := S1x4x4096x256) (k0_off1 i ⟨k, hk⟩) S1x1x512x256.size (k0_off1_inb i ⟨k, hk⟩)).toLoadRect (harg4.unread x1))
            (arg3.view.readAt (Elt Ideal) (Rect.unit (s := S1x4x512x256) ![0, 0, 0, 0] S1x1x512x256.size inb_S1x4x512x256_S1x1x512x256_0_0_0_0).toLoadRect (harg3.unread x0)) else fun _ => 0)
      (fun k => if hk : k < (k0_t1_loop i).trips then arg5.view.readAt (Elt Ideal) (Rect.unit (s := S1x4x8x128x512) (k0_off5 i ⟨k, hk⟩) S1x1x1x128x512.size (k0_off5_inb i ⟨k, hk⟩)).toLoadRect (harg5.unread x2) else fun _ => (0 : EReal))
      (fun k hk => ?_) (fun k hk j => ?_) (fun k hk j => ?_) _ le_rfl
    all_goals have hk' : k < (k0_t1_loop i).trips := by rw [trips1]; exact hk
    · rw [dif_pos hk', dif_pos hk']
      exact (congrArg head0 (st_k0_t1_succ (F := Ideal) Variants.none c none i arg3 harg3 arg4 harg4 arg5 harg5 arg6 harg6 (harg3.unread x0) (harg4.unread x1) (harg5.unread x2) init4 ⟨k, hk'⟩)).trans
        (trip_head0 Variants.none c none i arg3 harg3 arg4 harg4 arg5 harg5 arg6 harg6 _ _ _ ⟨k, hk'⟩ _)
    · rw [dif_pos hk']
      exact chunk_score harg3 harg4 H _ _ _ _ ⟨k, hk.trans (coord_lt i)⟩ (k0_off1_eq i ⟨k, hk'⟩) rfl j
    · rw [dif_pos hk']
      exact (vload_at harg5 x2 _ _ 0 ⟨k, hk.trans (coord_lt i)⟩ (k0_off5_eq i ⟨k, hk'⟩) d j).trans (H.value _ _)
  · exact chunk_score harg3 harg4 H _ _ _ _ (i 2) (k0_off17_eq i) rfl j
  · exact (vload_at harg5 x2 _ _ 0 (i 2) (k0_off21_eq i) d j).trans (H.value _ _)

/-- Head 1's block of the result is causal attention. -/
theorem result1_at (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec Ideal S1x4x512x256 .bf16) (x1 : Vec Ideal S1x4x4096x256 .bf16) (x2 : Vec Ideal S1x4x8x128x512 .bf16) (r : Fin 512) (d : Fin 128) (S : ℕ → ℝ) (V : ℕ → EReal) (H : Named x0 x1 x2 1 r d S V) :
    result1 c i arg3 harg3 arg4 harg4 arg5 harg5 arg6 harg6 x0 x1 x2 (ix3 0 r d) = attend S V (512 * (i 2).val + r.val) := by
  unfold result1
  rw [endState_eq]
  refine diagonal ?_ _ _ (fun j => ?_) (fun j => ?_)
  · refine chunks (S := S) (V := V) (i 2).val (Nat.le_add_right _ _) (fun n => head1 (loopState c i arg3 harg3 arg4 harg4 arg5 harg5 arg6 harg6 x0 x1 x2 n)) rfl
      (fun k => if hk : k < (k0_t1_loop i).trips then k0_pay4 (arg4.view.readAt (Elt Ideal) (Rect.unit (s := S1x4x4096x256) (k0_off2 i ⟨k, hk⟩) S1x1x512x256.size (k0_off2_inb i ⟨k, hk⟩)).toLoadRect (harg4.unread x1))
            (arg3.view.readAt (Elt Ideal) (Rect.unit (s := S1x4x512x256) ![0, 1, 0, 0] S1x1x512x256.size inb_S1x4x512x256_S1x1x512x256_0_1_0_0).toLoadRect (harg3.unread x0)) else fun _ => 0)
      (fun k => if hk : k < (k0_t1_loop i).trips then arg5.view.readAt (Elt Ideal) (Rect.unit (s := S1x4x8x128x512) (k0_off6 i ⟨k, hk⟩) S1x1x1x128x512.size (k0_off6_inb i ⟨k, hk⟩)).toLoadRect (harg5.unread x2) else fun _ => (0 : EReal))
      (fun k hk => ?_) (fun k hk j => ?_) (fun k hk j => ?_) _ le_rfl
    all_goals have hk' : k < (k0_t1_loop i).trips := by rw [trips1]; exact hk
    · rw [dif_pos hk', dif_pos hk']
      exact (congrArg head1 (st_k0_t1_succ (F := Ideal) Variants.none c none i arg3 harg3 arg4 harg4 arg5 harg5 arg6 harg6 (harg3.unread x0) (harg4.unread x1) (harg5.unread x2) init4 ⟨k, hk'⟩)).trans
        (trip_head1 Variants.none c none i arg3 harg3 arg4 harg4 arg5 harg5 arg6 harg6 _ _ _ ⟨k, hk'⟩ _)
    · rw [dif_pos hk']
      exact chunk_score harg3 harg4 H _ _ _ _ ⟨k, hk.trans (coord_lt i)⟩ (k0_off2_eq i ⟨k, hk'⟩) rfl j
    · rw [dif_pos hk']
      exact (vload_at harg5 x2 _ _ 1 ⟨k, hk.trans (coord_lt i)⟩ (k0_off6_eq i ⟨k, hk'⟩) d j).trans (H.value _ _)
  · exact chunk_score harg3 harg4 H _ _ _ _ (i 2) (k0_off18_eq i) rfl j
  · exact (vload_at harg5 x2 _ _ 1 (i 2) (k0_off22_eq i) d j).trans (H.value _ _)

/-- Head 2's block of the result is causal attention. -/
theorem result2_at (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec Ideal S1x4x512x256 .bf16) (x1 : Vec Ideal S1x4x4096x256 .bf16) (x2 : Vec Ideal S1x4x8x128x512 .bf16) (r : Fin 512) (d : Fin 128) (S : ℕ → ℝ) (V : ℕ → EReal) (H : Named x0 x1 x2 2 r d S V) :
    result2 c i arg3 harg3 arg4 harg4 arg5 harg5 arg6 harg6 x0 x1 x2 (ix3 0 r d) = attend S V (512 * (i 2).val + r.val) := by
  unfold result2
  rw [endState_eq]
  refine diagonal ?_ _ _ (fun j => ?_) (fun j => ?_)
  · refine chunks (S := S) (V := V) (i 2).val (Nat.le_add_right _ _) (fun n => head2 (loopState c i arg3 harg3 arg4 harg4 arg5 harg5 arg6 harg6 x0 x1 x2 n)) rfl
      (fun k => if hk : k < (k0_t1_loop i).trips then k0_pay4 (arg4.view.readAt (Elt Ideal) (Rect.unit (s := S1x4x4096x256) (k0_off3 i ⟨k, hk⟩) S1x1x512x256.size (k0_off3_inb i ⟨k, hk⟩)).toLoadRect (harg4.unread x1))
            (arg3.view.readAt (Elt Ideal) (Rect.unit (s := S1x4x512x256) ![0, 2, 0, 0] S1x1x512x256.size inb_S1x4x512x256_S1x1x512x256_0_2_0_0).toLoadRect (harg3.unread x0)) else fun _ => 0)
      (fun k => if hk : k < (k0_t1_loop i).trips then arg5.view.readAt (Elt Ideal) (Rect.unit (s := S1x4x8x128x512) (k0_off7 i ⟨k, hk⟩) S1x1x1x128x512.size (k0_off7_inb i ⟨k, hk⟩)).toLoadRect (harg5.unread x2) else fun _ => (0 : EReal))
      (fun k hk => ?_) (fun k hk j => ?_) (fun k hk j => ?_) _ le_rfl
    all_goals have hk' : k < (k0_t1_loop i).trips := by rw [trips1]; exact hk
    · rw [dif_pos hk', dif_pos hk']
      exact (congrArg head2 (st_k0_t1_succ (F := Ideal) Variants.none c none i arg3 harg3 arg4 harg4 arg5 harg5 arg6 harg6 (harg3.unread x0) (harg4.unread x1) (harg5.unread x2) init4 ⟨k, hk'⟩)).trans
        (trip_head2 Variants.none c none i arg3 harg3 arg4 harg4 arg5 harg5 arg6 harg6 _ _ _ ⟨k, hk'⟩ _)
    · rw [dif_pos hk']
      exact chunk_score harg3 harg4 H _ _ _ _ ⟨k, hk.trans (coord_lt i)⟩ (k0_off3_eq i ⟨k, hk'⟩) rfl j
    · rw [dif_pos hk']
      exact (vload_at harg5 x2 _ _ 2 ⟨k, hk.trans (coord_lt i)⟩ (k0_off7_eq i ⟨k, hk'⟩) d j).trans (H.value _ _)
  · exact chunk_score harg3 harg4 H _ _ _ _ (i 2) (k0_off19_eq i) rfl j
  · exact (vload_at harg5 x2 _ _ 2 (i 2) (k0_off23_eq i) d j).trans (H.value _ _)

/-- Head 3's block of the result is causal attention. -/
theorem result3_at (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec Ideal S1x4x512x256 .bf16) (x1 : Vec Ideal S1x4x4096x256 .bf16) (x2 : Vec Ideal S1x4x8x128x512 .bf16) (r : Fin 512) (d : Fin 128) (S : ℕ → ℝ) (V : ℕ → EReal) (H : Named x0 x1 x2 3 r d S V) :
    result3 c i arg3 harg3 arg4 harg4 arg5 harg5 arg6 harg6 x0 x1 x2 (ix3 0 r d) = attend S V (512 * (i 2).val + r.val) := by
  unfold result3
  rw [endState_eq]
  refine diagonal ?_ _ _ (fun j => ?_) (fun j => ?_)
  · refine chunks (S := S) (V := V) (i 2).val (Nat.le_add_right _ _) (fun n => head3 (loopState c i arg3 harg3 arg4 harg4 arg5 harg5 arg6 harg6 x0 x1 x2 n)) rfl
      (fun k => if hk : k < (k0_t1_loop i).trips then k0_pay4 (arg4.view.readAt (Elt Ideal) (Rect.unit (s := S1x4x4096x256) (k0_off4 i ⟨k, hk⟩) S1x1x512x256.size (k0_off4_inb i ⟨k, hk⟩)).toLoadRect (harg4.unread x1))
            (arg3.view.readAt (Elt Ideal) (Rect.unit (s := S1x4x512x256) ![0, 3, 0, 0] S1x1x512x256.size inb_S1x4x512x256_S1x1x512x256_0_3_0_0).toLoadRect (harg3.unread x0)) else fun _ => 0)
      (fun k => if hk : k < (k0_t1_loop i).trips then arg5.view.readAt (Elt Ideal) (Rect.unit (s := S1x4x8x128x512) (k0_off8 i ⟨k, hk⟩) S1x1x1x128x512.size (k0_off8_inb i ⟨k, hk⟩)).toLoadRect (harg5.unread x2) else fun _ => (0 : EReal))
      (fun k hk => ?_) (fun k hk j => ?_) (fun k hk j => ?_) _ le_rfl
    all_goals have hk' : k < (k0_t1_loop i).trips := by rw [trips1]; exact hk
    · rw [dif_pos hk', dif_pos hk']
      exact (congrArg head3 (st_k0_t1_succ (F := Ideal) Variants.none c none i arg3 harg3 arg4 harg4 arg5 harg5 arg6 harg6 (harg3.unread x0) (harg4.unread x1) (harg5.unread x2) init4 ⟨k, hk'⟩)).trans
        (trip_head3 Variants.none c none i arg3 harg3 arg4 harg4 arg5 harg5 arg6 harg6 _ _ _ ⟨k, hk'⟩ _)
    · rw [dif_pos hk']
      exact chunk_score harg3 harg4 H _ _ _ _ ⟨k, hk.trans (coord_lt i)⟩ (k0_off4_eq i ⟨k, hk'⟩) rfl j
    · rw [dif_pos hk']
      exact (vload_at harg5 x2 _ _ 3 ⟨k, hk.trans (coord_lt i)⟩ (k0_off8_eq i ⟨k, hk'⟩) d j).trans (H.value _ _)
  · exact chunk_score harg3 harg4 H _ _ _ _ (i 2) (k0_off20_eq i) rfl j
  · exact (vload_at harg5 x2 _ _ 3 (i 2) (k0_off24_eq i) d j).trans (H.value _ _)

/-! ## The block of the result -/

/-- The block after the four stores, at row `r` and column `128 * h + d`. -/
theorem out_at (c : Dev nD) (i : grid0.Coords) (arg3 : Memref sig .tc .vmem S1x4x512x256 .bf16) (harg3 : arg3.IsWhole) (arg4 : Memref sig .tc .vmem S1x4x4096x256 .bf16) (harg4 : arg4.IsWhole) (arg5 : Memref sig .tc .vmem S1x4x8x128x512 .bf16) (harg5 : arg5.IsWhole) (arg6 : Memref sig .tc .vmem S1x512x512 .f32) (harg6 : arg6.IsWhole) (x0 : Vec Ideal S1x4x512x256 .bf16) (x1 : Vec Ideal S1x4x4096x256 .bf16) (x2 : Vec Ideal S1x4x8x128x512 .bf16) (h : Fin 4) (r : Fin 512) (d : Fin 128) (S : ℕ → ℝ) (V : ℕ → EReal) (H : Named x0 x1 x2 h r d S V)
    (w : Fin 512) (hw : w.val = 128 * h.val + d.val) :
    out0_A_3 c i arg3 harg3 arg4 harg4 arg5 harg5 arg6 harg6 x0 x1 x2 (ix3 0 r w) = attend S V (512 * (i 2).val + r.val) := by
  unfold out0_A_3
  rw [pieces]
  have miss : ∀ (o : ℕ) (inb : ∀ a, (![0, 0, o] : Fin 3 → ℕ) a + S1x512x128.size a ≤ S1x512x512.size a) (g : FVec Ideal S1x512x128 .f32)
      (L : List (View.Piece (Elt Ideal) S1x512x512 .f32)), w.val < o ∨ o + 128 ≤ w.val →
      VO0_3.read (Elt Ideal) (VO0_3.writes (Elt Ideal) VO0_3.junk (⟨Rect.unit (s := S1x512x512) ![0, 0, o] S1x512x128.size inb, g⟩ :: L)) (ix3 0 r w)
        = VO0_3.read (Elt Ideal) (VO0_3.writes (Elt Ideal) VO0_3.junk L) (ix3 0 r w) := by
    intro o inb g L ho
    exact View.read_writes_cons_miss_of_axis _ _ _ _ _ (2 : Fin 3) o 128 rfl rfl rfl ho
  have hit : ∀ (o : ℕ) (inb : ∀ a, (![0, 0, o] : Fin 3 → ℕ) a + S1x512x128.size a ≤ S1x512x512.size a) (g : FVec Ideal S1x512x128 .f32)
      (L : List (View.Piece (Elt Ideal) S1x512x512 .f32)), w.val = o + d.val →
      VO0_3.read (Elt Ideal) (VO0_3.writes (Elt Ideal) VO0_3.junk (⟨Rect.unit (s := S1x512x512) ![0, 0, o] S1x512x128.size inb, g⟩ :: L)) (ix3 0 r w)
        = g (ix3 0 r d) := by
    intro o inb g L ho
    refine View.read_writes_cons_hit_of_coords _ _ _ _ _ _ _ fun a => ?_
    match a with
    | ⟨0, _⟩ => rfl
    | ⟨1, _⟩ => show r.val = 0 + 1 * r.val; omega
    | ⟨2, _⟩ => show w.val = o + 1 * d.val; omega
  match h, H, hw with
  | ⟨3, _⟩, H, hw => exact (hit _ _ _ _ hw).trans (result3_at c i arg3 harg3 arg4 harg4 arg5 harg5 arg6 harg6 x0 x1 x2 r d S V H)
  | ⟨2, _⟩, H, hw => exact (miss _ _ _ _ (by dsimp only at hw; omega)).trans ((hit _ _ _ _ hw).trans (result2_at c i arg3 harg3 arg4 harg4 arg5 harg5 arg6 harg6 x0 x1 x2 r d S V H))
  | ⟨1, _⟩, H, hw => exact (miss _ _ _ _ (by dsimp only at hw; omega)).trans ((miss _ _ _ _ (by dsimp only at hw; omega)).trans ((hit _ _ _ _ hw).trans (result1_at c i arg3 harg3 arg4 harg4 arg5 harg5 arg6 harg6 x0 x1 x2 r d S V H)))
  | ⟨0, _⟩, H, hw => exact (miss _ _ _ _ (by dsimp only at hw; omega)).trans ((miss _ _ _ _ (by dsimp only at hw; omega)).trans ((miss _ _ _ _ (by dsimp only at hw; omega)).trans
      ((hit _ _ _ _ (by dsimp only at hw ⊢; omega)).trans (result0_at c i arg3 harg3 arg4 harg4 arg5 harg5 arg6 harg6 x0 x1 x2 r d S V H))))

end Cert.Attn

end
-- ==== Proof.Array.lean ====
/- The array after the run, at an index: causal attention of the launch's queries, keys and values. -/
module

public import proofs.«01_k».proof.Proof.Gen.KernelIdeal.Value
public import proofs.«01_k».proof.Proof.Point
public import Idealize.ShloMosaic.Lib.Pipeline.ValueKit.Tiles

@[expose] public section

set_option maxRecDepth 16384
set_option maxHeartbeats 1000000

noncomputable section

namespace Cert.Attn

open Cert.KernelIdeal Cert.KernelIdeal.Gen Idealize.ShloMosaic Idealize.ShloMosaic.TcCoe

/-- Which block each window takes at a grid point. -/
theorem idx_facts : ∀ t : Fin cfg0.N,
    (win0_0.index t (0 : Fin 4) = (grid0.coords t 0).val ∧ win0_0.index t (1 : Fin 4) = (grid0.coords t 1).val ∧ win0_0.index t (2 : Fin 4) = (grid0.coords t 2).val ∧ win0_0.index t (3 : Fin 4) = 0)
    ∧ (win0_1.index t (0 : Fin 4) = (grid0.coords t 0).val ∧ win0_1.index t (1 : Fin 4) = (grid0.coords t 1).val ∧ win0_1.index t (2 : Fin 4) = 0 ∧ win0_1.index t (3 : Fin 4) = 0)
    ∧ (win0_2.index t (0 : Fin 5) = (grid0.coords t 0).val ∧ win0_2.index t (1 : Fin 5) = (grid0.coords t 1).val ∧ win0_2.index t (2 : Fin 5) = 0 ∧ win0_2.index t (3 : Fin 5) = 0 ∧ win0_2.index t (4 : Fin 5) = 0)
    ∧ (win0_3.index t (0 : Fin 3) = (grid0.coords t 0).val ∧ win0_3.index t (1 : Fin 3) = (grid0.coords t 2).val ∧ win0_3.index t (2 : Fin 3) = (grid0.coords t 1).val)
    ∧ (cfg0.win 3).flush t = true :=
  (by decide +kernel : ∀ t : Fin grid0.N, _)

/-- Every triple of a batch, a group of heads and a block of queries is a grid point. -/
theorem point_exists : ∀ (b : Fin 4) (g : Fin 2) (i : Fin 8), ∃ t : Fin cfg0.N, (grid0.coords t 0).val = b.val ∧ (grid0.coords t 1).val = g.val ∧ (grid0.coords t 2).val = i.val :=
  (by decide +kernel : ∀ (b : Fin 4) (g : Fin 2) (i : Fin 8), ∃ t : Fin grid0.N, (grid0.coords t 0).val = b.val ∧ (grid0.coords t 1).val = g.val ∧ (grid0.coords t 2).val = i.val)

variable (m : (ℓ : Loc nD τ sig) → Buf (Elt Ideal) ℓ)

/-- The launch's queries, keys and values. -/
abbrev queries (c : Dev nD) : FVec Ideal S4x8x4096x256 .bf16 := m ((c : Thread nD τ).loc main_arg0)

abbrev keys (c : Dev nD) : FVec Ideal S4x8x4096x256 .bf16 := m ((c : Thread nD τ).loc main_arg1)

abbrev values (c : Dev nD) : FVec Ideal S4x8x8x128x512 .bf16 := m ((c : Thread nD τ).loc main_arg2)

theorem queries_at (c : Dev nD) (t : Fin cfg0.N) (h : Fin 4) (r : Fin 512) (e : Fin 256) (B : Fin 4) (H : Fin 8) (s : Fin 4096)
    (hB : B.val = (grid0.coords t 0).val) (hH : H.val = 4 * (grid0.coords t 1).val + h.val) (hs : s.val = 512 * (grid0.coords t 2).val + r.val) :
    iblk m c 0 t (ix4 0 h r e) = queries m c (ix4 B H s e) := by
  obtain ⟨⟨e0, e1, e2, e3⟩, -⟩ := idx_facts t
  show V m c main_arg0 (((cfg0.win 0).blk t).view.emb (ix4 0 h r e)) = _
  rw [show ((cfg0.win 0).blk t).view.emb (ix4 0 h r e) = (ix4 B H s e : S4x8x4096x256.Idx) from by
    funext a; apply Fin.ext
    match a with
    | ⟨0, _⟩ => show win0_0.index t (0 : Fin 4) * 1 + 1 * 0 = B.val; omega
    | ⟨1, _⟩ => show win0_0.index t (1 : Fin 4) * 4 + 1 * h.val = H.val; omega
    | ⟨2, _⟩ => show win0_0.index t (2 : Fin 4) * 512 + 1 * r.val = s.val; omega
    | ⟨3, _⟩ => show win0_0.index t (3 : Fin 4) * 256 + 1 * e.val = e.val; omega]

theorem keys_at (c : Dev nD) (t : Fin cfg0.N) (h : Fin 4) (s : Fin 4096) (e : Fin 256) (B : Fin 4) (H : Fin 8)
    (hB : B.val = (grid0.coords t 0).val) (hH : H.val = 4 * (grid0.coords t 1).val + h.val) :
    iblk m c 1 t (ix4 0 h s e) = keys m c (ix4 B H s e) := by
  obtain ⟨-, ⟨e0, e1, e2, e3⟩, -⟩ := idx_facts t
  show V m c main_arg1 (((cfg0.win 1).blk t).view.emb (ix4 0 h s e)) = _
  rw [show ((cfg0.win 1).blk t).view.emb (ix4 0 h s e) = (ix4 B H s e : S4x8x4096x256.Idx) from by
    funext a; apply Fin.ext
    match a with
    | ⟨0, _⟩ => show win0_1.index t (0 : Fin 4) * 1 + 1 * 0 = B.val; omega
    | ⟨1, _⟩ => show win0_1.index t (1 : Fin 4) * 4 + 1 * h.val = H.val; omega
    | ⟨2, _⟩ => show win0_1.index t (2 : Fin 4) * 4096 + 1 * s.val = s.val; omega
    | ⟨3, _⟩ => show win0_1.index t (3 : Fin 4) * 256 + 1 * e.val = e.val; omega]

theorem values_at (c : Dev nD) (t : Fin cfg0.N) (h : Fin 4) (k : Fin 8) (d : Fin 128) (j : Fin 512) (B : Fin 4) (H : Fin 8)
    (hB : B.val = (grid0.coords t 0).val) (hH : H.val = 4 * (grid0.coords t 1).val + h.val) :
    iblk m c 2 t (ix5 0 h k d j) = values m c (ix5 B H k d j) := by
  obtain ⟨-, -, ⟨e0, e1, e2, e3, e4⟩, -⟩ := idx_facts t
  show V m c main_arg2 (((cfg0.win 2).blk t).view.emb (ix5 0 h k d j)) = _
  rw [show ((cfg0.win 2).blk t).view.emb (ix5 0 h k d j) = (ix5 B H k d j : S4x8x8x128x512.Idx) from by
    funext a; apply Fin.ext
    match a with
    | ⟨0, _⟩ => show win0_2.index t (0 : Fin 5) * 1 + 1 * 0 = B.val; omega
    | ⟨1, _⟩ => show win0_2.index t (1 : Fin 5) * 4 + 1 * h.val = H.val; omega
    | ⟨2, _⟩ => show win0_2.index t (2 : Fin 5) * 8 + 1 * k.val = k.val; omega
    | ⟨3, _⟩ => show win0_2.index t (3 : Fin 5) * 128 + 1 * d.val = d.val; omega
    | ⟨4, _⟩ => show win0_2.index t (4 : Fin 5) * 512 + 1 * j.val = j.val; omega]

/-- The array after the run, at a position, a head and a value dimension. -/
theorem array_at (c : Dev nD) (b : Fin 4) (s : Fin 4096) (h : Fin 8) (d : Fin 128) (w : Fin 1024) (hw : w.val = 128 * h.val + d.val) (S : ℕ → ℝ) (V : ℕ → EReal)
    (hS : ∀ t : Fin 4096, ∑ e : Fin 256, keys m c (ix4 b h t e) * queries m c (ix4 b h s e) = ((S t.val : ℝ) : EReal))
    (hV : ∀ (k : Fin 8) (j : Fin 512), values m c (ix5 b h k d j) = V (512 * k.val + j.val)) :
    (dats m 0 c).arrAt 3 cfg0.N (ix3 b s w) = attend S V s.val := by
  obtain ⟨t, c0, c1, c2⟩ := point_exists b ⟨h.val / 4, by omega⟩ ⟨s.val / 512, by omega⟩
  dsimp only at c1 c2
  obtain ⟨-, -, -, ⟨e0, e1, e2⟩, hf⟩ := idx_facts t
  have hb := congrFun (Cert.KernelIdeal.Value.blocks3 m c t hf) (ix3 0 ⟨s.val % 512, by omega⟩ ⟨w.val % 512, by omega⟩)
  rw [Cert.KernelIdeal.Value.flushed3_A] at hb
  have he : ((cfg0.win 3).blk t).view.emb (ix3 0 ⟨s.val % 512, by omega⟩ ⟨w.val % 512, by omega⟩) = (ix3 b s w : S4x4096x1024.Idx) := by
    funext a; apply Fin.ext
    match a with
    | ⟨0, _⟩ => show win0_3.index t (0 : Fin 3) * 1 + 1 * 0 = b.val; omega
    | ⟨1, _⟩ => show win0_3.index t (1 : Fin 3) * 512 + 1 * (s.val % 512) = s.val; omega
    | ⟨2, _⟩ => show win0_3.index t (2 : Fin 3) * 512 + 1 * (w.val % 512) = w.val; omega
  have hN : Named (iblk m c 0 t) (iblk m c 1 t) (iblk m c 2 t) ⟨h.val % 4, by omega⟩ ⟨s.val % 512, by omega⟩ d S V := by
    refine ⟨fun g => ?_, fun k j => ?_⟩
    · rw [← hS g]
      refine Finset.sum_congr rfl fun e _ => ?_
      rw [keys_at m c t _ g e b h c0.symm (by dsimp only; omega), queries_at m c t _ _ e b h s c0.symm (by dsimp only; omega) (by dsimp only; omega)]
    · rw [values_at m c t _ k d j b h c0.symm (by dsimp only; omega), hV]
  have ho := out_at c (grid0.coords t) (ms0_0 t) (hs0_0 t) (ms0_1 t) (hs0_1 t) (ms0_2 t) (hs0_2 t) (ms0_3 t) (hs0_3 t) (iblk m c 0 t) (iblk m c 1 t) (iblk m c 2 t)
    ⟨h.val % 4, by omega⟩ ⟨s.val % 512, by omega⟩ d S V hN ⟨w.val % 512, by omega⟩ (by dsimp only; omega)
  rw [show 512 * (grid0.coords t 2).val + s.val % 512 = s.val by omega] at ho
  refine Eq.trans ?_ (hb.trans ho)
  exact congrArg ((dats m 0 c).arrAt 3 cfg0.N) he.symm

end Cert.Attn

end
-- ==== Proof.RefStages.lean ====
/- The reference's composed term, cut into four stages, and each stage read at an index. -/
module

public import proofs.«01_k».proof.Proof.Gen.ReferenceIdeal.Run
public import Idealize.ShloMosaic.Lib.Pointwise

@[expose] public section

set_option maxRecDepth 16384
set_option maxHeartbeats 1000000

noncomputable section

namespace Cert.Attn.Ref

open Cert.ReferenceIdeal Cert.ReferenceIdeal.Gen Idealize.ShloMosaic Idealize.ShloMosaic.TcCoe

/-- The scores: the inner products times the logarithm of two. -/
def scores (q k : FVec Ideal S4x8x4096x256 .bf16) : FVec Ideal S4x8x4096x4096 .f32 :=
  mulf (Host.dotGeneral dot_S4x8x4096x256_S4x8x4096x256_S4x8x4096x4096_3_3_2_2_01_01 none (extf .f32 q bitsLt_bf16_f32) (extf .f32 k bitsLt_bf16_f32))
    (broadcastInDim S4x8x4096x4096 ![] bcast_S_S4x8x4096x4096 (Host.log (constant S_ .f32 0x40000000#32)))

/-- The scores with the later keys at minus infinity. -/
def masked (s : FVec Ideal S4x8x4096x4096 .f32) : FVec Ideal S4x8x4096x4096 .f32 :=
  select (broadcastInDim S4x8x4096x4096 ![0, 1, 2, 3] bcast_S1x1x4096x4096_S4x8x4096x4096_0_1_2_3
      (broadcastInDim S1x1x4096x4096 ![2, 3] bcast_S4096x4096_S1x1x4096x4096_2_3
        (cmpi .sle (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0))))))
    s (broadcastInDim S4x8x4096x4096 ![] bcast_S_S4x8x4096x4096 (id (constant S_ .f32 0xFF800000#32)))

/-- A row's scores folded by the larger of two. -/
def rowFold (s : FVec Ideal S4x8x4096x4096 .f32) : FVec Ideal S4x8x4096 .f32 :=
  Host.reduce FloatOps.maximumf s (constant S_ .f32 0xFF800000#32) reducesTo_S4x8x4096x4096_S4x8x4096_d3 h_S_

/-- The larger of minus infinity and a number of each row. -/
def capped (y : FVec Ideal S4x8x4096 .f32) : FVec Ideal S4x8x4096 .f32 :=
  maximumf (broadcastInDim S4x8x4096 ![] bcast_S_S4x8x4096 (constant S_ .f32 0xFF800000#32)) y

/-- A row's largest score. -/
def rowMax (s : FVec Ideal S4x8x4096x4096 .f32) : FVec Ideal S4x8x4096 .f32 := capped (rowFold s)

/-- The exponentials of the scores less the row's largest. -/
def powers (s : FVec Ideal S4x8x4096x4096 .f32) (t : FVec Ideal S4x8x4096 .f32) : FVec Ideal S4x8x4096x4096 .f32 :=
  Host.exp (subf s (broadcastInDim S4x8x4096x4096 ![0, 1, 2, 3] bcast_S4x8x4096x1_S4x8x4096x4096_0_1_2_3
    (broadcastInDim S4x8x4096x1 ![0, 1, 2] bcast_S4x8x4096_S4x8x4096x1_0_1_2 t)))

/-- The exponentials over their row's sum. -/
def weights (p : FVec Ideal S4x8x4096x4096 .f32) : FVec Ideal S4x8x4096x4096 .f32 :=
  Host.divf p (broadcastInDim S4x8x4096x4096 ![0, 1, 2, 3] bcast_S4x8x4096x1_S4x8x4096x4096_0_1_2_3
    (broadcastInDim S4x8x4096x1 ![0, 1, 2] bcast_S4x8x4096_S4x8x4096x1_0_1_2
      (Host.reduceAdd p (constant S_ .f32 0x00000000#32) reducesTo_S4x8x4096x4096_S4x8x4096_d3 h_S_)))

/-- The values, one row for each key. -/
def rows (v : FVec Ideal S4x8x8x128x512 .bf16) : FVec Ideal S4x8x4096x128 .f32 :=
  shapeCast S4x8x4096x128 (transpose S4x8x8x512x128 [0, 1, 2, 4, 3] (extf .f32 v bitsLt_bf16_f32) transposes_S4x8x8x128x512_S4x8x8x512x128_0_1_2_4_3)
    shapeCasts_S4x8x8x512x128_S4x8x4096x128

/-- The weighted sums of the values. -/
def sums (v : FVec Ideal S4x8x4096x128 .f32) (p : FVec Ideal S4x8x4096x4096 .f32) : FVec Ideal S4x8x128x4096 .f32 :=
  Host.dotGeneral dot_S4x8x4096x128_S4x8x4096x4096_S4x8x128x4096_2_3_3_2_01_01 none v p

/-- The weighted sums, one row for each position and the heads side by side. -/
def joined (o : FVec Ideal S4x8x128x4096 .f32) : FVec Ideal S4x4096x1024 .f32 :=
  shapeCast S4x4096x1024 (transpose S4x4096x8x128 [0, 3, 1, 2] o transposes_S4x8x128x4096_S4x4096x8x128_0_3_1_2) shapeCasts_S4x4096x8x128_S4x4096x1024

theorem res_stages (m : (ℓ : Loc nD τ sig) → Buf (Elt Ideal) ℓ) (c : Dev nD) :
    Cert.ReferenceIdeal.Value.res_out0 m c
      = joined (sums (rows (m ((c.tc : Thread nD τ).loc main_arg2)))
          (weights (powers (masked (scores (m ((c.tc : Thread nD τ).loc main_arg0)) (m ((c.tc : Thread nD τ).loc main_arg1))))
            (rowMax (masked (scores (m ((c.tc : Thread nD τ).loc main_arg0)) (m ((c.tc : Thread nD τ).loc main_arg1)))))))) := by
  rfl

end Cert.Attn.Ref

end
-- ==== Proof.RefAt.lean ====
/- The reference's result at an index: causal attention. -/
module

public import proofs.«01_k».proof.Proof.Online
public import proofs.«01_k».proof.Proof.RefStages
public import Idealize.ShloMosaic.Lib.WordCmp

@[expose] public section

set_option maxRecDepth 16384
set_option maxHeartbeats 1000000

noncomputable section

namespace Cert.Attn.Ref

open Cert.ReferenceIdeal Cert.ReferenceIdeal.Gen Idealize.ShloMosaic Idealize.ShloMosaic.TcCoe

theorem two_bits : Ideal.ofBits .f32 0x40000000#32 = ((2 : ℝ) : EReal) := by
  simp [Ideal.ofBits, Ideal.ieee, -EReal.coe_mul]; try norm_num

theorem bottom_bits : Ideal.ofBits .f32 0xFF800000#32 = ⊥ := by
  simp [Ideal.ofBits, Ideal.ieee]

theorem log_two : Ideal.log (Ideal.ofBits .f32 0x40000000#32) = ((Real.log 2 : ℝ) : EReal) := by
  rw [two_bits, Ideal.log_coe, if_neg (by norm_num)]

theorem scores_at (q k : FVec Ideal S4x8x4096x256 .bf16) (b : Fin 4) (h : Fin 8) (s t : Fin 4096) :
    scores q k (ix4 b h s t) = (∑ e, q (ix4 b h s e) * k (ix4 b h t e)) * ((Real.log 2 : ℝ) : EReal) := by
  pointwise [scores]
  rw [log_two]

theorem masked_at (x : FVec Ideal S4x8x4096x4096 .f32) (b : Fin 4) (h : Fin 8) (s t : Fin 4096) :
    masked x (ix4 b h s t) = if t.val ≤ s.val then x (ix4 b h s t) else ⊥ := by
  pointwise [masked]
  have hw : IntOp.cmpi CmpIPredicate.sle (BitVec.ofNat 32 t.val) (BitVec.ofNat 32 s.val) = BitVec.ofBool (decide (t.val ≤ s.val)) := by
    word_cmp
  rw [hw]
  have hb : (id (constant (F := Ideal) S_ FTy.f32 4286578688#32) ix0 : EReal) = ⊥ := bottom_bits
  rw [hb]
  by_cases hts : t.val ≤ s.val <;> simp [hts, Scalar.select]

theorem powers_at (x : FVec Ideal S4x8x4096x4096 .f32) (y : FVec Ideal S4x8x4096 .f32) (b : Fin 4) (h : Fin 8) (s t : Fin 4096) :
    powers x y (ix4 b h s t) = Ideal.exp (x (ix4 b h s t) - y (ix3 b h s)) := by
  pointwise [powers]

theorem weights_at (x : FVec Ideal S4x8x4096x4096 .f32) (b : Fin 4) (h : Fin 8) (s t : Fin 4096) :
    weights x (ix4 b h s t) = Ideal.div (x (ix4 b h s t)) (∑ i, x (ix4 b h s i)) := by
  pointwise [weights]

theorem rows_at (v : FVec Ideal S4x8x8x128x512 .bf16) (b : Fin 4) (h : Fin 8) (t : Fin 4096) (d : Fin 128) :
    rows v (ix4 b h t d) = v (ix5 b h ⟨t.val / 512, by omega⟩ d ⟨t.val % 512, by omega⟩) := by
  pointwise [rows]

theorem sums_at (v : FVec Ideal S4x8x4096x128 .f32) (p : FVec Ideal S4x8x4096x4096 .f32) (b : Fin 4) (h : Fin 8) (s : Fin 4096) (d : Fin 128) :
    sums v p (ix4 b h d s) = ∑ t, v (ix4 b h t d) * p (ix4 b h s t) := by
  pointwise [sums]

theorem joined_at (o : FVec Ideal S4x8x128x4096 .f32) (b : Fin 4) (s : Fin 4096) (h : Fin 8) (d : Fin 128) (w : Fin 1024) (hw : w.val = 128 * h.val + d.val) :
    joined o (ix3 b s w) = o (ix4 b h d s) := by
  pointwise [joined]
  congr 2
  · apply Fin.ext; show w.val / 128 = h.val; omega
  · apply Fin.ext; show w.val % 128 = d.val; omega

theorem fold_at (x : FVec Ideal S4x8x4096x4096 .f32) (j : S4x8x4096.Idx) :
    rowFold x j = (Finset.univ.filter fun i => reducesTo_S4x8x4096x4096_S4x8x4096_d3.drop i = j).fold (max : EReal → EReal → EReal) (Ideal.ofBits .f32 0xFF800000#32) x :=
  Host.reduce_eq_fold (α := EReal) (max : EReal → EReal → EReal) x (constant (F := Ideal) S_ .f32 0xFF800000#32) _ h_S_ _

theorem capped_at (y : FVec Ideal S4x8x4096 .f32) (b : Fin 4) (h : Fin 8) (s : Fin 4096) :
    capped y (ix3 b h s) = max (Ideal.ofBits .f32 0xFF800000#32) (y (ix3 b h s)) := by
  pointwise [capped]

/-- The largest of a row of numbers below plus infinity, the first of them real, is real. -/
theorem rowMax_real (x : FVec Ideal S4x8x4096x4096 .f32) (hx : ∀ i, x i ≠ ⊤) (b : Fin 4) (h : Fin 8) (s : Fin 4096) (h0 : x (ix4 b h s 0) ≠ ⊥) :
    ∃ M : ℝ, rowMax x (ix3 b h s) = (M : EReal) := by
  have hd : reducesTo_S4x8x4096x4096_S4x8x4096_d3.drop (ix4 b h s 0) = ix3 b h s := by
    funext a
    match a with
    | ⟨0, _⟩ => rfl
    | ⟨1, _⟩ => rfl
    | ⟨2, _⟩ => rfl
  unfold rowMax
  rw [capped_at, fold_at, bottom_bits, max_eq_right bot_le]
  generalize hs : (Finset.univ.filter fun i => reducesTo_S4x8x4096x4096_S4x8x4096_d3.drop i = ix3 b h s) = A
  have h0m : (ix4 b h s 0 : S4x8x4096x4096.Idx) ∈ A := by rw [← hs]; exact Finset.mem_filter.mpr ⟨Finset.mem_univ _, hd⟩
  have h1 : A.fold max ⊥ x ≠ ⊥ := fun hh => h0 (le_bot_iff.mp (hh ▸ (Finset.le_fold_max (b := ⊥) (f := x) (s := A) (x (ix4 b h s 0))).mpr (.inr ⟨_, h0m, le_refl _⟩)))
  have h2 : A.fold max ⊥ x < ⊤ := (Finset.fold_max_lt (b := ⊥) (f := x) (s := A) (c := ⊤)).mpr ⟨bot_lt_top, fun j _ => lt_top_iff_ne_top.mpr (hx j)⟩
  exact ⟨(A.fold max ⊥ x).toReal, (EReal.coe_toReal h2.ne h1).symm⟩

/-- A sum over all the keys of what the causal mask keeps. -/
theorem sum_causal {M : Type} [AddCommMonoid M] (s : Fin 4096) (f : ℕ → M) :
    ∑ t : Fin 4096, (if t.val ≤ s.val then f t.val else 0) = ∑ j ∈ Finset.range (s.val + 1), f j := by
  rw [Fin.sum_univ_eq_sum_range (fun t => if t ≤ s.val then f t else 0) 4096, ← Finset.sum_filter]
  refine Finset.sum_congr ?_ fun _ _ => rfl
  exact seen_eq s.isLt

theorem exp_shift (x M : ℝ) : Ideal.exp (((x * Real.log 2 : ℝ) : EReal) - (M : EReal)) = ((pw (x - M / Real.log 2) : ℝ) : EReal) := by
  have hl : Real.log 2 ≠ 0 := (Real.log_pos (by norm_num)).ne'
  show ((Real.exp (x * Real.log 2 - M) : ℝ) : EReal) = _
  congr 1
  show _ = (2 : ℝ) ^ (x - M / Real.log 2)
  rw [Real.rpow_def_of_pos (by norm_num)]
  congr 1
  field_simp

/-- The reference's result at a position, a head and a value dimension. -/
theorem result_at (x0 x1 : FVec Ideal S4x8x4096x256 .bf16) (x2 : FVec Ideal S4x8x8x128x512 .bf16) (h0 : ∀ i, ∃ r : ℝ, x0 i = (r : EReal)) (h1 : ∀ i, ∃ r : ℝ, x1 i = (r : EReal))
    (b : Fin 4) (s : Fin 4096) (h : Fin 8) (d : Fin 128) (w : Fin 1024) (hw : w.val = 128 * h.val + d.val) (S : ℕ → ℝ) (V : ℕ → EReal)
    (hS : ∀ t : Fin 4096, ∑ e, x0 (ix4 b h s e) * x1 (ix4 b h t e) = ((S t.val : ℝ) : EReal))
    (hV : ∀ t : Fin 4096, x2 (ix5 b h ⟨t.val / 512, by omega⟩ d ⟨t.val % 512, by omega⟩) = V t.val) :
    joined (sums (rows x2) (weights (powers (masked (scores x0 x1)) (rowMax (masked (scores x0 x1)))))) (ix3 b s w) = attend S V s.val := by
  choose r0 e0 using h0
  choose r1 e1 using h1
  have hsc : ∀ (b : Fin 4) (h : Fin 8) (s t : Fin 4096), ∃ r : ℝ, scores x0 x1 (ix4 b h s t) = (r : EReal) := by
    intro b h s t
    refine ⟨(∑ e, r0 (ix4 b h s e) * r1 (ix4 b h t e)) * Real.log 2, ?_⟩
    rw [scores_at, EReal.coe_mul, coe_sum_real]
    simp only [e0, e1, EReal.coe_mul]
  have htop : ∀ i, masked (scores x0 x1) i ≠ ⊤ := by
    intro i
    obtain ⟨b, h, s, t, rfl⟩ : ∃ (b : Fin 4) (h : Fin 8) (s t : Fin 4096), i = ix4 b h s t := ⟨_, _, _, _, eq_ix4 i⟩
    rw [masked_at]
    split
    · obtain ⟨r, hr⟩ := hsc b h s t
      rw [hr]; exact EReal.coe_ne_top r
    · exact bot_ne_top
  have hm : ∀ t : Fin 4096, masked (scores x0 x1) (ix4 b h s t) = if t.val ≤ s.val then ((S t.val * Real.log 2 : ℝ) : EReal) else ⊥ := by
    intro t
    rw [masked_at, scores_at, hS, EReal.coe_mul]
  obtain ⟨M, hM⟩ := rowMax_real _ htop b h s (by rw [hm]; exact (if_pos (Nat.zero_le _)).trans_ne (EReal.coe_ne_bot _))
  have hp : ∀ t : Fin 4096, powers (masked (scores x0 x1)) (rowMax (masked (scores x0 x1))) (ix4 b h s t)
      = ((if t.val ≤ s.val then pw (S t.val - M / Real.log 2) else 0 : ℝ) : EReal) := by
    intro t
    rw [powers_at, hm, hM]
    split
    · exact exp_shift _ _
    · rfl
  have hL : ∑ t, powers (masked (scores x0 x1)) (rowMax (masked (scores x0 x1))) (ix4 b h s t)
      = ((∑ j ∈ Finset.range (s.val + 1), pw (S j - M / Real.log 2) : ℝ) : EReal) := by
    simp only [hp]
    rw [← coe_sum_real, sum_causal s fun j => pw (S j - M / Real.log 2)]
  have hpos : 0 < ∑ j ∈ Finset.range (s.val + 1), pw (S j - M / Real.log 2) := Finset.sum_pos (fun _ _ => pw_pos _) ⟨0, by simp⟩
  rw [joined_at _ b s h d w hw, sums_at]
  unfold attend
  rw [← sum_causal s]
  refine Finset.sum_congr rfl fun t _ => ?_
  rw [rows_at, hV, weights_at, hL, hp, Ideal.div_coe hpos.ne']
  split
  · rw [← weight_shift S s.val t.val (M / Real.log 2), ← EReal.coe_mul, mul_one_div]
  · rw [EReal.coe_zero, zero_mul, mul_zero]

end Cert.Attn.Ref

end
-- ==== Proof.Finite.lean ====
/- The precondition: every element of the queries and the keys is a real number. -/
module

public import proofs.«01_k».proof.Pre_finite_scores
public import Idealize.ShloMosaic.Lib.ReduceAll
public import Idealize.ShloMosaic.Lib.Affine
public import Idealize.ShloMosaic.Lib.Pointwise

@[expose] public section

set_option maxRecDepth 16384
set_option maxHeartbeats 1000000

noncomputable section

namespace Cert.Attn

open Cert.Pre_finite_scores Cert.Pre_finite_scores.Facts Idealize.ShloMosaic

theorem top_bits : Ideal.ofBits .f32 0x7F800000#32 = ⊤ := by simp [Ideal.ofBits, Ideal.ieee]

/-- A number whose absolute value is below plus infinity is real. -/
theorem real_of_abs_lt (x : EReal) (h : max x (-x) < ⊤) : ∃ r : ℝ, x = (r : EReal) := by
  induction x with
  | bot => simp at h
  | top => simp at h
  | coe r => exact ⟨r, rfl⟩

variable [Facts]

/-- The comparison that the precondition makes at each element. -/
def below (x : FVec Ideal S4x8x4096x256 .bf16) : IVec S4x8x4096x256 1 :=
  cmpf .olt (Host.absf (extf .f32 x bitsLt_bf16_f32)) (broadcastInDim S4x8x4096x256 ![] bcast_S_S4x8x4096x256 (constant (F := Ideal) S_ .f32 0x7F800000#32))

theorem below_at (x : FVec Ideal S4x8x4096x256 .bf16) (b : Fin 4) (h : Fin 8) (s : Fin 4096) (e : Fin 256) (hx : below x (ix4 b h s e) = 1#1) :
    ∃ r : ℝ, x (ix4 b h s e) = (r : EReal) := by
  have hc : below x (ix4 b h s e) = BitVec.ofBool (decide (max (x (ix4 b h s e)) (-x (ix4 b h s e)) < ⊤)) := by
    rw [← top_bits]
    pointwise [below]
    rfl
  refine real_of_abs_lt _ ?_
  rw [hc] at hx
  by_contra hn
  rw [decide_eq_false hn] at hx
  exact absurd hx (by decide)

theorem finite_real (x0 x1 : FVec Ideal S4x8x4096x256 .bf16) (x2 : FVec Ideal S4x8x8x128x512 .bf16)
    (hp : fn (F := Ideal) x0 x1 x2 = fun _ => 1#1) : (∀ i, ∃ r : ℝ, x0 i = (r : EReal)) ∧ ∀ i, ∃ r : ℝ, x1 i = (r : EReal) := by
  have hp' : IntOp.andi (Host.reduce IntOp.andi (below x0) (constantI S_ 1 1#1) reducesTo_S4x8x4096x256_S_d0_1_2_3 h_S_ ix0)
      (Host.reduce IntOp.andi (below x1) (constantI S_ 1 1#1) reducesTo_S4x8x4096x256_S_d0_1_2_3 h_S_ ix0) = 1#1 := congrFun hp ix0
  obtain ⟨h0, h1⟩ := IntOp.andi_eq_one.mp hp'
  constructor
  · intro i
    have := Host.reduce_andi_all _ _ _ _ _ h0 i
    obtain ⟨b, h, s, e, rfl⟩ : ∃ (b : Fin 4) (h : Fin 8) (s : Fin 4096) (e : Fin 256), i = ix4 b h s e := ⟨_, _, _, _, eq_ix4 i⟩
    exact below_at x0 b h s e this
  · intro i
    have := Host.reduce_andi_all _ _ _ _ _ h1 i
    obtain ⟨b, h, s, e, rfl⟩ : ∃ (b : Fin 4) (h : Fin 8) (s : Fin 4096) (e : Fin 256), i = ix4 b h s e := ⟨_, _, _, _, eq_ix4 i⟩
    exact below_at x1 b h s e this

end Cert.Attn

end
-- ==== Proof.WinFinite.lean ====
/- The window attention's precondition: every sink, query, key and bias is a real number. -/
module

public import proofs.«01_k».proof.Pre_finite_operands
public import proofs.«01_k».proof.Proof.Finite

@[expose] public section

set_option maxRecDepth 16384
set_option maxHeartbeats 1000000

noncomputable section

namespace Cert.Win

open Cert.Pre_finite_operands Cert.Pre_finite_operands.Facts Idealize.ShloMosaic

variable [Facts]

/-- What the comparison with plus infinity says of a number. -/
theorem real_of_less (x : EReal) (h : BitVec.ofBool (decide (max x (-x) < ⊤)) = 1#1) : ∃ r : ℝ, x = (r : EReal) := by
  refine Cert.Attn.real_of_abs_lt x ?_
  by_contra hn
  rw [decide_eq_false hn] at h
  exact absurd h (by decide)

/-! ## The comparisons that the precondition makes at each element -/

def sinkBelow (x : FVec Ideal S16 .f32) : IVec S16 1 :=
  cmpf .olt (Host.absf x) (broadcastInDim S16 ![] bcast_S_S16 (constant (F := Ideal) S_ .f32 0x7F800000#32))

def queryBelow (x : FVec Ideal S4x4096x1024 .bf16) : IVec S4x4096x1024 1 :=
  cmpf .olt (Host.absf (extf .f32 x bitsLt_bf16_f32)) (broadcastInDim S4x4096x1024 ![] bcast_S_S4x4096x1024 (constant (F := Ideal) S_ .f32 0x7F800000#32))

def keyBelow (x : FVec Ideal S4x4096x256 .bf16) : IVec S4x4096x256 1 :=
  cmpf .olt (Host.absf (extf .f32 x bitsLt_bf16_f32)) (broadcastInDim S4x4096x256 ![] bcast_S_S4x4096x256 (constant (F := Ideal) S_ .f32 0x7F800000#32))

def tableBelow (x : FVec Ideal S32x16 .f32) : IVec S32x16 1 :=
  cmpf .olt (Host.absf x) (broadcastInDim S32x16 ![] bcast_S_S32x16 (constant (F := Ideal) S_ .f32 0x7F800000#32))

theorem sinkBelow_at (x : FVec Ideal S16 .f32) (h : Fin 16) (hx : sinkBelow x (ix1 h) = 1#1) : ∃ r : ℝ, x (ix1 h) = (r : EReal) := by
  refine real_of_less _ (Eq.trans ?_ hx)
  rw [← Cert.Attn.top_bits]
  pointwise [sinkBelow]
  rfl

theorem queryBelow_at (x : FVec Ideal S4x4096x1024 .bf16) (b : Fin 4) (s : Fin 4096) (w : Fin 1024) (hx : queryBelow x (ix3 b s w) = 1#1) :
    ∃ r : ℝ, x (ix3 b s w) = (r : EReal) := by
  refine real_of_less _ (Eq.trans ?_ hx)
  rw [← Cert.Attn.top_bits]
  pointwise [queryBelow]
  rfl

theorem keyBelow_at (x : FVec Ideal S4x4096x256 .bf16) (b : Fin 4) (s : Fin 4096) (w : Fin 256) (hx : keyBelow x (ix3 b s w) = 1#1) :
    ∃ r : ℝ, x (ix3 b s w) = (r : EReal) := by
  refine real_of_less _ (Eq.trans ?_ hx)
  rw [← Cert.Attn.top_bits]
  pointwise [keyBelow]
  rfl

theorem tableBelow_at (x : FVec Ideal S32x16 .f32) (u : Fin 32) (h : Fin 16) (hx : tableBelow x (ix2 u h) = 1#1) : ∃ r : ℝ, x (ix2 u h) = (r : EReal) := by
  refine real_of_less _ (Eq.trans ?_ hx)
  rw [← Cert.Attn.top_bits]
  pointwise [tableBelow]
  rfl

theorem finite_real (x0 : FVec Ideal S16 .f32) (x1 : FVec Ideal S4x4096x1024 .bf16) (x2 x3 : FVec Ideal S4x4096x256 .bf16) (x4 : IVec S4x4096 32) (x5 : FVec Ideal S32x16 .f32)
    (hp : fn (F := Ideal) x0 x1 x2 x3 x4 x5 = fun _ => 1#1) :
    (∀ h, ∃ r : ℝ, x0 (ix1 h) = (r : EReal)) ∧ (∀ b s w, ∃ r : ℝ, x1 (ix3 b s w) = (r : EReal)) ∧ (∀ b s w, ∃ r : ℝ, x2 (ix3 b s w) = (r : EReal))
      ∧ ∀ u h, ∃ r : ℝ, x5 (ix2 u h) = (r : EReal) := by
  have hp' : IntOp.andi (IntOp.andi (IntOp.andi (Host.reduce IntOp.andi (sinkBelow x0) (constantI S_ 1 1#1) reducesTo_S16_S_d0 h_S_ ix0)
      (Host.reduce IntOp.andi (queryBelow x1) (constantI S_ 1 1#1) reducesTo_S4x4096x1024_S_d0_1_2 h_S_ ix0))
      (Host.reduce IntOp.andi (keyBelow x2) (constantI S_ 1 1#1) reducesTo_S4x4096x256_S_d0_1_2 h_S_ ix0))
      (Host.reduce IntOp.andi (tableBelow x5) (constantI S_ 1 1#1) reducesTo_S32x16_S_d0_1 h_S_ ix0) = 1#1 := congrFun hp ix0
  obtain ⟨h012, h3⟩ := IntOp.andi_eq_one.mp hp'
  obtain ⟨h01, h2⟩ := IntOp.andi_eq_one.mp h012
  obtain ⟨h0, h1⟩ := IntOp.andi_eq_one.mp h01
  exact ⟨fun h => sinkBelow_at x0 h (Host.reduce_andi_all _ _ _ _ _ h0 _), fun b s w => queryBelow_at x1 b s w (Host.reduce_andi_all _ _ _ _ _ h1 _),
    fun b s w => keyBelow_at x2 b s w (Host.reduce_andi_all _ _ _ _ _ h2 _), fun u h => tableBelow_at x5 u h (Host.reduce_andi_all _ _ _ _ _ h3 _)⟩

end Cert.Win

end
-- ==== Proof.WinMath.lean ====
/- The sliding-window softmax in exact arithmetic. One query's scores and its sink are real numbers, the values it weighs are
   extended reals. Both programs subtract a real maximum before the exponential; whichever it is, the weighted sum is the same. -/
module

public import proofs.«01_k».proof.Proof.Online

@[expose] public section

noncomputable section

namespace Cert.Win

open Idealize.ShloMosaic Cert.Attn

/-- The keys that the query `q` sees: the last 128, itself included. -/
abbrev near (q : ℕ) : Finset ℕ := (Finset.range (q + 1)).filter (q < · + 128)

/-- The softmax's denominator, with the sink. -/
def mass (S : ℕ → ℝ) (σ : ℝ) (q : ℕ) : ℝ := (∑ k ∈ near q, Real.exp (S k)) + Real.exp σ

/-- The attention's value. -/
def win (S : ℕ → ℝ) (σ : ℝ) (V : ℕ → EReal) (q : ℕ) : EReal :=
  ∑ k ∈ near q, V k * ((Real.exp (S k) / mass S σ q : ℝ) : EReal)

theorem mass_pos (S : ℕ → ℝ) (σ : ℝ) (q : ℕ) : 0 < mass S σ q :=
  add_pos_of_nonneg_of_pos (Finset.sum_nonneg fun _ _ => (Real.exp_pos _).le) (Real.exp_pos _)

/-- The sum of the exponentials after a real number is subtracted from every score. -/
theorem mass_shift (S : ℕ → ℝ) (σ M : ℝ) (q : ℕ) :
    (∑ k ∈ near q, Real.exp (S k - M)) + Real.exp (σ - M) = mass S σ q / Real.exp M := by
  unfold mass
  rw [add_div, Finset.sum_div, Real.exp_sub]
  exact congrArg (· + _) (Finset.sum_congr rfl fun _ _ => Real.exp_sub _ _)

theorem weight_shift (S : ℕ → ℝ) (σ M : ℝ) (q k : ℕ) :
    Real.exp (S k - M) / (mass S σ q / Real.exp M) = Real.exp (S k) / mass S σ q := by
  rw [Real.exp_sub]
  have := (mass_pos S σ q).ne'
  have := (Real.exp_pos M).ne'
  field_simp

/-- A maximum over finitely many numbers, none of them plus infinity, and one real number is real. -/
theorem max_real {n : ℕ} (t : Fin n → EReal) (ht : ∀ j, t j ≠ ⊤) (σ : ℝ) : ∃ M : ℝ, max (Finset.univ.fold max ⊥ t) (σ : EReal) = (M : EReal) := by
  have hT : max (Finset.univ.fold max ⊥ t) (σ : EReal) ≠ ⊤ := by
    refine ne_of_lt (max_lt ?_ (EReal.coe_lt_top σ))
    exact (Finset.fold_max_lt ⊤).mpr ⟨bot_lt_top, fun j _ => lt_top_iff_ne_top.mpr (ht j)⟩
  have hB : max (Finset.univ.fold max ⊥ t) (σ : EReal) ≠ ⊥ :=
    ne_of_gt (lt_of_lt_of_le (EReal.bot_lt_coe σ) (le_max_right _ _))
  exact ⟨_, (EReal.coe_toReal hT hB).symm⟩

/-- Summing over a finite list of keys of which some are the near ones. -/
theorem sum_near {M : Type} [AddCommMonoid M] {n q : ℕ} (p : Fin n → Prop) [DecidablePred p] (key : Fin n → ℕ) (f : ℕ → M)
    (h1 : ∀ j, p j → key j ∈ near q) (h2 : ∀ i j, p i → p j → key i = key j → i = j) (h3 : ∀ k ∈ near q, ∃ j, p j ∧ key j = k) :
    ∑ j : Fin n, (if p j then f (key j) else 0) = ∑ k ∈ near q, f k := by
  rw [← Finset.sum_filter]
  refine Finset.sum_nbij key (fun j hj => h1 j (Finset.mem_filter.mp hj).2) ?_ ?_ (fun _ _ => rfl)
  · intro i hi j hj h
    exact h2 i j (Finset.mem_filter.mp (Finset.mem_coe.mp hi)).2 (Finset.mem_filter.mp (Finset.mem_coe.mp hj)).2 h
  · intro k hk
    obtain ⟨j, hj, e⟩ := h3 k (Finset.mem_coe.mp hk)
    exact ⟨j, Finset.mem_coe.mpr (Finset.mem_filter.mpr ⟨Finset.mem_univ _, hj⟩), e⟩

section

variable {n q : ℕ} (p : Fin n → Prop) [DecidablePred p] (key : Fin n → ℕ) (S : ℕ → ℝ) (σ : ℝ) (V : ℕ → EReal)
  (h1 : ∀ j, p j → key j ∈ near q) (h2 : ∀ i j, p i → p j → key i = key j → i = j) (h3 : ∀ k ∈ near q, ∃ j, p j ∧ key j = k)
  (t v : Fin n → EReal) (ht : ∀ j, t j = if p j then ((S (key j) : ℝ) : EReal) else ⊥) (hv : ∀ j, p j → v j = V (key j))

include ht in
theorem exp_t (M : ℝ) (j : Fin n) : Ideal.exp (t j - (M : EReal)) = if p j then ((Real.exp (S (key j) - M) : ℝ) : EReal) else 0 := by
  rw [ht]
  split
  · rw [← EReal.coe_sub]; rfl
  · rw [EReal.bot_sub]; rfl

include ht in
theorem t_ne_top (j : Fin n) : t j ≠ ⊤ := by
  rw [ht]; split
  · exact EReal.coe_ne_top _
  · exact bot_ne_top

include h1 h2 h3 ht in
theorem mass_t (M : ℝ) : (∑ j, Ideal.exp (t j - (M : EReal))) + Ideal.exp ((σ : EReal) - (M : EReal)) = ((mass S σ q / Real.exp M : ℝ) : EReal) := by
  rw [← mass_shift, EReal.coe_add, coe_sum_real, ← EReal.coe_sub,
    ← sum_near p key (fun k => ((Real.exp (S k - M) : ℝ) : EReal)) h1 h2 h3]
  exact congrArg (· + _) (Finset.sum_congr rfl fun j _ => exp_t p key S t ht M j)

include h1 h2 h3 ht hv in
/-- The weights normalised after the weighted sum. -/
theorem late (M : ℝ) : (∑ j, v j * Ideal.exp (t j - (M : EReal))) * Ideal.div 1 ((∑ j, Ideal.exp (t j - (M : EReal))) + Ideal.exp ((σ : EReal) - (M : EReal)))
      = win S σ V q := by
  have hp : 0 < mass S σ q / Real.exp M := div_pos (mass_pos _ _ _) (Real.exp_pos _)
  rw [mass_t p key S σ h1 h2 h3 t ht M]
  have hd : Ideal.div 1 ((mass S σ q / Real.exp M : ℝ) : EReal) = ((1 / (mass S σ q / Real.exp M) : ℝ) : EReal) := by
    rw [Ideal.div_coe hp.ne', one_mul]
  rw [hd, mul_comm, mul_sum_real _ _ (by positivity), win, ← sum_near p key _ h1 h2 h3]
  refine Finset.sum_congr rfl fun j _ => ?_
  rw [exp_t p key S t ht M j]
  by_cases h : p j
  · rw [if_pos h, if_pos h, hv j h, mul_left_comm, ← EReal.coe_mul, ← weight_shift S σ M]
    congr 2; ring
  · rw [if_neg h, if_neg h, mul_zero, mul_zero]

include h1 h2 h3 ht hv in
/-- The weights normalised before the weighted sum. -/
theorem early (M : ℝ) : (∑ j, v j * Ideal.div (Ideal.exp (t j - (M : EReal))) ((∑ j, Ideal.exp (t j - (M : EReal))) + Ideal.exp ((σ : EReal) - (M : EReal))))
      = win S σ V q := by
  have hp : 0 < mass S σ q / Real.exp M := div_pos (mass_pos _ _ _) (Real.exp_pos _)
  rw [mass_t p key S σ h1 h2 h3 t ht M, win, ← sum_near p key _ h1 h2 h3]
  refine Finset.sum_congr rfl fun j _ => ?_
  rw [exp_t p key S t ht M j]
  by_cases h : p j
  · rw [if_pos h, if_pos h, hv j h, Ideal.div_coe hp.ne', ← EReal.coe_mul, mul_one_div, weight_shift]
  · rw [if_neg h, if_neg h, Ideal.div_coe hp.ne', zero_mul, mul_zero]

end

end Cert.Win

end
-- ==== Proof.WinPoint.lean ====
/- One grid point of the sliding-window attention. The kernel works on two key-value groups of eight heads; in each it keeps
   four pairs of heads, the first of a pair in lanes 0 to 63 and the second in lanes 64 to 127. The pieces of the computation are
   given here as functions of the values they are made of, and what the kernel stores is written with them. -/
module

public import proofs.«01_k».proof.Proof.Gen.Kernel4Ideal.Value
public import proofs.«01_k».proof.Proof.WinMath
public import Idealize.ShloMosaic.Lib.Pipeline.ValueKit.Basic
public import Idealize.ShloMosaic.Lib.Pipeline.ValueKit.Tiles

@[expose] public section

set_option maxRecDepth 16384
set_option maxHeartbeats 1000000

noncomputable section

namespace Cert.Win

open Cert.Kernel4Ideal Cert.Kernel4Ideal.Gen Idealize.ShloMosaic Idealize.ShloMosaic.TcCoe

/-- Scores with the bias, off the window the mask's number. -/
def masked (valid : IVec S256x128 1) (x b : FVec Ideal S256x128 .f32) : FVec Ideal S256x128 .f32 :=
  select valid (addf x b) (broadcast S256x128 (Named.named κ "mask" 0xF149F2CA#32 : Ideal .f32))

/-- Each query's maximum, the sink taken in. -/
def top (t : FVec Ideal S256x128 .f32) (s : Ideal .f32) : FVec Ideal S1x128 .f32 :=
  maximumf (shapeCast S1x128 (multiReduction .maximumf [0] S128 t 0xFF800000#32 reduces_S256x128_S128 (.inl rfl) rfl) shapeCasts_S128_S1x128) (broadcast S1x128 s)

def prob (t : FVec Ideal S256x128 .f32) (s : Ideal .f32) : FVec Ideal S256x128 .f32 :=
  exp (subf t (broadcastTo S256x128 (top t s) broadcasts_S1x128_S256x128))

def inv (t : FVec Ideal S256x128 .f32) (s : Ideal .f32) : FVec Ideal S1x128 .f32 :=
  divf (broadcast S1x128 (Scalar.ofBits .f32 0x3F800000#32 : Ideal .f32))
    (addf (shapeCast S1x128 (multiReduction .add [0] S128 (prob t s) 0x00000000#32 reduces_S256x128_S128 (.inl rfl) rfl) shapeCasts_S128_S1x128)
      (exp (subf (broadcast S1x128 s) (top t s))))

/-- The weighted sums of four heads side by side, each divided by its mass. -/
def heads (v : FVec Ideal S128x256 .bf16) (t : Fin 4 → FVec Ideal S256x128 .f32) (s : Fin 4 → Ideal .f32) : FVec Ideal S128x512 .f32 :=
  mulf (matmul dot_S128x256_S256x512_S128x512_1_0_0_1_n_n none v
      (concatenate S256x512 1 [⟨S256x128, (truncf .bf16 (prob (t 0) (s 0)) bitsLt_bf16_f32 : FVec Ideal S256x128 .bf16)⟩, ⟨S256x128, (truncf .bf16 (prob (t 1) (s 1)) bitsLt_bf16_f32 : FVec Ideal S256x128 .bf16)⟩, ⟨S256x128, (truncf .bf16 (prob (t 2) (s 2)) bitsLt_bf16_f32 : FVec Ideal S256x128 .bf16)⟩, ⟨S256x128, (truncf .bf16 (prob (t 3) (s 3)) bitsLt_bf16_f32 : FVec Ideal S256x128 .bf16)⟩] concatenates_S256x128_S256x128_S256x128_S256x128_S256x512_d1)
      (constant S128x512 .f32 0x00000000#32))
    (broadcastTo S128x512 (concatenate S1x512 1 [⟨S1x128, inv (t 0) (s 0)⟩, ⟨S1x128, inv (t 1) (s 1)⟩, ⟨S1x128, inv (t 2) (s 2)⟩, ⟨S1x128, inv (t 3) (s 3)⟩] concatenates_S1x128_S1x128_S1x128_S1x128_S1x512_d1) broadcasts_S1x512_S128x512)

/-- A group's transposed values with the rows of the first, or of the second, half kept. -/
def rowsLo (v : FVec Ideal S128x256 .bf16) : FVec Ideal S128x256 .bf16 :=
  select (broadcastTo S128x256 (shapeCast S128x1 k0_pay9 shapeCasts_S128x1_S128x1) broadcasts_S128x1_S128x256) v (broadcast S128x256 (Scalar.ofBits .bf16 0x0000#16 : Ideal .bf16))

def rowsHi (v : FVec Ideal S128x256 .bf16) : FVec Ideal S128x256 .bf16 :=
  select (broadcastTo S128x256 (shapeCast S128x1 k0_pay9 shapeCasts_S128x1_S128x1) broadcasts_S128x1_S128x256) (broadcast S128x256 (Scalar.ofBits .bf16 0x0000#16 : Ideal .bf16)) v

def group (v : FVec Ideal S128x256 .bf16) (t0 t1 : Fin 4 → FVec Ideal S256x128 .f32) (s0 s1 : Fin 4 → Ideal .f32) : FVec Ideal S128x512 .f32 :=
  addf (heads (rowsLo v) t0 s0) (heads (rowsHi v) t1 s1)

/-- The two groups' results, transposed back and put side by side. -/
def spread (g0 g1 : FVec Ideal S128x512 .f32) : FVec Ideal S1x128x1024 .f32 :=
  shapeCast S1x128x1024 (concatenate S128x1024 1
    [⟨S128x128, transpose S128x128 [1, 0] (extractStridedSlice S128x128 ![0, 0] g0 slices_S128x512_o0_0_S128x128) transposes_S128x128_p1_0_S128x128⟩,
     ⟨S128x128, transpose S128x128 [1, 0] (extractStridedSlice S128x128 ![0, 128] g0 slices_S128x512_o0_128_S128x128) transposes_S128x128_p1_0_S128x128⟩,
     ⟨S128x128, transpose S128x128 [1, 0] (extractStridedSlice S128x128 ![0, 256] g0 slices_S128x512_o0_256_S128x128) transposes_S128x128_p1_0_S128x128⟩,
     ⟨S128x128, transpose S128x128 [1, 0] (extractStridedSlice S128x128 ![0, 384] g0 slices_S128x512_o0_384_S128x128) transposes_S128x128_p1_0_S128x128⟩,
     ⟨S128x128, transpose S128x128 [1, 0] (extractStridedSlice S128x128 ![0, 0] g1 slices_S128x512_o0_0_S128x128) transposes_S128x128_p1_0_S128x128⟩,
     ⟨S128x128, transpose S128x128 [1, 0] (extractStridedSlice S128x128 ![0, 128] g1 slices_S128x512_o0_128_S128x128) transposes_S128x128_p1_0_S128x128⟩,
     ⟨S128x128, transpose S128x128 [1, 0] (extractStridedSlice S128x128 ![0, 256] g1 slices_S128x512_o0_256_S128x128) transposes_S128x128_p1_0_S128x128⟩,
     ⟨S128x128, transpose S128x128 [1, 0] (extractStridedSlice S128x128 ![0, 384] g1 slices_S128x512_o0_384_S128x128) transposes_S128x128_p1_0_S128x128⟩]
    concatenates_S128x128_S128x128_S128x128_S128x128_S128x128_S128x128_S128x128_S128x128_S128x1024_d1) shapeCasts_S128x1024_S1x128x1024

/-- The bias of one head: its row of the table, read at the buckets. -/
def biasOf (bk : IVec S256x128 32) (row : Vec Ideal S1x128 .f32) : FVec Ideal S256x128 .f32 := k0_pay24 bk (k0_pay22 row) k0_pay23

/-- The columns of the scores that belong to one of four heads. -/
def cut (x : FVec Ideal S256x512 .f32) : Fin 4 → FVec Ideal S256x128 .f32
  | 0 => extractStridedSlice S256x128 ![0, 0] x slices_S256x512_o0_0_S256x128
  | 1 => extractStridedSlice S256x128 ![0, 128] x slices_S256x512_o0_128_S256x128
  | 2 => extractStridedSlice S256x128 ![0, 256] x slices_S256x512_o0_256_S256x128
  | 3 => extractStridedSlice S256x128 ![0, 384] x slices_S256x512_o0_384_S256x128

/-- What a grid point computes, from the sinks, the queries' eight columns of lanes, the keys, the values, the buckets and the table's rows. -/
def whole (valid : IVec S256x128 1) (bk : IVec S256x128 32) (kb vb : FVec Ideal S256x256 .bf16) (q : Fin 8 → Vec Ideal S1x128x128 .bf16) (row : Fin 16 → Vec Ideal S1x128 .f32)
    (sk : Fin 16 → Ideal .f32) : FVec Ideal S1x128x1024 .f32 :=
  spread
    (group (k0_pay82 vb)
      (fun p => masked valid (cut (k0_pay16 kb k0_pay8 (k0_pay10 (q 0)) (k0_pay10 (q 1)) (k0_pay10 (q 2)) (k0_pay10 (q 3))) p) (biasOf bk (row ⟨2 * p.val, by omega⟩)))
      (fun p => masked valid (cut (k0_pay17 kb k0_pay8 (k0_pay10 (q 0)) (k0_pay10 (q 1)) (k0_pay10 (q 2)) (k0_pay10 (q 3))) p) (biasOf bk (row ⟨2 * p.val + 1, by omega⟩)))
      (fun p => sk ⟨2 * p.val, by omega⟩) (fun p => sk ⟨2 * p.val + 1, by omega⟩))
    (group (k0_pay129 vb)
      (fun p => masked valid (cut (k0_pay20 kb k0_pay8 (q 4) (q 5) (q 6) (q 7)) p) (biasOf bk (row ⟨2 * (4 + p.val), by omega⟩)))
      (fun p => masked valid (cut (k0_pay21 kb k0_pay8 (q 4) (q 5) (q 6) (q 7)) p) (biasOf bk (row ⟨2 * (4 + p.val) + 1, by omega⟩)))
      (fun p => sk ⟨2 * (4 + p.val), by omega⟩) (fun p => sk ⟨2 * (4 + p.val) + 1, by omega⟩))

section

variable (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x1 .i32) (harg8 : arg8.IsWhole) (arg9 : Memref sig .tc .vmem S1x128x1 .i32) (harg9 : arg9.IsWhole) (arg10 : Memref sig .tc .vmem S1x1x128 .i32) (harg10 : arg10.IsWhole) (arg11 : Memref sig .tc .vmem S16x128 .f32) (harg11 : arg11.IsWhole) (arg12 : Memref sig .tc .vmem S1x128x1024 .f32) (harg12 : arg12.IsWhole)
   (x0 : Vec Ideal S16 .f32) (x1 : Vec Ideal S1x128x1024 .bf16) (x2 : Vec Ideal S1x128x256 .bf16) (x3 : Vec Ideal S1x128x256 .bf16) (x4 : Vec Ideal S1x128x256 .bf16) (x5 : Vec Ideal S1x128x256 .bf16) (x6 : Vec Ideal S1x128x1 .i32) (x7 : Vec Ideal S1x128x1 .i32) (x8 : Vec Ideal S1x1x128 .i32) (x9 : Vec Ideal S16x128 .f32)

/-! ## The loads -/

def sinkLoad (h : Fin 16) : Ideal .f32 :=
  arg2.view.readAt (Elt Ideal) (Rect.unit (s := S16) ![h.val] S1.size (fun a => by match a with | ⟨0, _⟩ => show h.val + 1 ≤ 16; omega)).toLoadRect (harg2.unread x0) (Shape.Idx.first (show 0 < S1.numel by decide))

def queryLoad (p : Fin 8) : Vec Ideal S1x128x128 .bf16 :=
  arg3.view.readAt (Elt Ideal) (Rect.unit (s := S1x128x1024) ![0, 0, 128 * p.val] S1x128x128.size (fun a => by
    match a with | ⟨0, _⟩ => show 0 + 1 ≤ 1; omega | ⟨1, _⟩ => show 0 + 128 ≤ 128; omega | ⟨2, _⟩ => show 128 * p.val + 128 ≤ 1024; omega)).toLoadRect (harg3.unread x1)

def rowLoad (h : Fin 16) : Vec Ideal S1x128 .f32 :=
  arg11.view.readAt (Elt Ideal) (Rect.unit (s := S16x128) ![h.val, 0] S1x128.size (fun a => by
    match a with | ⟨0, _⟩ => show h.val + 1 ≤ 16; omega | ⟨1, _⟩ => show 0 + 128 ≤ 128; omega)).toLoadRect (harg11.unread x9)

def pairLoad {arg : Memref sig .tc .vmem S1x128x256 .bf16} (harg : arg.IsWhole) (x : Vec Ideal S1x128x256 .bf16) : Vec Ideal S1x128x256 .bf16 :=
  arg.view.readAt (Elt Ideal) (Rect.unit (s := S1x128x256) ![0, 0, 0] S1x128x256.size inb_S1x128x256_S1x128x256_0_0_0).toLoadRect (harg.unread x)

def colLoad {arg : Memref sig .tc .vmem S1x128x1 .i32} (harg : arg.IsWhole) (x : Vec Ideal S1x128x1 .i32) : Vec Ideal S1x128x1 .i32 :=
  arg.view.readAt (Elt Ideal) (Rect.unit (s := S1x128x1) ![0, 0, 0] S1x128x1.size inb_S1x128x1_S1x128x1_0_0_0).toLoadRect (harg.unread x)

def posLoad : Vec Ideal S1x1x128 .i32 :=
  arg10.view.readAt (Elt Ideal) (Rect.unit (s := S1x1x128) ![0, 0, 0] S1x1x128.size inb_S1x1x128_S1x1x128_0_0_0).toLoadRect (harg10.unread x8)

/-- The buckets. -/
def buckets (p0 p1 : Vec Ideal S1x128x1 .i32) (pr : Vec Ideal S1x1x128 .i32) : IVec S256x128 32 :=
  k0_pay6 (F := Ideal) (k0_pay4 (F := Ideal) p0 p1 pr) (k0_pay5 p0 p1 pr)

theorem pieces : (kernelRun0_A (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9).1 =
    [⟨Rect.unit (s := S1x128x1024) ![0, 0, 0] S1x128x1024.size inb_S1x128x1024_S1x128x1024_0_0_0,
      whole (k0_pay7 (BitVec.ofNat 32 (i 1).val)) (buckets (colLoad harg8 x6) (colLoad harg9 x7) (posLoad arg10 harg10 x8))
        (k0_pay2 (pairLoad harg4 x2) (pairLoad harg5 x3)) (k0_pay3 (pairLoad harg6 x4) (pairLoad harg7 x5))
        (queryLoad arg3 harg3 x1) (rowLoad arg11 harg11 x9) (sinkLoad arg2 harg2 x0)⟩] := by
  unfold kernelRun0_A
  sl_unfold_words
  rfl

end

end Cert.Win

end
-- ==== Proof.WinAt.lean ====
/- The pieces of the sliding-window attention, read at an index. -/
module

public import proofs.«01_k».proof.Proof.WinPoint
public import Idealize.ShloMosaic.Lib.Pointwise
public import Idealize.ShloMosaic.Lib.Affine

@[expose] public section

set_option maxRecDepth 16384
set_option maxHeartbeats 1000000

noncomputable section

namespace Cert.Win

open Cert.Kernel4Ideal Cert.Kernel4Ideal.Gen Idealize.ShloMosaic Idealize.ShloMosaic.TcCoe

theorem named_mask : (Named.named (F := Ideal) (φ := .f32) κ "mask" 0xF149F2CA#32 : EReal) = ⊥ := rfl

theorem bottom_bits : Ideal.ofBits FTy.f32 0xFF800000#32 = ⊥ := by simp [Ideal.ofBits, Ideal.ieee]

theorem top_at (t : FVec Ideal S256x128 .f32) (s : Ideal .f32) (r : Fin 128) :
    top t s (ix2 0 r) = max (Finset.univ.fold max ⊥ fun j : Fin 256 => t (ix2 j r)) s := by
  pointwise [top]
  rw [bottom_bits]

theorem prob_at (t : FVec Ideal S256x128 .f32) (s : Ideal .f32) (j : Fin 256) (r : Fin 128) :
    prob t s (ix2 j r) = Ideal.exp (t (ix2 j r) - top t s (ix2 0 r)) := by
  pointwise [prob]

theorem inv_at (t : FVec Ideal S256x128 .f32) (s : Ideal .f32) (r : Fin 128) :
    inv t s (ix2 0 r) = Ideal.div 1 ((∑ j : Fin 256, prob t s (ix2 j r)) + Ideal.exp (s - top t s (ix2 0 r))) := by
  pointwise [inv]

theorem cat_at (a : Fin 4 → FVec Ideal S256x128 .bf16) (j : Fin 256) (p : Fin 4) (r : Fin 128) (w : Fin 512) (hw : w.val = 128 * p.val + r.val) :
    concatenate S256x512 1 [⟨S256x128, a 0⟩, ⟨S256x128, a 1⟩, ⟨S256x128, a 2⟩, ⟨S256x128, a 3⟩] concatenates_S256x128_S256x128_S256x128_S256x128_S256x512_d1 (ix2 j w)
      = a p (ix2 j r) := by
  pointwise
  match p, hw with
  | ⟨0, _⟩, hw => exact (dif_pos (by dsimp only at hw ⊢; omega)).trans (congrArg (fun x => a 0 (ix2 j x)) (Fin.ext (by dsimp only at hw ⊢; omega)))
  | ⟨1, _⟩, hw => exact (dif_neg (by dsimp only at hw ⊢; omega)).trans ((dif_pos (by dsimp only at hw ⊢; omega)).trans (congrArg (fun x => a 1 (ix2 j x)) (Fin.ext (by dsimp only at hw ⊢; omega))))
  | ⟨2, _⟩, hw => exact (dif_neg (by dsimp only at hw ⊢; omega)).trans ((dif_neg (by dsimp only at hw ⊢; omega)).trans ((dif_pos (by dsimp only at hw ⊢; omega)).trans (congrArg (fun x => a 2 (ix2 j x)) (Fin.ext (by dsimp only at hw ⊢; omega)))))
  | ⟨3, _⟩, hw => exact (dif_neg (by dsimp only at hw ⊢; omega)).trans ((dif_neg (by dsimp only at hw ⊢; omega)).trans ((dif_neg (by dsimp only at hw ⊢; omega)).trans (congrArg (fun x => a 3 (ix2 j x)) (Fin.ext (by dsimp only at hw ⊢; omega)))))

theorem row_at (a : Fin 4 → FVec Ideal S1x128 .f32) (p : Fin 4) (r : Fin 128) (w : Fin 512) (hw : w.val = 128 * p.val + r.val) :
    concatenate S1x512 1 [⟨S1x128, a 0⟩, ⟨S1x128, a 1⟩, ⟨S1x128, a 2⟩, ⟨S1x128, a 3⟩] concatenates_S1x128_S1x128_S1x128_S1x128_S1x512_d1 (ix2 0 w)
      = a p (ix2 0 r) := by
  pointwise
  match p, hw with
  | ⟨0, _⟩, hw => exact (dif_pos (by dsimp only at hw ⊢; omega)).trans (congrArg (fun x => a 0 (ix2 0 x)) (Fin.ext (by dsimp only at hw ⊢; omega)))
  | ⟨1, _⟩, hw => exact (dif_neg (by dsimp only at hw ⊢; omega)).trans ((dif_pos (by dsimp only at hw ⊢; omega)).trans (congrArg (fun x => a 1 (ix2 0 x)) (Fin.ext (by dsimp only at hw ⊢; omega))))
  | ⟨2, _⟩, hw => exact (dif_neg (by dsimp only at hw ⊢; omega)).trans ((dif_neg (by dsimp only at hw ⊢; omega)).trans ((dif_pos (by dsimp only at hw ⊢; omega)).trans (congrArg (fun x => a 2 (ix2 0 x)) (Fin.ext (by dsimp only at hw ⊢; omega)))))
  | ⟨3, _⟩, hw => exact (dif_neg (by dsimp only at hw ⊢; omega)).trans ((dif_neg (by dsimp only at hw ⊢; omega)).trans ((dif_neg (by dsimp only at hw ⊢; omega)).trans (congrArg (fun x => a 3 (ix2 0 x)) (Fin.ext (by dsimp only at hw ⊢; omega)))))

theorem heads_at (v : FVec Ideal S128x256 .bf16) (t : Fin 4 → FVec Ideal S256x128 .f32) (s : Fin 4 → Ideal .f32) (e : Fin 128) (p : Fin 4) (r : Fin 128) (w : Fin 512)
    (hw : w.val = 128 * p.val + r.val) :
    heads v t s (ix2 e w) = (∑ j : Fin 256, v (ix2 e j) * prob (t p) (s p) (ix2 j r)) * inv (t p) (s p) (ix2 0 r) := by
  have h1 := fun j : Fin 256 => cat_at (fun p => (truncf .bf16 (prob (t p) (s p)) bitsLt_bf16_f32 : FVec Ideal S256x128 .bf16)) j p r w hw
  have h2 := row_at (fun p => inv (t p) (s p)) p r w hw
  unfold heads
  generalize (concatenate S256x512 1 _ _ : FVec Ideal S256x512 .bf16) = A at h1 ⊢
  generalize (concatenate S1x512 1 _ _ : FVec Ideal S1x512 .f32) = B at h2 ⊢
  pointwise
  rw [h2]
  exact congrArg (· * _) (Finset.sum_congr rfl fun j _ => by rw [h1]; rfl)

theorem pay9_at (e : Fin 128) : k0_pay9 (ix2 e 0) = BitVec.ofBool (decide (e.val < 64)) := by
  pointwise [k0_pay9]
  word_cmp

theorem pay8_at (e : Fin 128) : k0_pay8 (ix2 0 e) = BitVec.ofBool (decide (e.val < 64)) := by
  pointwise [k0_pay8]
  word_cmp

theorem rowsLo_at (v : FVec Ideal S128x256 .bf16) (e : Fin 128) (j : Fin 256) : rowsLo v (ix2 e j) = if e.val < 64 then v (ix2 e j) else 0 := by
  pointwise [rowsLo]
  rw [pay9_at]
  by_cases h : e.val < 64 <;> simp [h, Scalar.select]

theorem rowsHi_at (v : FVec Ideal S128x256 .bf16) (e : Fin 128) (j : Fin 256) : rowsHi v (ix2 e j) = if e.val < 64 then 0 else v (ix2 e j) := by
  pointwise [rowsHi]
  rw [pay9_at]
  by_cases h : e.val < 64 <;> simp [h, Scalar.select]

theorem values_lo (vb : FVec Ideal S256x256 .bf16) (e : Fin 128) (j : Fin 256) : k0_pay82 vb (ix2 e j) = vb (ix2 j ⟨e.val, by omega⟩) := by
  pointwise [k0_pay82]

theorem values_hi (vb : FVec Ideal S256x256 .bf16) (e : Fin 128) (j : Fin 256) : k0_pay129 vb (ix2 e j) = vb (ix2 j ⟨128 + e.val, by omega⟩) := by
  pointwise [k0_pay129]

theorem masked_at (valid : IVec S256x128 1) (x b : FVec Ideal S256x128 .f32) (j : Fin 256) (r : Fin 128) :
    masked valid x b (ix2 j r) = if valid (ix2 j r) = 1#1 then x (ix2 j r) + b (ix2 j r) else ⊥ := by
  pointwise [masked]
  rw [named_mask]
  rfl

theorem bias_at (bk : IVec S256x128 32) (row : Vec Ideal S1x128 .f32) (j : Fin 256) (r : Fin 128) (b : Fin 32) (hb : bk (ix2 j r) = BitVec.ofNat 32 b.val) :
    biasOf bk row (ix2 j r) = row (ix2 0 ⟨b.val, by omega⟩) := by
  pointwise [biasOf, k0_pay24, k0_pay22, k0_pay23]
  refine congrArg (fun x => row (ix2 0 x)) (Fin.ext ?_)
  dsimp only
  rw [hb]
  clear hb
  revert b
  decide +kernel

theorem valid_at (n : Fin 32) (j : Fin 256) (r : Fin 128) :
    k0_pay7 (BitVec.ofNat 32 n.val) (ix2 j r) = BitVec.ofBool (decide (j.val ≤ r.val + 128 ∧ r.val < j.val ∧ (128 ≤ j.val ∨ 0 < n.val))) := by
  pointwise [k0_pay7]
  have hj := j.isLt
  have hr := r.isLt
  have hn := n.isLt
  have ht : (IntOp.subi (IntOp.addi (BitVec.ofNat 32 r.val) 128#32) (BitVec.ofNat 32 j.val)).toInt = (r.val : ℤ) + 128 - j.val := by
    have e1 : (BitVec.ofNat 32 r.val).toInt = r.val := by
      rw [BitVec.toInt_eq_toNat_cond, BitVec.toNat_ofNat]; split <;> omega
    have e2 : (BitVec.ofNat 32 j.val).toInt = j.val := by
      rw [BitVec.toInt_eq_toNat_cond, BitVec.toNat_ofNat]; split <;> omega
    have e3 : (128#32).toInt = 128 := by decide
    simp only [IntOp.subi, IntOp.addi, BitVec.toInt_sub, BitVec.toInt_add, e1, e2, e3, Int.bmod]
    omega
  have h1 : IntOp.cmpi CmpIPredicate.sge (IntOp.subi (IntOp.addi (BitVec.ofNat 32 r.val) 128#32) (BitVec.ofNat 32 j.val)) 0#32 = BitVec.ofBool (decide (j.val ≤ r.val + 128)) := by
    simp only [IntOp.cmpi, BitVec.sle, ht]
    congr 1
    rw [decide_eq_decide]
    show (0 : ℤ) ≤ _ ↔ _
    omega
  have h2 : IntOp.cmpi CmpIPredicate.slt (IntOp.subi (IntOp.addi (BitVec.ofNat 32 r.val) 128#32) (BitVec.ofNat 32 j.val)) 128#32 = BitVec.ofBool (decide (r.val < j.val)) := by
    simp only [IntOp.cmpi, BitVec.slt, ht]
    congr 1
    rw [decide_eq_decide]
    show _ < (128 : ℤ) ↔ _
    omega
  have h3 : IntOp.cmpi CmpIPredicate.sge (BitVec.ofNat 32 j.val) 128#32 = BitVec.ofBool (decide (128 ≤ j.val)) := by
    word_cmp
  have h4 : Scalar.cmpi CmpIPredicate.sgt (BitVec.ofNat 32 n.val) 0#32 = BitVec.ofBool (decide (0 < n.val)) := by
    show IntOp.cmpi CmpIPredicate.sgt (BitVec.ofNat 32 n.val) 0#32 = _
    word_cmp
  rw [h1, h2, h3, h4]
  by_cases a : j.val ≤ r.val + 128 <;> by_cases b : r.val < j.val <;> by_cases c : 128 ≤ j.val <;> by_cases d : 0 < n.val <;> simp [a, b, c, d] <;> rfl

/-- The queries of four pairs of heads one under the other. -/
def stack (a : Fin 4 → Vec Ideal S1x128x128 .bf16) : FVec Ideal S512x128 .bf16 := k0_pay18 (a 0) (a 1) (a 2) (a 3)

theorem stack_at (a : Fin 4 → Vec Ideal S1x128x128 .bf16) (p : Fin 4) (r e : Fin 128) (w : Fin 512) (hw : w.val = 128 * p.val + r.val) :
    stack a (ix2 w e) = a p (ix3 0 r e) := by
  pointwise [stack, k0_pay18]
  match p, hw with
  | ⟨0, _⟩, hw => exact (dif_pos (by dsimp only at hw ⊢; omega)).trans (congrArg (fun x => a 0 (ix3 0 x e)) (Fin.ext (by dsimp only at hw ⊢; omega)))
  | ⟨1, _⟩, hw => exact (dif_neg (by dsimp only at hw ⊢; omega)).trans ((dif_pos (by dsimp only at hw ⊢; omega)).trans (congrArg (fun x => a 1 (ix3 0 x e)) (Fin.ext (by dsimp only at hw ⊢; omega))))
  | ⟨2, _⟩, hw => exact (dif_neg (by dsimp only at hw ⊢; omega)).trans ((dif_neg (by dsimp only at hw ⊢; omega)).trans ((dif_pos (by dsimp only at hw ⊢; omega)).trans (congrArg (fun x => a 2 (ix3 0 x e)) (Fin.ext (by dsimp only at hw ⊢; omega)))))
  | ⟨3, _⟩, hw => exact (dif_neg (by dsimp only at hw ⊢; omega)).trans ((dif_neg (by dsimp only at hw ⊢; omega)).trans ((dif_neg (by dsimp only at hw ⊢; omega)).trans (congrArg (fun x => a 3 (ix3 0 x e)) (Fin.ext (by dsimp only at hw ⊢; omega)))))

/-- The scores with the keys' lanes of one half kept. -/
def dotLo (k : FVec Ideal S256x128 .bf16) (q : FVec Ideal S512x128 .bf16) : FVec Ideal S256x512 .f32 :=
  matmul dot_S256x128_S512x128_S256x512_1_1_0_0_n_n none
    (select (broadcastTo S256x128 (shapeCast S1x128 k0_pay8 shapeCasts_S1x128_S1x128) broadcasts_S1x128_S256x128) k (broadcast S256x128 (Scalar.ofBits .bf16 0x0000#16 : Ideal .bf16)) : FVec Ideal S256x128 .bf16)
    q (constant S256x512 .f32 0x00000000#32)

def dotHi (k : FVec Ideal S256x128 .bf16) (q : FVec Ideal S512x128 .bf16) : FVec Ideal S256x512 .f32 :=
  matmul dot_S256x128_S512x128_S256x512_1_1_0_0_n_n none
    (select (broadcastTo S256x128 (shapeCast S1x128 k0_pay8 shapeCasts_S1x128_S1x128) broadcasts_S1x128_S256x128) (broadcast S256x128 (Scalar.ofBits .bf16 0x0000#16 : Ideal .bf16)) k : FVec Ideal S256x128 .bf16)
    q (constant S256x512 .f32 0x00000000#32)

theorem sum_lo (f : Fin 128 → EReal) (g : Fin 128 → EReal) (h1 : ∀ e : Fin 128, e.val < 64 → g e = f e) (h2 : ∀ e : Fin 128, ¬ e.val < 64 → g e = 0) :
    ∑ e, g e = ∑ d : Fin 64, f ⟨d.val, by omega⟩ := by
  exact (Fin.sum_univ_add (a := 64) (b := 64) g).trans ((congrArg₂ (· + ·) (Finset.sum_congr rfl fun d _ => h1 (Fin.castAdd 64 d) d.isLt)
    (Finset.sum_eq_zero fun d _ => h2 (Fin.natAdd 64 d) (by simp))).trans (add_zero _))

theorem sum_hi (f : Fin 128 → EReal) (g : Fin 128 → EReal) (h1 : ∀ e : Fin 128, ¬ e.val < 64 → g e = f e) (h2 : ∀ e : Fin 128, e.val < 64 → g e = 0) :
    ∑ e, g e = ∑ d : Fin 64, f ⟨64 + d.val, by omega⟩ := by
  exact (Fin.sum_univ_add (a := 64) (b := 64) g).trans ((congrArg₂ (· + ·) (Finset.sum_eq_zero fun d _ => h2 (Fin.castAdd 64 d) d.isLt)
    (Finset.sum_congr rfl fun d _ => h1 (Fin.natAdd 64 d) (by simp))).trans (zero_add _))

theorem dotLo_at (k : FVec Ideal S256x128 .bf16) (q : FVec Ideal S512x128 .bf16) (j : Fin 256) (w : Fin 512) :
    dotLo k q (ix2 j w) = ∑ d : Fin 64, k (ix2 j ⟨d.val, by omega⟩) * q (ix2 w ⟨d.val, by omega⟩) := by
  unfold dotLo
  refine Eq.trans ?_ (sum_lo (fun e => k (ix2 j e) * q (ix2 w e)) (fun e => Scalar.select (k0_pay8 (ix2 0 e)) (k (ix2 j e) * q (ix2 w e)) 0) ?_ ?_)
  · pointwise
  · intro e he
    rw [pay8_at]; simp [he, Scalar.select]
  · intro e he
    rw [pay8_at]; simp [he, Scalar.select]

theorem dotHi_at (k : FVec Ideal S256x128 .bf16) (q : FVec Ideal S512x128 .bf16) (j : Fin 256) (w : Fin 512) :
    dotHi k q (ix2 j w) = ∑ d : Fin 64, k (ix2 j ⟨64 + d.val, by omega⟩) * q (ix2 w ⟨64 + d.val, by omega⟩) := by
  unfold dotHi
  refine Eq.trans ?_ (sum_hi (fun e => k (ix2 j e) * q (ix2 w e)) (fun e => Scalar.select (k0_pay8 (ix2 0 e)) 0 (k (ix2 j e) * q (ix2 w e))) ?_ ?_)
  · pointwise
  · intro e he
    rw [pay8_at]; simp [he, Scalar.select]
  · intro e he
    rw [pay8_at]; simp [he, Scalar.select]

theorem keys0_at (kb : FVec Ideal S256x256 .bf16) (j : Fin 256) (e : Fin 128) : k0_pay15 kb (ix2 j e) = kb (ix2 j ⟨e.val, by omega⟩) := by
  pointwise [k0_pay15]

theorem keys1_at (kb : FVec Ideal S256x256 .bf16) (j : Fin 256) (e : Fin 128) : k0_pay19 kb (ix2 j e) = kb (ix2 j ⟨128 + e.val, by omega⟩) := by
  pointwise [k0_pay19]

theorem cut_at (x : FVec Ideal S256x512 .f32) (p : Fin 4) (j : Fin 256) (r : Fin 128) (w : Fin 512) (hw : w.val = 128 * p.val + r.val) :
    cut x p (ix2 j r) = x (ix2 j w) := by
  match p, hw with
  | ⟨0, _⟩, hw =>
    show extractStridedSlice S256x128 ![0, 0] x slices_S256x512_o0_0_S256x128 (ix2 j r) = _
    pointwise
    exact congrArg (fun x' => x (ix2 j x')) (Fin.ext (by dsimp only at hw ⊢; omega))
  | ⟨1, _⟩, hw =>
    show extractStridedSlice S256x128 ![0, 128] x slices_S256x512_o0_128_S256x128 (ix2 j r) = _
    pointwise
    exact congrArg (fun x' => x (ix2 j x')) (Fin.ext (by dsimp only at hw ⊢; omega))
  | ⟨2, _⟩, hw =>
    show extractStridedSlice S256x128 ![0, 256] x slices_S256x512_o0_256_S256x128 (ix2 j r) = _
    pointwise
    exact congrArg (fun x' => x (ix2 j x')) (Fin.ext (by dsimp only at hw ⊢; omega))
  | ⟨3, _⟩, hw =>
    show extractStridedSlice S256x128 ![0, 384] x slices_S256x512_o0_384_S256x128 (ix2 j r) = _
    pointwise
    exact congrArg (fun x' => x (ix2 j x')) (Fin.ext (by dsimp only at hw ⊢; omega))

end Cert.Win

end
-- ==== Proof.WinOut.lean ====
/- The block that the sliding-window kernel stores, read at an index: windowed attention. -/
module

public import proofs.«01_k».proof.Proof.WinAt
public import proofs.«01_k».proof.Proof.WinMath

@[expose] public section

set_option maxRecDepth 16384
set_option maxHeartbeats 4000000

noncomputable section

namespace Cert.Win

open Cert.Kernel4Ideal Cert.Kernel4Ideal.Gen Idealize.ShloMosaic Idealize.ShloMosaic.TcCoe

/-! ## The window of a block's query -/

/-- The block's `j`-th key is in the window of its query `r`. -/
def seen (n : Fin 32) (r : Fin 128) (j : Fin 256) : Prop := j.val ≤ r.val + 128 ∧ r.val < j.val ∧ (128 ≤ j.val ∨ 0 < n.val)

instance (n : Fin 32) (r : Fin 128) : DecidablePred (seen n r) := fun j => by unfold seen; infer_instance

/-- The key's number. -/
def keyOf (n : Fin 32) (j : Fin 256) : ℕ := 128 * n.val + j.val - 128

theorem key_near (n : Fin 32) (r : Fin 128) (j : Fin 256) (h : seen n r j) : keyOf n j ∈ near (128 * n.val + r.val) := by
  obtain ⟨h1, h2, h3⟩ := h
  simp only [near, keyOf, Finset.mem_filter, Finset.mem_range]
  omega

theorem key_inj (n : Fin 32) (r : Fin 128) (j j' : Fin 256) (h : seen n r j) (h' : seen n r j') (e : keyOf n j = keyOf n j') : j = j' := by
  obtain ⟨h1, h2, h3⟩ := h
  obtain ⟨h4, h5, h6⟩ := h'
  simp only [keyOf] at e
  exact Fin.ext (by omega)

theorem key_onto (n : Fin 32) (r : Fin 128) (k : ℕ) (hk : k ∈ near (128 * n.val + r.val)) : ∃ j, seen n r j ∧ keyOf n j = k := by
  simp only [near, Finset.mem_filter, Finset.mem_range] at hk
  refine ⟨⟨k + 128 - 128 * n.val, by omega⟩, ⟨?_, ?_, ?_⟩, ?_⟩ <;> simp only [keyOf] <;> omega

section

variable (n : Fin 32) (r : Fin 128) (S : ℕ → ℝ) (V : ℕ → EReal) (σ : ℝ)

/-- One head's weighted sum times its reciprocal mass is windowed attention. -/
theorem head_win (t : FVec Ideal S256x128 .f32) (v : Fin 256 → EReal)
    (ht : ∀ j : Fin 256, t (ix2 j r) = if seen n r j then ((S (keyOf n j) : ℝ) : EReal) else ⊥) (hv : ∀ j, seen n r j → v j = V (keyOf n j)) :
    (∑ j : Fin 256, v j * prob t (σ : EReal) (ix2 j r)) * inv t (σ : EReal) (ix2 0 r) = win S σ V (128 * n.val + r.val) := by
  obtain ⟨M, hM⟩ := max_real (fun j : Fin 256 => t (ix2 j r)) (fun j => by rw [ht]; split <;> simp) σ
  have hT : top t (σ : EReal) (ix2 0 r) = ((M : ℝ) : EReal) := (top_at t σ r).trans hM
  rw [inv_at]
  simp only [prob_at, hT]
  exact late (seen n r) (keyOf n) S σ V (key_near n r) (key_inj n r) (key_onto n r) (fun j => t (ix2 j r)) v ht hv M

theorem group_lo (v : FVec Ideal S128x256 .bf16) (t0 t1 : Fin 4 → FVec Ideal S256x128 .f32) (s0 s1 : Fin 4 → Ideal .f32) (e : Fin 128) (p : Fin 4) (w : Fin 512) (hw : w.val = 128 * p.val + r.val)
    (he : e.val < 64) (hs : s0 p = ((σ : ℝ) : EReal))
    (ht : ∀ j : Fin 256, t0 p (ix2 j r) = if seen n r j then ((S (keyOf n j) : ℝ) : EReal) else ⊥) (hv : ∀ j, seen n r j → v (ix2 e j) = V (keyOf n j)) :
    group v t0 t1 s0 s1 (ix2 e w) = win S σ V (128 * n.val + r.val) := by
  show heads (rowsLo v) t0 s0 (ix2 e w) + heads (rowsHi v) t1 s1 (ix2 e w) = _
  rw [heads_at _ _ _ e p r w hw, heads_at _ _ _ e p r w hw]
  simp only [rowsLo_at, rowsHi_at, if_pos he, zero_mul, Finset.sum_const_zero, add_zero, hs]
  exact head_win n r S V σ (t0 p) (fun j => v (ix2 e j)) ht hv

theorem group_hi (v : FVec Ideal S128x256 .bf16) (t0 t1 : Fin 4 → FVec Ideal S256x128 .f32) (s0 s1 : Fin 4 → Ideal .f32) (e : Fin 128) (p : Fin 4) (w : Fin 512) (hw : w.val = 128 * p.val + r.val)
    (he : ¬ e.val < 64) (hs : s1 p = ((σ : ℝ) : EReal))
    (ht : ∀ j : Fin 256, t1 p (ix2 j r) = if seen n r j then ((S (keyOf n j) : ℝ) : EReal) else ⊥) (hv : ∀ j, seen n r j → v (ix2 e j) = V (keyOf n j)) :
    group v t0 t1 s0 s1 (ix2 e w) = win S σ V (128 * n.val + r.val) := by
  show heads (rowsLo v) t0 s0 (ix2 e w) + heads (rowsHi v) t1 s1 (ix2 e w) = _
  rw [heads_at _ _ _ e p r w hw, heads_at _ _ _ e p r w hw]
  simp only [rowsLo_at, rowsHi_at, if_neg he, zero_mul, Finset.sum_const_zero, zero_add, hs]
  exact head_win n r S V σ (t1 p) (fun j => v (ix2 e j)) ht hv

/-- A masked score. -/
theorem score_at (x b : FVec Ideal S256x128 .f32) (h : ∀ j, seen n r j → x (ix2 j r) + b (ix2 j r) = ((S (keyOf n j) : ℝ) : EReal)) (j : Fin 256) :
    masked (k0_pay7 (BitVec.ofNat 32 n.val)) x b (ix2 j r) = if seen n r j then ((S (keyOf n j) : ℝ) : EReal) else ⊥ := by
  rw [masked_at, valid_at]
  by_cases hp : seen n r j
  · have hp' : j.val ≤ r.val + 128 ∧ r.val < j.val ∧ (128 ≤ j.val ∨ 0 < n.val) := hp
    rw [if_pos hp, decide_eq_true hp']
    exact (if_pos rfl).trans (h j hp)
  · have hp' : ¬ (j.val ≤ r.val + 128 ∧ r.val < j.val ∧ (128 ≤ j.val ∨ 0 < n.val)) := hp
    rw [if_neg hp, decide_eq_false hp']
    exact if_neg (by decide)

end

/-! ## Putting the heads side by side -/

theorem spread_at (g0 g1 : FVec Ideal S128x512 .f32) (r e : Fin 128) (p : Fin 8) (w : Fin 512) (hw : w.val = 128 * (p.val % 4) + r.val) (l : Fin 1024) (hl : l.val = 128 * p.val + e.val) :
    spread g0 g1 (ix3 0 r l) = if p.val < 4 then g0 (ix2 e w) else g1 (ix2 e w) := by
  have hr : r.val < 128 := r.isLt
  have he : e.val < 128 := e.isLt
  unfold spread
  pointwise
  match p, hl, hw with
  | ⟨0, _⟩, hl, hw => exact (dif_pos (by dsimp only at hl ⊢; omega)).trans (congrArg₂ (fun x y => g0 (ix2 x y)) (Fin.ext (by dsimp only at hl ⊢; omega)) (Fin.ext (by dsimp only at hw ⊢; omega)))
  | ⟨1, _⟩, hl, hw => exact (dif_neg (by dsimp only at hl ⊢; omega)).trans ((dif_pos (by dsimp only at hl ⊢; omega)).trans (congrArg₂ (fun x y => g0 (ix2 x y)) (Fin.ext (by dsimp only at hl ⊢; omega)) (Fin.ext (by dsimp only at hw ⊢; omega))))
  | ⟨2, _⟩, hl, hw => exact (dif_neg (by dsimp only at hl ⊢; omega)).trans ((dif_neg (by dsimp only at hl ⊢; omega)).trans ((dif_pos (by dsimp only at hl ⊢; omega)).trans (congrArg₂ (fun x y => g0 (ix2 x y)) (Fin.ext (by dsimp only at hl ⊢; omega)) (Fin.ext (by dsimp only at hw ⊢; omega)))))
  | ⟨3, _⟩, hl, hw => exact (dif_neg (by dsimp only at hl ⊢; omega)).trans ((dif_neg (by dsimp only at hl ⊢; omega)).trans ((dif_neg (by dsimp only at hl ⊢; omega)).trans ((dif_pos (by dsimp only at hl ⊢; omega)).trans (congrArg₂ (fun x y => g0 (ix2 x y)) (Fin.ext (by dsimp only at hl ⊢; omega)) (Fin.ext (by dsimp only at hw ⊢; omega))))))
  | ⟨4, _⟩, hl, hw => exact (dif_neg (by dsimp only at hl ⊢; omega)).trans ((dif_neg (by dsimp only at hl ⊢; omega)).trans ((dif_neg (by dsimp only at hl ⊢; omega)).trans ((dif_neg (by dsimp only at hl ⊢; omega)).trans ((dif_pos (by dsimp only at hl ⊢; omega)).trans (congrArg₂ (fun x y => g1 (ix2 x y)) (Fin.ext (by dsimp only at hl ⊢; omega)) (Fin.ext (by dsimp only at hw ⊢; omega)))))))
  | ⟨5, _⟩, hl, hw => exact (dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans ((dif_pos (by dsimp only at hl ⊢; omega)).trans (congrArg₂ (fun x y => g1 (ix2 x y)) (Fin.ext (by dsimp only at hl ⊢; omega)) (Fin.ext (by dsimp only at hw ⊢; omega))))))))
  | ⟨6, _⟩, hl, hw => exact (dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans ((dif_pos (by dsimp only at hl ⊢; omega)).trans (congrArg₂ (fun x y => g1 (ix2 x y)) (Fin.ext (by dsimp only at hl ⊢; omega)) (Fin.ext (by dsimp only at hw ⊢; omega)))))))))
  | ⟨7, _⟩, hl, hw => exact (dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans ((dif_neg (by dsimp only at hl ⊢; omega)).trans (congrArg₂ (fun x y => g1 (ix2 x y)) (Fin.ext (by dsimp only at hl ⊢; omega)) (Fin.ext (by dsimp only at hw ⊢; omega)))))))))

end Cert.Win

end
-- ==== Proof.WinRef.lean ====
/- The stages of the reference's sliding-window attention. -/
module

public import proofs.«01_k».proof.Proof.Gen.Reference4Ideal.Run
public import Idealize.ShloMosaic.Lib.Pointwise

@[expose] public section

set_option maxRecDepth 16384
set_option maxHeartbeats 4000000

noncomputable section

namespace Cert.Win.Ref

open Cert.Reference4Ideal Cert.Reference4Ideal.Gen Idealize Idealize.ShloMosaic Idealize.ShloMosaic.TcCoe

/-- The distance from a key's position back from a query's, at least zero. -/
def back (p : IVec S4x4096 32) : IVec S4x4096x4096 32 :=
  maxsi (subi (broadcastInDim S4x4096x4096 ![0, 1, 2] bcast_S4x4096x1_S4x4096x4096_0_1_2 (broadcastInDim S4x4096x1 ![0, 1] bcast_S4x4096_S4x4096x1_0_1 p))
    (broadcastInDim S4x4096x4096 ![0, 1, 2] bcast_S4x1x4096_S4x4096x4096_0_1_2 (broadcastInDim S4x1x4096 ![0, 2] bcast_S4x4096_S4x1x4096_0_2 p)))
    (broadcastInDim S4x4096x4096 ![] bcast_S_S4x4096x4096 (constantI S_ 32 0#32))

/-- The bucket of a distance. -/
def bucket (d : IVec S4x4096x4096 32) : IVec S4x4096x4096 32 :=
  select (cmpi .slt d (broadcastInDim S4x4096x4096 ![] bcast_S_S4x4096x4096 (constantI S_ 32 16#32))) d
    (minsi (addi (broadcastInDim S4x4096x4096 ![] bcast_S_S4x4096x4096 (constantI S_ 32 16#32))
      (fptosi 32 (mulf (Host.divf (Host.log (Host.divf (sitofp .f32 (maxsi d (broadcastInDim S4x4096x4096 ![] bcast_S_S4x4096x4096 (constantI S_ 32 1#32))))
        (broadcastInDim S4x4096x4096 ![] bcast_S_S4x4096x4096 (constant S_ .f32 0x41800000#32))))
        (broadcastInDim S4x4096x4096 ![] bcast_S_S4x4096x4096 (constant S_ .f32 0x40051592#32)))
        (broadcastInDim S4x4096x4096 ![] bcast_S_S4x4096x4096 (constant S_ .f32 0x41800000#32)) : FVec Ideal S4x4096x4096 .f32)))
      (broadcastInDim S4x4096x4096 ![] bcast_S_S4x4096x4096 (constantI S_ 32 31#32)))

/-- The bucket as a row of the table. -/
def wrapped (b : IVec S4x4096x4096 32) : IVec S4x4096x4096x1 32 :=
  broadcastInDim S4x4096x4096x1 ![0, 1, 2] bcast_S4x4096x4096_S4x4096x4096x1_0_1_2
    (select (cmpi .slt b (broadcastInDim S4x4096x4096 ![] bcast_S_S4x4096x4096 (constantI S_ 32 0#32)))
      (addi b (broadcastInDim S4x4096x4096 ![] bcast_S_S4x4096x4096 (constantI S_ 32 32#32))) b)

/-- The bias of every head, query and key. -/
def bias (t : FVec Ideal S32x16 .f32) (i : IVec S4x4096x4096x1 32) : FVec Ideal S4x16x4096x4096 .f32 :=
  transpose S4x16x4096x4096 [0, 3, 1, 2] (Host.gather gather_S32x16_S4x4096x4096x1_S4x4096x4096x16_3_0_n_n_0_3_116 t i) transposes_S4x4096x4096x16_S4x16x4096x4096_0_3_1_2

/-- The dot products of every query and key. -/
def dots (q : FVec Ideal S4x4096x1024 .bf16) (k : FVec Ideal S4x4096x256 .bf16) : FVec Ideal S4x16x4096x4096 .f32 :=
  shapeCast _ (transpose S4x2x4x2x4096x4096 [0, 1, 5, 2, 4, 3] (Host.dotGeneral dot_S4x4096x2x2x64_S4x4096x2x4x2x64_S4x2x2x4096x4096x4_4_5_1_13_023_024 none
    (shapeCast _ (extf .f32 k bitsLt_bf16_f32) shapeCasts_S4x4096x256_S4x4096x2x2x64)
    (shapeCast _ (extf .f32 q bitsLt_bf16_f32) shapeCasts_S4x4096x1024_S4x4096x2x4x2x64)) transposes_S4x2x2x4096x4096x4_S4x2x4x2x4096x4096_0_1_5_2_4_3) shapeCasts_S4x2x4x2x4096x4096_S4x16x4096x4096

/-- Which keys a query sees. -/
def mask : IVec S4096x4096 1 :=
  andi (cmpi .sge (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 0#32)))
    (cmpi .slt (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))) (broadcastInDim S4096x4096 ![] bcast_S_S4096x4096 (constantI S_ 32 128#32)))

/-- The scores, minus infinity off the window. -/
def masked (s : FVec Ideal S4x16x4096x4096 .f32) : FVec Ideal S4x16x4096x4096 .f32 :=
  select (broadcastInDim S4x16x4096x4096 ![0, 1, 2, 3] bcast_S1x1x4096x4096_S4x16x4096x4096_0_1_2_3 (broadcastInDim S1x1x4096x4096 ![2, 3] bcast_S4096x4096_S1x1x4096x4096_2_3 mask)) s
    (broadcastInDim S4x16x4096x4096 ![] bcast_S_S4x16x4096x4096 (id (constant S_ .f32 0xFF800000#32)))

/-- The scores with the sink behind them. -/
def withSink (s : FVec Ideal S4x16x4096x4096 .f32) (sink : FVec Ideal S16 .f32) : FVec Ideal S4x16x4096x4097 .f32 :=
  concatenate S4x16x4096x4097 3 [⟨S4x16x4096x4096, s⟩, ⟨S4x16x4096x1, (broadcastInDim S4x16x4096x1 ![0, 1, 2, 3] bcast_S1x16x1x1_S4x16x4096x1_0_1_2_3 (broadcastInDim S1x16x1x1 ![1] bcast_S16_S1x16x1x1_1 sink))⟩]
    concatenates_S4x16x4096x4096_S4x16x4096x1_S4x16x4096x4097_d3

def rowFold (s : FVec Ideal S4x16x4096x4097 .f32) : FVec Ideal S4x16x4096 .f32 :=
  Host.reduce FloatOps.maximumf s (constant S_ .f32 0xFF800000#32) reducesTo_S4x16x4096x4097_S4x16x4096_d3 h_S_

def capped (y : FVec Ideal S4x16x4096 .f32) : FVec Ideal S4x16x4096 .f32 :=
  maximumf (broadcastInDim S4x16x4096 ![] bcast_S_S4x16x4096 (constant S_ .f32 0xFF800000#32)) y

def rowMax (s : FVec Ideal S4x16x4096x4097 .f32) : FVec Ideal S4x16x4096 .f32 := capped (rowFold s)

def powers (s : FVec Ideal S4x16x4096x4097 .f32) (t : FVec Ideal S4x16x4096 .f32) : FVec Ideal S4x16x4096x4097 .f32 :=
  Host.exp (subf s (broadcastInDim S4x16x4096x4097 ![0, 1, 2, 3] bcast_S4x16x4096x1_S4x16x4096x4097_0_1_2_3 (broadcastInDim S4x16x4096x1 ![0, 1, 2] bcast_S4x16x4096_S4x16x4096x1_0_1_2 t)))

def weights (p : FVec Ideal S4x16x4096x4097 .f32) : FVec Ideal S4x16x4096x4097 .f32 :=
  Host.divf p (broadcastInDim S4x16x4096x4097 ![0, 1, 2, 3] bcast_S4x16x4096x1_S4x16x4096x4097_0_1_2_3 (broadcastInDim S4x16x4096x1 ![0, 1, 2] bcast_S4x16x4096_S4x16x4096x1_0_1_2
    (Host.reduceAdd p (constant S_ .f32 0x00000000#32) reducesTo_S4x16x4096x4097_S4x16x4096_d3 h_S_)))

/-- The weights of the keys, the sink's left out, by group, pair and half. -/
def split (p : FVec Ideal S4x16x4096x4097 .f32) : FVec Ideal S4x2x4x2x4096x4096 .f32 :=
  shapeCast _ (extractStridedSlice S4x16x4096x4096 ![0, 0, 0, 0] p slices_S4x16x4096x4097_S4x16x4096x4096_0_0_0_0) shapeCasts_S4x16x4096x4096_S4x2x4x2x4096x4096

/-- The weighted sums of the values. -/
def sums (v : FVec Ideal S4x4096x256 .bf16) (p : FVec Ideal S4x2x4x2x4096x4096 .f32) : FVec Ideal S4x2x2x64x4x4096 .f32 :=
  Host.dotGeneral dot_S4x4096x2x2x64_S4x2x4x2x4096x4096_S4x2x2x64x4x4096_1_5_4_24_023_013 none (shapeCast _ (extf .f32 v bitsLt_bf16_f32) shapeCasts_S4x4096x256_S4x4096x2x2x64) p

/-- The weighted sums, one row for each position and the heads side by side. -/
def joined (o : FVec Ideal S4x2x2x64x4x4096 .f32) : FVec Ideal S4x4096x1024 .f32 :=
  shapeCast _ (transpose S4x4096x2x4x2x64 [0, 5, 1, 4, 2, 3] o transposes_S4x2x2x64x4x4096_S4x4096x2x4x2x64_0_5_1_4_2_3) shapeCasts_S4x4096x2x4x2x64_S4x4096x1024

/-- The scores that the softmax takes. -/
def logits (sink : FVec Ideal S16 .f32) (q : FVec Ideal S4x4096x1024 .bf16) (k : FVec Ideal S4x4096x256 .bf16) (pos : IVec S4x4096 32) (t : FVec Ideal S32x16 .f32) : FVec Ideal S4x16x4096x4097 .f32 :=
  withSink (masked (addf (dots q k) (bias t (wrapped (bucket (back pos)))))) sink

def result (sink : FVec Ideal S16 .f32) (q : FVec Ideal S4x4096x1024 .bf16) (k v : FVec Ideal S4x4096x256 .bf16) (pos : IVec S4x4096 32) (t : FVec Ideal S32x16 .f32) : FVec Ideal S4x4096x1024 .f32 :=
  joined (sums v (split (weights (powers (logits sink q k pos t) (rowMax (logits sink q k pos t))))))

theorem res_stages (m : (ℓ : Loc nD τ sig) → Buf (Elt Ideal) ℓ) (c : Dev nD) :
    Cert.Reference4Ideal.Value.res_out0 m c
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) := by
  rfl

end Cert.Win.Ref

end
-- ==== Proof.WinBucket.lean ====
/- The buckets of the relative positions: one function of the distance for the kernel and the reference, with values below 32. -/
module

public import proofs.«01_k».proof.Proof.WinPoint
public import proofs.«01_k».proof.Proof.WinRef
public import Idealize.ShloMosaic.Lib.Pointwise

@[expose] public section

set_option maxRecDepth 16384
set_option maxHeartbeats 4000000

noncomputable section

namespace Cert.Win

open Idealize.ShloMosaic Idealize.ShloMosaic.TcCoe

/-- The logarithm's argument and scaling. -/
def spacing (N : BitVec 32) : EReal :=
  Ideal.div (Ideal.log (Ideal.div (FloatOps.sitofp (F := Ideal) FTy.f32 (IntOp.maxsi N 1#32) : EReal) (Ideal.ofBits FTy.f32 1098907648#32))) (Ideal.ofBits FTy.f32 1074075026#32) * Ideal.ofBits FTy.f32 1098907648#32

def bucketOf (N : BitVec 32) : BitVec 32 :=
  Scalar.select (IntOp.cmpi CmpIPredicate.slt N 16#32) N (IntOp.minsi (IntOp.addi (16#32) (FloatOps.fptosi (F := Ideal) (φ := .f32) 32 (spacing N))) 31#32)

/-- The distance back, at least zero. -/
def backOf (d : BitVec 32) : BitVec 32 := IntOp.maxsi d 0#32

/-- The bucket as a number. -/
def bkt (q k : BitVec 32) : Fin 32 := ⟨(bucketOf (backOf (IntOp.subi q k))).toNat % 32, Nat.mod_lt _ (by decide)⟩

theorem maxsi_toInt (a b : BitVec 32) : (IntOp.maxsi a b).toInt = max a.toInt b.toInt := by
  unfold IntOp.maxsi
  simp only [BitVec.sle, BitVec.slt]
  split <;> simp_all <;> omega

theorem minsi_toInt (a b : BitVec 32) : (IntOp.minsi a b).toInt = min a.toInt b.toInt := by
  unfold IntOp.minsi
  simp only [BitVec.sle, BitVec.slt]
  split <;> simp_all <;> omega

theorem bits_16 : Ideal.ofBits FTy.f32 1098907648#32 = ((16 : ℝ) : EReal) := by
  simp [Ideal.ofBits, Ideal.ieee, -EReal.coe_mul]; try norm_num

theorem bits_log : ∃ c : ℝ, 2 ≤ c ∧ Ideal.ofBits FTy.f32 1074075026#32 = ((c : ℝ) : EReal) := by
  refine ⟨8721810 / 4194304, ?_, ?_⟩
  · norm_num
  · simp [Ideal.ofBits, Ideal.ieee, -EReal.coe_mul]; try norm_num

/-- From sixteen on, the spacing is a number that is at least zero and at most 2 ^ 30. -/
theorem spacing_real (N : BitVec 32) (h : 16 ≤ N.toInt) : ∃ x : ℝ, 0 ≤ x ∧ x ≤ 2 ^ 30 ∧ spacing N = ((x : ℝ) : EReal) := by
  obtain ⟨c, hc, hb⟩ := bits_log
  have hm : (IntOp.maxsi N 1#32).toInt = N.toInt := by
    rw [maxsi_toInt, show (1#32).toInt = 1 by decide]; omega
  have hN : (16 : ℝ) ≤ (N.toInt : ℝ) := by exact_mod_cast h
  have hN' : (N.toInt : ℝ) ≤ 2 ^ 31 := by
    have := BitVec.toInt_lt (x := N)
    have h2 : N.toInt ≤ 2 ^ 31 := by norm_num at this ⊢; omega
    exact_mod_cast h2
  have hy : (1 : ℝ) ≤ N.toInt * (1 / 16) := by linarith
  have hl : 0 ≤ Real.log (N.toInt * (1 / 16)) := Real.log_nonneg hy
  have hu : Real.log (N.toInt * (1 / 16)) ≤ 2 ^ 27 := by
    have := Real.log_le_sub_one_of_pos (show (0 : ℝ) < N.toInt * (1 / 16) by linarith)
    have h3 : (N.toInt : ℝ) * (1 / 16) ≤ 2 ^ 27 := by
      have : (2 : ℝ) ^ 31 * (1 / 16) = 2 ^ 27 := by norm_num
      linarith
    linarith
  have hi : (1 / c : ℝ) ≤ 1 / 2 := one_div_le_one_div_of_le (by norm_num) hc
  have hi0 : (0 : ℝ) ≤ 1 / c := by positivity
  refine ⟨Real.log (N.toInt * (1 / 16)) * (1 / c) * 16, by positivity, ?_, ?_⟩
  · have : Real.log (N.toInt * (1 / 16)) * (1 / c) ≤ 2 ^ 27 * (1 / 2) := mul_le_mul hu hi hi0 (by positivity)
    calc _ ≤ (2 : ℝ) ^ 27 * (1 / 2) * 16 := by linarith
      _ = 2 ^ 30 := by norm_num
  · unfold spacing
    rw [bits_16, hb, show (FloatOps.sitofp (F := Ideal) FTy.f32 (IntOp.maxsi N 1#32) : EReal) = (((IntOp.maxsi N 1#32).toInt : ℝ) : EReal) from rfl, hm,
      Ideal.div_coe, Ideal.div_coe, ← EReal.coe_mul, Ideal.log_coe, if_neg (by linarith), ← EReal.coe_mul, ← EReal.coe_mul]
    · norm_num
    · exact (show (0 : ℝ) < c by linarith).ne'

theorem bucket_range (N : BitVec 32) (h : 0 ≤ N.toInt) : 0 ≤ (bucketOf N).toInt ∧ (bucketOf N).toInt < 32 := by
  by_cases h16 : 16 ≤ N.toInt
  · obtain ⟨x, h0, h1, hx⟩ := spacing_real N h16
    have hc : IntOp.cmpi CmpIPredicate.slt N 16#32 = 0#1 := by
      simp only [IntOp.cmpi, BitVec.slt]
      rw [decide_eq_false (by rw [show (16#32).toInt = 16 by decide]; omega)]; rfl
    have hf : bucketOf N = IntOp.minsi (IntOp.addi (16#32) (FloatOps.fptosi (F := Ideal) (φ := .f32) 32 (spacing N))) 31#32 := by
      unfold bucketOf; rw [hc]; rfl
    have hfl : 0 ≤ ⌊x⌋ := Int.floor_nonneg.mpr h0
    have hfu : ⌊x⌋ ≤ 2 ^ 30 := by
      have : (⌊x⌋ : ℝ) ≤ 2 ^ 30 := le_trans (Int.floor_le x) h1
      exact_mod_cast this
    have hv : (FloatOps.fptosi (F := Ideal) (φ := .f32) 32 (spacing N) : BitVec 32) = BitVec.ofInt 32 ⌊x⌋ := by
      rw [hx]
      show BitVec.ofInt 32 (max _ (min _ (if 0 ≤ x then ⌊x⌋ else ⌈x⌉))) = _
      rw [if_pos h0]
      congr 1
      norm_num at hfu ⊢
      omega
    have ht : (IntOp.addi (16#32) (BitVec.ofInt 32 ⌊x⌋)).toInt = 16 + ⌊x⌋ := by
      simp only [IntOp.addi, BitVec.toInt_add, BitVec.toInt_ofInt, show (16#32).toInt = 16 by decide, Int.bmod]
      norm_num at hfu ⊢
      omega
    rw [hf, hv, minsi_toInt, ht, show (31#32).toInt = 31 by decide]
    omega
  · have hc : IntOp.cmpi CmpIPredicate.slt N 16#32 = 1#1 := by
      simp only [IntOp.cmpi, BitVec.slt]
      rw [decide_eq_true (by rw [show (16#32).toInt = 16 by decide]; omega)]; rfl
    have hf : bucketOf N = N := by unfold bucketOf; rw [hc]; rfl
    rw [hf]
    omega

theorem bucket_eq (q k : BitVec 32) : bucketOf (backOf (IntOp.subi q k)) = BitVec.ofNat 32 (bkt q k).val := by
  have h := bucket_range (backOf (IntOp.subi q k)) (by unfold backOf; rw [maxsi_toInt]; exact le_max_of_le_right (by decide))
  have hn : (bucketOf (backOf (IntOp.subi q k))).toNat < 32 := by
    have := BitVec.toInt_eq_toNat_cond (bucketOf (backOf (IntOp.subi q k)))
    have h2 := (bucketOf (backOf (IntOp.subi q k))).isLt
    split at this <;> omega
  apply BitVec.eq_of_toNat_eq
  rw [BitVec.toNat_ofNat]
  show _ = (bucketOf (backOf (IntOp.subi q k))).toNat % 32 % 2 ^ 32
  omega

/-! ## The kernel's buckets -/

section

open Cert.Kernel4Ideal Cert.Kernel4Ideal.Gen

theorem buckets_at (p0 p1 : Vec Ideal S1x128x1 .i32) (pr : Vec Ideal S1x1x128 .i32) (j : Fin 256) (r : Fin 128) (k : BitVec 32)
    (hk : (if h : j.val < 128 then p0 (ix3 0 ⟨j.val, h⟩ 0) else p1 (ix3 0 ⟨j.val - 128, by omega⟩ 0)) = k) :
    buckets p0 p1 pr (ix2 j r) = BitVec.ofNat 32 (bkt (pr (ix3 0 0 r)) k).val := by
  rw [← bucket_eq, ← hk]
  pointwise [buckets, k0_pay4, k0_pay5, k0_pay6]
  rfl

end

/-! ## The reference's -/

namespace Ref

open Cert.Reference4Ideal Cert.Reference4Ideal.Gen

theorem bucket_at (p : IVec S4x4096 32) (b : Fin 4) (q k : Fin 4096) :
    bucket (back p) (ix3 b q k) = BitVec.ofNat 32 (bkt (p (ix2 b q)) (p (ix2 b k))).val := by
  rw [← bucket_eq]
  have h : back p (ix3 b q k) = backOf (IntOp.subi (p (ix2 b q)) (p (ix2 b k))) := by
    pointwise [back]
    rfl
  rw [← h]
  generalize back p = d
  pointwise [bucket]
  rfl

theorem wrapped_at (d : IVec S4x4096x4096 32) (b : Fin 4) (q k : Fin 4096) (u : Fin 32) (h : d (ix3 b q k) = BitVec.ofNat 32 u.val) :
    wrapped d (ix4 b q k 0) = BitVec.ofNat 32 u.val := by
  pointwise [wrapped]
  rw [h]
  clear h
  revert u
  decide +kernel

theorem bias_at (t : FVec Ideal S32x16 .f32) (i : IVec S4x4096x4096x1 32) (b : Fin 4) (h : Fin 16) (q k : Fin 4096) (u : Fin 32) (hu : i (ix4 b q k 0) = BitVec.ofNat 32 u.val) :
    bias t i (ix4 b h q k) = t (ix2 u h) := by
  pointwise [bias]
  unfold Host.gather
  congr 1
  funext a
  refine Fin.ext ?_
  show (gather_S32x16_S4x4096x4096x1_S4x4096x4096x16_3_0_n_n_0_3_116).start (ix4 b q k h) i a + (gather_S32x16_S4x4096x4096x1_S4x4096x4096x16_3_0_n_n_0_3_116).batchCoord (ix4 b q k h) a
      + (gather_S32x16_S4x4096x4096x1_S4x4096x4096x16_3_0_n_n_0_3_116).offCoord (ix4 b q k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x16_S4x4096x4096x1_S4x4096x4096x16_3_0_n_n_0_3_116).startIndexMap from List.mem_singleton.mpr rfl)]
    have hsi : (gather_S32x16_S4x4096x4096x1_S4x4096x4096x16_3_0_n_n_0_3_116).siIdx (ix4 b q k h) ⟨List.idxOf (0 : Fin 2) (gather_S32x16_S4x4096x4096x1_S4x4096x4096x16_3_0_n_n_0_3_116).startIndexMap,
        List.idxOf_lt_length_iff.2 (List.mem_singleton.mpr rfl)⟩ = ix4 b q k 0 := by
      funext b; refine Fin.ext ?_
      match b with
      | ⟨0, _⟩ => rfl
      | ⟨1, _⟩ => rfl
      | ⟨2, _⟩ => rfl
      | ⟨3, _⟩ => rfl
    rw [hsi, hu]
    show min (BitVec.ofNat 32 u.val).toInt.toNat 31 = u.val
    clear hu hsi
    revert u
    decide +kernel
  · rw [GatherDims.batchCoord_eq_zero _ _ _ List.not_mem_nil]
    unfold GatherDims.start
    rw [dif_neg (by decide)]
    unfold GatherDims.offCoord
    rw [dif_pos (by decide)]
    exact (Nat.zero_add _).trans rfl

end Ref

end Cert.Win

end
-- ==== Proof.WinBlock.lean ====
/- The block that the sliding-window kernel stores at a grid point is windowed attention, head by head. -/
module

public import proofs.«01_k».proof.Proof.WinOut
public import proofs.«01_k».proof.Proof.WinBucket

@[expose] public section

set_option maxRecDepth 16384
set_option maxHeartbeats 4000000

noncomputable section

namespace Cert.Win

/-- The lane of a head's `d`-th coordinate among the two groups' keys, each group's held once for every half. -/
def kvLane (h : Fin 16) (d : Fin 64) : Fin 256 := ⟨128 * (h.val / 8) + 64 * (h.val % 2) + d.val, by omega⟩

/-- The lane of a head's `d`-th coordinate among the queries. -/
def lane (h : Fin 16) (d : Fin 64) : Fin 1024 := ⟨64 * h.val + d.val, by omega⟩

open Cert.Kernel4Ideal Cert.Kernel4Ideal.Gen Idealize.ShloMosaic Idealize.ShloMosaic.TcCoe

theorem dot_00 (kb : FVec Ideal S256x256 .bf16) (q : Fin 8 → Vec Ideal S1x128x128 .bf16) (p : Fin 4) (j : Fin 256) (r : Fin 128) :
    cut (k0_pay16 kb k0_pay8 (k0_pay10 (q 0)) (k0_pay10 (q 1)) (k0_pay10 (q 2)) (k0_pay10 (q 3))) p (ix2 j r)
      = ∑ d : Fin 64, kb (ix2 j ⟨d.val, by omega⟩) * q ⟨p.val, by omega⟩ (ix3 0 r ⟨d.val, by omega⟩) := by
  have hw : 128 * p.val + r.val < 512 := by omega
  rw [cut_at _ p j r ⟨128 * p.val + r.val, hw⟩ rfl]
  refine (show _ = dotLo (k0_pay15 kb) (stack fun p => q ⟨p.val, by omega⟩) (ix2 j ⟨128 * p.val + r.val, hw⟩) from rfl).trans ?_
  rw [dotLo_at]
  refine Finset.sum_congr rfl fun d _ => ?_
  rw [stack_at _ p r _ _ rfl, keys0_at]

theorem dot_01 (kb : FVec Ideal S256x256 .bf16) (q : Fin 8 → Vec Ideal S1x128x128 .bf16) (p : Fin 4) (j : Fin 256) (r : Fin 128) :
    cut (k0_pay17 kb k0_pay8 (k0_pay10 (q 0)) (k0_pay10 (q 1)) (k0_pay10 (q 2)) (k0_pay10 (q 3))) p (ix2 j r)
      = ∑ d : Fin 64, kb (ix2 j ⟨64 + d.val, by omega⟩) * q ⟨p.val, by omega⟩ (ix3 0 r ⟨64 + d.val, by omega⟩) := by
  have hw : 128 * p.val + r.val < 512 := by omega
  rw [cut_at _ p j r ⟨128 * p.val + r.val, hw⟩ rfl]
  refine (show _ = dotHi (k0_pay15 kb) (stack fun p => q ⟨p.val, by omega⟩) (ix2 j ⟨128 * p.val + r.val, hw⟩) from rfl).trans ?_
  rw [dotHi_at]
  refine Finset.sum_congr rfl fun d _ => ?_
  rw [stack_at _ p r _ _ rfl, keys0_at]

theorem dot_10 (kb : FVec Ideal S256x256 .bf16) (q : Fin 8 → Vec Ideal S1x128x128 .bf16) (p : Fin 4) (j : Fin 256) (r : Fin 128) :
    cut (k0_pay20 kb k0_pay8 (q 4) (q 5) (q 6) (q 7)) p (ix2 j r)
      = ∑ d : Fin 64, kb (ix2 j ⟨128 + d.val, by omega⟩) * q ⟨4 + p.val, by omega⟩ (ix3 0 r ⟨d.val, by omega⟩) := by
  have hw : 128 * p.val + r.val < 512 := by omega
  rw [cut_at _ p j r ⟨128 * p.val + r.val, hw⟩ rfl]
  refine (show _ = dotLo (k0_pay19 kb) (stack fun p => q ⟨4 + p.val, by omega⟩) (ix2 j ⟨128 * p.val + r.val, hw⟩) from rfl).trans ?_
  rw [dotLo_at]
  refine Finset.sum_congr rfl fun d _ => ?_
  rw [stack_at _ p r _ _ rfl, keys1_at]

theorem dot_11 (kb : FVec Ideal S256x256 .bf16) (q : Fin 8 → Vec Ideal S1x128x128 .bf16) (p : Fin 4) (j : Fin 256) (r : Fin 128) :
    cut (k0_pay21 kb k0_pay8 (q 4) (q 5) (q 6) (q 7)) p (ix2 j r)
      = ∑ d : Fin 64, kb (ix2 j ⟨128 + (64 + d.val), by omega⟩) * q ⟨4 + p.val, by omega⟩ (ix3 0 r ⟨64 + d.val, by omega⟩) := by
  have hw : 128 * p.val + r.val < 512 := by omega
  rw [cut_at _ p j r ⟨128 * p.val + r.val, hw⟩ rfl]
  refine (show _ = dotHi (k0_pay19 kb) (stack fun p => q ⟨4 + p.val, by omega⟩) (ix2 j ⟨128 * p.val + r.val, hw⟩) from rfl).trans ?_
  rw [dotHi_at]
  refine Finset.sum_congr rfl fun d _ => ?_
  rw [stack_at _ p r _ _ rfl, keys1_at]

theorem whole_at (n : Fin 32) (r : Fin 128) (S : ℕ → ℝ) (V : ℕ → EReal) (σ : ℝ) (bk : IVec S256x128 32) (kb vb : FVec Ideal S256x256 .bf16) (q : Fin 8 → Vec Ideal S1x128x128 .bf16)
    (row : Fin 16 → Vec Ideal S1x128 .f32) (sk : Fin 16 → Ideal .f32) (h : Fin 16) (d : Fin 64)
    (hS : ∀ j, seen n r j → (∑ x : Fin 64, kb (ix2 j (kvLane h x)) * q ⟨h.val / 2, by omega⟩ (ix3 0 r ⟨64 * (h.val % 2) + x.val, by omega⟩)) + biasOf bk (row h) (ix2 j r) = ((S (keyOf n j) : ℝ) : EReal))
    (hV : ∀ j, seen n r j → vb (ix2 j (kvLane h d)) = V (keyOf n j)) (hs : sk h = ((σ : ℝ) : EReal)) :
    whole (k0_pay7 (BitVec.ofNat 32 n.val)) bk kb vb q row sk (ix3 0 r (lane h d)) = win S σ V (128 * n.val + r.val) := by
  have hh : h.val < 16 := h.isLt
  let p : Fin 4 := ⟨h.val / 2 % 4, by omega⟩
  let e : Fin 128 := ⟨64 * (h.val % 2) + d.val, by omega⟩
  let w : Fin 512 := ⟨128 * p.val + r.val, by omega⟩
  unfold whole
  rw [spread_at _ _ r e ⟨h.val / 2, by omega⟩ w rfl (lane h d) (by dsimp only [lane, e]; omega)]
  dsimp only
  by_cases hg : h.val / 2 < 4
  · rcases (show h.val % 2 = 0 ∨ h.val % 2 = 1 by omega) with hb | hb
    · -- group 0, half 0
      have hrow : (⟨2 * p.val, by omega⟩ : Fin 16) = h := Fin.ext (by dsimp only [p]; omega)
      rw [if_pos hg]
      refine group_lo n r S V σ _ _ _ _ _ _ p w rfl (by dsimp only [e]; omega) ((congrArg sk hrow).trans hs) (fun j => ?_) (fun j hj => ?_)
      · refine score_at n r S _ _ (fun j hj => ?_) j
        rw [dot_00, hrow, ← hS j hj]
        congr 1
        refine Finset.sum_congr rfl fun x _ => ?_
        exact congr (congrArg (fun u v => u * v) (congrArg (fun y => kb (ix2 j y)) (Fin.ext (by dsimp only [kvLane]; omega))))
          (congrArg₂ (fun y z => q y (ix3 0 r z)) (Fin.ext (by dsimp only [p]; omega)) (Fin.ext (by dsimp only; omega)))
      · rw [values_lo, ← hV j hj]
        exact congrArg (fun y => vb (ix2 j y)) (Fin.ext (by dsimp only [e, kvLane]; omega))
    · -- group 0, half 1
      have hrow : (⟨2 * p.val + 1, by omega⟩ : Fin 16) = h := Fin.ext (by dsimp only [p]; omega)
      rw [if_pos hg]
      refine group_hi n r S V σ _ _ _ _ _ _ p w rfl (by dsimp only [e]; omega) ((congrArg sk hrow).trans hs) (fun j => ?_) (fun j hj => ?_)
      · refine score_at n r S _ _ (fun j hj => ?_) j
        rw [dot_01, hrow, ← hS j hj]
        congr 1
        refine Finset.sum_congr rfl fun x _ => ?_
        exact congr (congrArg (fun u v => u * v) (congrArg (fun y => kb (ix2 j y)) (Fin.ext (by dsimp only [kvLane]; omega))))
          (congrArg₂ (fun y z => q y (ix3 0 r z)) (Fin.ext (by dsimp only [p]; omega)) (Fin.ext (by dsimp only; omega)))
      · rw [values_lo, ← hV j hj]
        exact congrArg (fun y => vb (ix2 j y)) (Fin.ext (by dsimp only [e, kvLane]; omega))
  · rcases (show h.val % 2 = 0 ∨ h.val % 2 = 1 by omega) with hb | hb
    · -- group 1, half 0
      have hrow : (⟨2 * (4 + p.val), by omega⟩ : Fin 16) = h := Fin.ext (by dsimp only [p]; omega)
      rw [if_neg hg]
      refine group_lo n r S V σ _ _ _ _ _ _ p w rfl (by dsimp only [e]; omega) ((congrArg sk hrow).trans hs) (fun j => ?_) (fun j hj => ?_)
      · refine score_at n r S _ _ (fun j hj => ?_) j
        rw [dot_10, hrow, ← hS j hj]
        congr 1
        refine Finset.sum_congr rfl fun x _ => ?_
        exact congr (congrArg (fun u v => u * v) (congrArg (fun y => kb (ix2 j y)) (Fin.ext (by dsimp only [kvLane]; omega))))
          (congrArg₂ (fun y z => q y (ix3 0 r z)) (Fin.ext (by dsimp only [p]; omega)) (Fin.ext (by dsimp only; omega)))
      · rw [values_hi, ← hV j hj]
        exact congrArg (fun y => vb (ix2 j y)) (Fin.ext (by dsimp only [e, kvLane]; omega))
    · -- group 1, half 1
      have hrow : (⟨2 * (4 + p.val) + 1, by omega⟩ : Fin 16) = h := Fin.ext (by dsimp only [p]; omega)
      rw [if_neg hg]
      refine group_hi n r S V σ _ _ _ _ _ _ p w rfl (by dsimp only [e]; omega) ((congrArg sk hrow).trans hs) (fun j => ?_) (fun j hj => ?_)
      · refine score_at n r S _ _ (fun j hj => ?_) j
        rw [dot_11, hrow, ← hS j hj]
        congr 1
        refine Finset.sum_congr rfl fun x _ => ?_
        exact congr (congrArg (fun u v => u * v) (congrArg (fun y => kb (ix2 j y)) (Fin.ext (by dsimp only [kvLane]; omega))))
          (congrArg₂ (fun y z => q y (ix3 0 r z)) (Fin.ext (by dsimp only [p]; omega)) (Fin.ext (by dsimp only; omega)))
      · rw [values_hi, ← hV j hj]
        exact congrArg (fun y => vb (ix2 j y)) (Fin.ext (by dsimp only [e, kvLane]; omega))

/-! ## The loads -/

section

theorem sinkLoad_at {arg2 : Memref sig .tc .smem S16 .f32} (harg2 : arg2.IsWhole) (x0 : Vec Ideal S16 .f32) (h : Fin 16) : sinkLoad arg2 harg2 x0 h = x0 (ix1 h) := by
  unfold sinkLoad
  rw [View.readAt_apply, harg2.read_unread]
  congr 1
  funext a; apply Fin.ext
  match a with
  | ⟨0, _⟩ => exact Nat.add_zero _

theorem queryLoad_at {arg3 : Memref sig .tc .vmem S1x128x1024 .bf16} (harg3 : arg3.IsWhole) (x1 : Vec Ideal S1x128x1024 .bf16) (p : Fin 8) (r e : Fin 128) :
    queryLoad arg3 harg3 x1 p (ix3 0 r e) = x1 (ix3 0 r ⟨128 * p.val + e.val, by omega⟩) := by
  unfold queryLoad
  rw [View.readAt_apply, harg3.read_unread]
  congr 1
  funext a; apply Fin.ext
  match a with
  | ⟨0, _⟩ => rfl
  | ⟨1, _⟩ => exact (Nat.zero_add _).trans (Nat.one_mul _)
  | ⟨2, _⟩ => exact congrArg (128 * p.val + ·) (Nat.one_mul _)

theorem rowLoad_at {arg11 : Memref sig .tc .vmem S16x128 .f32} (harg11 : arg11.IsWhole) (x9 : Vec Ideal S16x128 .f32) (h : Fin 16) (e : Fin 128) :
    rowLoad arg11 harg11 x9 h (ix2 0 e) = x9 (ix2 h e) := by
  unfold rowLoad
  rw [View.readAt_apply, harg11.read_unread]
  congr 1
  funext a; apply Fin.ext
  match a with
  | ⟨0, _⟩ => exact Nat.add_zero _
  | ⟨1, _⟩ => exact (Nat.zero_add _).trans (Nat.one_mul _)

theorem pairLoad_at {arg : Memref sig .tc .vmem S1x128x256 .bf16} (harg : arg.IsWhole) (x : Vec Ideal S1x128x256 .bf16) (j : Fin 128) (l : Fin 256) : pairLoad harg x (ix3 0 j l) = x (ix3 0 j l) := by
  unfold pairLoad
  rw [View.readAt_apply, harg.read_unread]
  congr 1
  funext a; apply Fin.ext
  match a with
  | ⟨0, _⟩ => rfl
  | ⟨1, _⟩ => exact (Nat.zero_add _).trans (Nat.one_mul _)
  | ⟨2, _⟩ => exact (Nat.zero_add _).trans (Nat.one_mul _)

theorem colLoad_at {arg : Memref sig .tc .vmem S1x128x1 .i32} (harg : arg.IsWhole) (x : Vec Ideal S1x128x1 .i32) (j : Fin 128) : colLoad harg x (ix3 0 j 0) = x (ix3 0 j 0) := by
  unfold colLoad
  rw [View.readAt_apply, harg.read_unread]
  congr 1
  funext a; apply Fin.ext
  match a with
  | ⟨0, _⟩ => rfl
  | ⟨1, _⟩ => exact (Nat.zero_add _).trans (Nat.one_mul _)
  | ⟨2, _⟩ => rfl

theorem posLoad_at {arg10 : Memref sig .tc .vmem S1x1x128 .i32} (harg10 : arg10.IsWhole) (x8 : Vec Ideal S1x1x128 .i32) (r : Fin 128) : posLoad arg10 harg10 x8 (ix3 0 0 r) = x8 (ix3 0 0 r) := by
  unfold posLoad
  rw [View.readAt_apply, harg10.read_unread]
  congr 1
  funext a; apply Fin.ext
  match a with
  | ⟨0, _⟩ => rfl
  | ⟨1, _⟩ => rfl
  | ⟨2, _⟩ => exact (Nat.zero_add _).trans (Nat.one_mul _)

theorem keys_at (a b : Vec Ideal S1x128x256 .bf16) (j : Fin 256) (l : Fin 256) :
    k0_pay2 a b (ix2 j l) = if h : j.val < 128 then a (ix3 0 ⟨j.val, h⟩ l) else b (ix3 0 ⟨j.val - 128, by omega⟩ l) := by
  pointwise [k0_pay2]

theorem values_at (a b : Vec Ideal S1x128x256 .bf16) (j : Fin 256) (l : Fin 256) :
    k0_pay3 a b (ix2 j l) = if h : j.val < 128 then a (ix3 0 ⟨j.val, h⟩ l) else b (ix3 0 ⟨j.val - 128, by omega⟩ l) := by
  pointwise [k0_pay3]

/-- A grid point's operands are those of one batch row and block: the queries' scores and the values of the keys that they see. -/
theorem out_at (c : Dev nD) (i : grid0.Coords) (arg2 : Memref sig .tc .smem S16 .f32) (harg2 : arg2.IsWhole) (arg3 : Memref sig .tc .vmem S1x128x1024 .bf16) (harg3 : arg3.IsWhole) (arg4 : Memref sig .tc .vmem S1x128x256 .bf16) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x1 .i32) (harg8 : arg8.IsWhole) (arg9 : Memref sig .tc .vmem S1x128x1 .i32) (harg9 : arg9.IsWhole) (arg10 : Memref sig .tc .vmem S1x1x128 .i32) (harg10 : arg10.IsWhole) (arg11 : Memref sig .tc .vmem S16x128 .f32) (harg11 : arg11.IsWhole) (arg12 : Memref sig .tc .vmem S1x128x1024 .f32) (harg12 : arg12.IsWhole)
   (x0 : Vec Ideal S16 .f32) (x1 : Vec Ideal S1x128x1024 .bf16) (x2 : Vec Ideal S1x128x256 .bf16) (x3 : Vec Ideal S1x128x256 .bf16) (x4 : Vec Ideal S1x128x256 .bf16) (x5 : Vec Ideal S1x128x256 .bf16) (x6 : Vec Ideal S1x128x1 .i32) (x7 : Vec Ideal S1x128x1 .i32) (x8 : Vec Ideal S1x1x128 .i32) (x9 : Vec Ideal S16x128 .f32)
   (n : Fin 32) (hn : (i 1).val = n.val) (r : Fin 128) (h : Fin 16) (d : Fin 64) (S : ℕ → ℝ) (V : ℕ → EReal) (σ : ℝ) (key : Fin 256 → Fin 256 → EReal) (val : Fin 256 → Fin 256 → EReal) (pos : Fin 256 → BitVec 32)
   (hk : ∀ j, seen n r j → ∀ l, (if h : j.val < 128 then x2 (ix3 0 ⟨j.val, h⟩ l) else x3 (ix3 0 ⟨j.val - 128, by omega⟩ l)) = key j l)
   (hv : ∀ j, seen n r j → ∀ l, (if h : j.val < 128 then x4 (ix3 0 ⟨j.val, h⟩ l) else x5 (ix3 0 ⟨j.val - 128, by omega⟩ l)) = val j l)
   (hp : ∀ j, seen n r j → (if h : j.val < 128 then x6 (ix3 0 ⟨j.val, h⟩ 0) else x7 (ix3 0 ⟨j.val - 128, by omega⟩ 0)) = pos j)
   (hS : ∀ j, seen n r j → (∑ x : Fin 64, key j (kvLane h x) * x1 (ix3 0 r (lane h x))) + x9 (ix2 h ⟨(bkt (x8 (ix3 0 0 r)) (pos j)).val, by omega⟩) = ((S (keyOf n j) : ℝ) : EReal))
   (hV : ∀ j, seen n r j → val j (kvLane h d) = V (keyOf n j)) (hs : x0 (ix1 h) = ((σ : ℝ) : EReal)) :
   out0_A_10 c i arg2 harg2 arg3 harg3 arg4 harg4 arg5 harg5 arg6 harg6 arg7 harg7 arg8 harg8 arg9 harg9 arg10 harg10 arg11 harg11 arg12 harg12 x0 x1 x2 x3 x4 x5 x6 x7 x8 x9 (ix3 0 r (lane h d)) = win S σ V (128 * n.val + r.val) := by
  unfold out0_A_10
  rw [pieces]
  refine (View.read_writes_cons_hit_of_coords VO0_10 _ _ _ _ (ix3 0 r (lane h d)) (ix3 0 r (lane h d)) fun a => ?_).trans ?_
  · match a with
    | ⟨0, _⟩ => rfl
    | ⟨1, _⟩ => show r.val = 0 + 1 * r.val; omega
    | ⟨2, _⟩ => show (lane h d).val = 0 + 1 * (lane h d).val; omega
  rw [hn]
  refine whole_at n r S V σ _ _ _ _ _ _ h d (fun j hj => ?_) (fun j hj => ?_) ((sinkLoad_at harg2 x0 h).trans hs)
  · rw [← hS j hj]
    have hb : buckets (colLoad harg8 x6) (colLoad harg9 x7) (posLoad arg10 harg10 x8) (ix2 j r) = BitVec.ofNat 32 (bkt (x8 (ix3 0 0 r)) (pos j)).val := by
      rw [buckets_at _ _ _ j r (pos j) (by simp only [colLoad_at]; exact hp j hj), posLoad_at]
    rw [bias_at _ _ j r _ hb, rowLoad_at]
    congr 1
    refine Finset.sum_congr rfl fun x _ => ?_
    rw [queryLoad_at, keys_at]
    simp only [pairLoad_at]
    rw [hk j hj]
    exact congrArg (fun y => key j (kvLane h x) * x1 (ix3 0 r y)) (Fin.ext (by dsimp only [lane]; omega))
  · rw [values_at]
    simp only [pairLoad_at]
    rw [hv j hj, hV j hj]

end

end Cert.Win

end
-- ==== Proof.WinArray.lean ====
/- The sliding-window kernel's array after the run, at an index: windowed attention of the launch's operands. -/
module

public import proofs.«01_k».proof.Proof.Gen.Kernel4Ideal.Value
public import proofs.«01_k».proof.Proof.WinBlock
public import Idealize.ShloMosaic.Lib.Pipeline.ValueKit.Tiles
public import Idealize.ShloMosaic.Lib.KernelVsHost

@[expose] public section

set_option maxRecDepth 16384
set_option maxHeartbeats 2000000

noncomputable section

namespace Cert.Win

open Cert.Kernel4Ideal Cert.Kernel4Ideal.Gen Idealize.ShloMosaic Idealize.ShloMosaic.TcCoe

/-- Which block each window takes at a grid point. -/
theorem idx_facts : ∀ t : Fin cfg0.N,
    (win0_0.index t (0 : Fin 1) = 0)
    ∧ (win0_1.index t (0 : Fin 3) = (grid0.coords t 0).val ∧ win0_1.index t (1 : Fin 3) = (grid0.coords t 1).val ∧ win0_1.index t (2 : Fin 3) = 0)
    ∧ (win0_2.index t (0 : Fin 3) = (grid0.coords t 0).val ∧ win0_2.index t (1 : Fin 3) = (grid0.coords t 1).val - 1 ∧ win0_2.index t (2 : Fin 3) = 0)
    ∧ (win0_3.index t (0 : Fin 3) = (grid0.coords t 0).val ∧ win0_3.index t (1 : Fin 3) = (grid0.coords t 1).val ∧ win0_3.index t (2 : Fin 3) = 0)
    ∧ (win0_4.index t (0 : Fin 3) = (grid0.coords t 0).val ∧ win0_4.index t (1 : Fin 3) = (grid0.coords t 1).val - 1 ∧ win0_4.index t (2 : Fin 3) = 0)
    ∧ (win0_5.index t (0 : Fin 3) = (grid0.coords t 0).val ∧ win0_5.index t (1 : Fin 3) = (grid0.coords t 1).val ∧ win0_5.index t (2 : Fin 3) = 0)
    ∧ (win0_6.index t (0 : Fin 3) = (grid0.coords t 0).val ∧ win0_6.index t (1 : Fin 3) = (grid0.coords t 1).val - 1 ∧ win0_6.index t (2 : Fin 3) = 0)
    ∧ (win0_7.index t (0 : Fin 3) = (grid0.coords t 0).val ∧ win0_7.index t (1 : Fin 3) = (grid0.coords t 1).val ∧ win0_7.index t (2 : Fin 3) = 0)
    ∧ (win0_8.index t (0 : Fin 3) = (grid0.coords t 0).val ∧ win0_8.index t (1 : Fin 3) = 0 ∧ win0_8.index t (2 : Fin 3) = (grid0.coords t 1).val)
    ∧ (win0_9.index t (0 : Fin 2) = 0 ∧ win0_9.index t (1 : Fin 2) = 0)
    ∧ (win0_10.index t (0 : Fin 3) = (grid0.coords t 0).val ∧ win0_10.index t (1 : Fin 3) = (grid0.coords t 1).val ∧ win0_10.index t (2 : Fin 3) = 0)
    ∧ (cfg0.win 10).flush t = true :=
  (by decide +kernel : ∀ t : Fin grid0.N, _)

/-- Every pair of a batch row and a block of queries is a grid point. -/
theorem point_exists : ∀ (b : Fin 4) (n : Fin 32), ∃ t : Fin cfg0.N, (grid0.coords t 0).val = b.val ∧ (grid0.coords t 1).val = n.val :=
  (by decide +kernel : ∀ (b : Fin 4) (n : Fin 32), ∃ t : Fin grid0.N, (grid0.coords t 0).val = b.val ∧ (grid0.coords t 1).val = n.val)

variable (m : (ℓ : Loc nD τ sig) → Buf (Elt Ideal) ℓ)

abbrev sinks (c : Dev nD) : FVec Ideal S16 .f32 := m ((c : Thread nD τ).loc main_arg0)

abbrev queries (c : Dev nD) : FVec Ideal S4x4096x1024 .bf16 := m ((c : Thread nD τ).loc main_arg1)

abbrev keys (c : Dev nD) : FVec Ideal S4x4096x256 .bf16 := m ((c : Thread nD τ).loc main_arg2)

abbrev values (c : Dev nD) : FVec Ideal S4x4096x256 .bf16 := m ((c : Thread nD τ).loc main_arg3)

abbrev positions (c : Dev nD) : IVec S4x4096 32 := m ((c : Thread nD τ).loc main_arg4)

abbrev table (c : Dev nD) : FVec Ideal S32x16 .f32 := m ((c : Thread nD τ).loc main_arg5)

/-! ## The arrays that the host code hands to the launch -/

theorem host_table (c : Dev nD) (h : Fin 16) (u : Fin 32) : (V m c main_v1 : FVec Ideal S16x128 .f32) (ix2 h ⟨u.val, by omega⟩) = table m c (ix2 u h) := by
  rw [show V m c main_v1 = pad S16x128 ![0, 0] ![0, 96] ![0, 0] (transpose S16x32 [1, 0] (table m c) transposes_S32x16_S16x32_1_0)
    (sitofp .f32 (constantI S_ 32 0#32) : FVec Ideal S_ .f32) pads_S16x32_S16x128_000_0960 h_S_ from rfl]
  rw [pad_apply_of_inside _ _ _ _ _ _ _ _ (ix2 h u) (fun a => by
    match a with
    | ⟨0, _⟩ => show h.val = 0 + h.val * 1; omega
    | ⟨1, _⟩ => show u.val = 0 + u.val * 1; omega)]
  pointwise

theorem host_column (c : Dev nD) (b : Fin 4) (s : Fin 4096) : (V m c main_v2 : Vec Ideal S4x4096x1 .i32) (ix3 b s 0) = positions m c (ix2 b s) := by
  rw [show V m c main_v2 = shapeCast S4x4096x1 (positions m c) shapeCasts_S4x4096_S4x4096x1 from rfl]
  pointwise

theorem host_row (c : Dev nD) (b : Fin 4) (s : Fin 4096) : (V m c main_v3 : Vec Ideal S4x1x4096 .i32) (ix3 b 0 s) = positions m c (ix2 b s) := by
  rw [show V m c main_v3 = shapeCast S4x1x4096 (positions m c) shapeCasts_S4x4096_S4x1x4096 from rfl]
  pointwise

/-! ## The blocks -/

section

variable (c : Dev nD) (t : Fin cfg0.N) (b : Fin 4) (hB : b.val = (grid0.coords t 0).val)

theorem sinks_blk (h : Fin 16) : iblk m c 0 t (ix1 h) = sinks m c (ix1 h) := by
  obtain ⟨e0, -⟩ := idx_facts t
  show V m c main_arg0 (((cfg0.win 0).blk t).view.emb (ix1 h)) = _
  rw [show ((cfg0.win 0).blk t).view.emb (ix1 h) = (ix1 h : S16.Idx) from by
    funext a; apply Fin.ext
    match a with
    | ⟨0, _⟩ => show win0_0.index t (0 : Fin 1) * 16 + 1 * h.val = h.val; omega]
  exact congrFun (V_main_arg0 m c) _

theorem table_blk (h : Fin 16) (u : Fin 32) : iblk m c 9 t (ix2 h ⟨u.val, by omega⟩) = table m c (ix2 u h) := by
  obtain ⟨-, -, -, -, -, -, -, -, -, ⟨e0, e1⟩, -⟩ := idx_facts t
  show V m c main_v1 (((cfg0.win 9).blk t).view.emb (ix2 h ⟨u.val, by omega⟩)) = _
  rw [show ((cfg0.win 9).blk t).view.emb (ix2 h ⟨u.val, by omega⟩) = (ix2 h ⟨u.val, by omega⟩ : S16x128.Idx) from by
    funext a; apply Fin.ext
    match a with
    | ⟨0, _⟩ => show win0_9.index t (0 : Fin 2) * 16 + 1 * h.val = h.val; omega
    | ⟨1, _⟩ => show win0_9.index t (1 : Fin 2) * 128 + 1 * u.val = u.val; omega]
  exact host_table m c h u

include hB

theorem row_blk (r : Fin 128) (s : Fin 4096) (hs : s.val = 128 * (grid0.coords t 1).val + r.val) : iblk m c 8 t (ix3 0 0 r) = positions m c (ix2 b s) := by
  obtain ⟨-, -, -, -, -, -, -, -, ⟨e0, e1, e2⟩, -⟩ := idx_facts t
  show V m c main_v3 (((cfg0.win 8).blk t).view.emb (ix3 0 0 r)) = _
  rw [show ((cfg0.win 8).blk t).view.emb (ix3 0 0 r) = (ix3 b 0 s : S4x1x4096.Idx) from by
    funext a; apply Fin.ext
    match a with
    | ⟨0, _⟩ => show win0_8.index t (0 : Fin 3) * 1 + 1 * 0 = b.val; omega
    | ⟨1, _⟩ => show win0_8.index t (1 : Fin 3) * 1 + 1 * 0 = 0; omega
    | ⟨2, _⟩ => show win0_8.index t (2 : Fin 3) * 128 + 1 * r.val = s.val; omega]
  exact host_row m c b s

theorem queries_blk (r : Fin 128) (l : Fin 1024) (s : Fin 4096) (hs : s.val = 128 * (grid0.coords t 1).val + r.val) : iblk m c 1 t (ix3 0 r l) = queries m c (ix3 b s l) := by
  obtain ⟨-, ⟨e0, e1, e2⟩, -⟩ := idx_facts t
  show V m c main_arg1 (((cfg0.win 1).blk t).view.emb (ix3 0 r l)) = _
  rw [show ((cfg0.win 1).blk t).view.emb (ix3 0 r l) = (ix3 b s l : S4x4096x1024.Idx) from by
    funext a; apply Fin.ext
    match a with
    | ⟨0, _⟩ => show win0_1.index t (0 : Fin 3) * 1 + 1 * 0 = b.val; omega
    | ⟨1, _⟩ => show win0_1.index t (1 : Fin 3) * 128 + 1 * r.val = s.val; omega
    | ⟨2, _⟩ => show win0_1.index t (2 : Fin 3) * 1024 + 1 * l.val = l.val; omega]
  exact congrFun (V_main_arg1 m c) _

theorem keys_prev (r : Fin 128) (l : Fin 256) (s : Fin 4096) (hs : s.val = 128 * ((grid0.coords t 1).val - 1) + r.val) : iblk m c 2 t (ix3 0 r l) = keys m c (ix3 b s l) := by
  obtain ⟨-, -, ⟨e0, e1, e2⟩, -⟩ := idx_facts t
  show V m c main_arg2 (((cfg0.win 2).blk t).view.emb (ix3 0 r l)) = _
  rw [show ((cfg0.win 2).blk t).view.emb (ix3 0 r l) = (ix3 b s l : S4x4096x256.Idx) from by
    funext a; apply Fin.ext
    match a with
    | ⟨0, _⟩ => show win0_2.index t (0 : Fin 3) * 1 + 1 * 0 = b.val; omega
    | ⟨1, _⟩ => show win0_2.index t (1 : Fin 3) * 128 + 1 * r.val = s.val; omega
    | ⟨2, _⟩ => show win0_2.index t (2 : Fin 3) * 256 + 1 * l.val = l.val; omega]
  exact congrFun (V_main_arg2 m c) _

theorem keys_cur (r : Fin 128) (l : Fin 256) (s : Fin 4096) (hs : s.val = 128 * (grid0.coords t 1).val + r.val) : iblk m c 3 t (ix3 0 r l) = keys m c (ix3 b s l) := by
  obtain ⟨-, -, -, ⟨e0, e1, e2⟩, -⟩ := idx_facts t
  show V m c main_arg2 (((cfg0.win 3).blk t).view.emb (ix3 0 r l)) = _
  rw [show ((cfg0.win 3).blk t).view.emb (ix3 0 r l) = (ix3 b s l : S4x4096x256.Idx) from by
    funext a; apply Fin.ext
    match a with
    | ⟨0, _⟩ => show win0_3.index t (0 : Fin 3) * 1 + 1 * 0 = b.val; omega
    | ⟨1, _⟩ => show win0_3.index t (1 : Fin 3) * 128 + 1 * r.val = s.val; omega
    | ⟨2, _⟩ => show win0_3.index t (2 : Fin 3) * 256 + 1 * l.val = l.val; omega]
  exact congrFun (V_main_arg2 m c) _

theorem values_prev (r : Fin 128) (l : Fin 256) (s : Fin 4096) (hs : s.val = 128 * ((grid0.coords t 1).val - 1) + r.val) : iblk m c 4 t (ix3 0 r l) = values m c (ix3 b s l) := by
  obtain ⟨-, -, -, -, ⟨e0, e1, e2⟩, -⟩ := idx_facts t
  show V m c main_arg3 (((cfg0.win 4).blk t).view.emb (ix3 0 r l)) = _
  rw [show ((cfg0.win 4).blk t).view.emb (ix3 0 r l) = (ix3 b s l : S4x4096x256.Idx) from by
    funext a; apply Fin.ext
    match a with
    | ⟨0, _⟩ => show win0_4.index t (0 : Fin 3) * 1 + 1 * 0 = b.val; omega
    | ⟨1, _⟩ => show win0_4.index t (1 : Fin 3) * 128 + 1 * r.val = s.val; omega
    | ⟨2, _⟩ => show win0_4.index t (2 : Fin 3) * 256 + 1 * l.val = l.val; omega]
  exact congrFun (V_main_arg3 m c) _

theorem values_cur (r : Fin 128) (l : Fin 256) (s : Fin 4096) (hs : s.val = 128 * (grid0.coords t 1).val + r.val) : iblk m c 5 t (ix3 0 r l) = values m c (ix3 b s l) := by
  obtain ⟨-, -, -, -, -, ⟨e0, e1, e2⟩, -⟩ := idx_facts t
  show V m c main_arg3 (((cfg0.win 5).blk t).view.emb (ix3 0 r l)) = _
  rw [show ((cfg0.win 5).blk t).view.emb (ix3 0 r l) = (ix3 b s l : S4x4096x256.Idx) from by
    funext a; apply Fin.ext
    match a with
    | ⟨0, _⟩ => show win0_5.index t (0 : Fin 3) * 1 + 1 * 0 = b.val; omega
    | ⟨1, _⟩ => show win0_5.index t (1 : Fin 3) * 128 + 1 * r.val = s.val; omega
    | ⟨2, _⟩ => show win0_5.index t (2 : Fin 3) * 256 + 1 * l.val = l.val; omega]
  exact congrFun (V_main_arg3 m c) _

theorem column_prev (r : Fin 128)  (s : Fin 4096) (hs : s.val = 128 * ((grid0.coords t 1).val - 1) + r.val) : iblk m c 6 t (ix3 0 r 0) = positions m c (ix2 b s) := by
  obtain ⟨-, -, -, -, -, -, ⟨e0, e1, e2⟩, -⟩ := idx_facts t
  show V m c main_v2 (((cfg0.win 6).blk t).view.emb (ix3 0 r 0)) = _
  rw [show ((cfg0.win 6).blk t).view.emb (ix3 0 r 0) = (ix3 b s 0 : S4x4096x1.Idx) from by
    funext a; apply Fin.ext
    match a with
    | ⟨0, _⟩ => show win0_6.index t (0 : Fin 3) * 1 + 1 * 0 = b.val; omega
    | ⟨1, _⟩ => show win0_6.index t (1 : Fin 3) * 128 + 1 * r.val = s.val; omega
    | ⟨2, _⟩ => show win0_6.index t (2 : Fin 3) * 1 + 1 * 0 = 0; omega]
  exact host_column m c b s

theorem column_cur (r : Fin 128)  (s : Fin 4096) (hs : s.val = 128 * (grid0.coords t 1).val + r.val) : iblk m c 7 t (ix3 0 r 0) = positions m c (ix2 b s) := by
  obtain ⟨-, -, -, -, -, -, -, ⟨e0, e1, e2⟩, -⟩ := idx_facts t
  show V m c main_v2 (((cfg0.win 7).blk t).view.emb (ix3 0 r 0)) = _
  rw [show ((cfg0.win 7).blk t).view.emb (ix3 0 r 0) = (ix3 b s 0 : S4x4096x1.Idx) from by
    funext a; apply Fin.ext
    match a with
    | ⟨0, _⟩ => show win0_7.index t (0 : Fin 3) * 1 + 1 * 0 = b.val; omega
    | ⟨1, _⟩ => show win0_7.index t (1 : Fin 3) * 128 + 1 * r.val = s.val; omega
    | ⟨2, _⟩ => show win0_7.index t (2 : Fin 3) * 1 + 1 * 0 = 0; omega]
  exact host_column m c b s

end

/-- The number of a key that a query sees. -/
def keyAt (n : Fin 32) (j : Fin 256) : Fin 4096 := ⟨keyOf n j % 4096, Nat.mod_lt _ (by decide)⟩

theorem keyAt_val (n : Fin 32) (r : Fin 128) (j : Fin 256) (h : seen n r j) : (keyAt n j).val = keyOf n j := by
  obtain ⟨h1, h2, h3⟩ := h
  simp only [keyAt, keyOf]
  omega

theorem keyAt_prev (n : Fin 32) (r : Fin 128) (j : Fin 256) (h : seen n r j) (hj : j.val < 128) : (keyAt n j).val = 128 * (n.val - 1) + j.val := by
  rw [keyAt_val n r j h]
  obtain ⟨h1, h2, h3⟩ := h
  simp only [keyOf]
  omega

theorem keyAt_cur (n : Fin 32) (r : Fin 128) (j : Fin 256) (h : seen n r j) (hj : ¬ j.val < 128) : (keyAt n j).val = 128 * n.val + (j.val - 128) := by
  rw [keyAt_val n r j h]
  obtain ⟨h1, h2, h3⟩ := h
  simp only [keyOf]
  omega

section

variable (c : Dev nD) (t : Fin cfg0.N) (b : Fin 4) (n : Fin 32) (r : Fin 128) (c0 : b.val = (grid0.coords t 0).val) (c1 : (grid0.coords t 1).val = n.val)

include c0 c1

theorem keys_seen (j : Fin 256) (hj : seen n r j) (l : Fin 256) :
    (if h : j.val < 128 then (iblk m c 2 t : Vec Ideal S1x128x256 .bf16) (ix3 0 ⟨j.val, h⟩ l) else (iblk m c 3 t : Vec Ideal S1x128x256 .bf16) (ix3 0 ⟨j.val - 128, by omega⟩ l)) = keys m c (ix3 b (keyAt n j) l) := by
  by_cases hl : j.val < 128
  · exact (dif_pos hl).trans (keys_prev m c t b c0 _ l _ (by rw [keyAt_prev n r j hj hl, c1]))
  · exact (dif_neg hl).trans (keys_cur m c t b c0 _ l _ (by rw [keyAt_cur n r j hj hl, c1]))

theorem values_seen (j : Fin 256) (hj : seen n r j) (l : Fin 256) :
    (if h : j.val < 128 then (iblk m c 4 t : Vec Ideal S1x128x256 .bf16) (ix3 0 ⟨j.val, h⟩ l) else (iblk m c 5 t : Vec Ideal S1x128x256 .bf16) (ix3 0 ⟨j.val - 128, by omega⟩ l)) = values m c (ix3 b (keyAt n j) l) := by
  by_cases hl : j.val < 128
  · exact (dif_pos hl).trans (values_prev m c t b c0 _ l _ (by rw [keyAt_prev n r j hj hl, c1]))
  · exact (dif_neg hl).trans (values_cur m c t b c0 _ l _ (by rw [keyAt_cur n r j hj hl, c1]))

theorem column_seen (j : Fin 256) (hj : seen n r j) :
    (if h : j.val < 128 then (iblk m c 6 t : Vec Ideal S1x128x1 .i32) (ix3 0 ⟨j.val, h⟩ 0) else (iblk m c 7 t : Vec Ideal S1x128x1 .i32) (ix3 0 ⟨j.val - 128, by omega⟩ 0)) = positions m c (ix2 b (keyAt n j)) := by
  by_cases hl : j.val < 128
  · exact (dif_pos hl).trans (column_prev m c t b c0 _ _ (by rw [keyAt_prev n r j hj hl, c1]))
  · exact (dif_neg hl).trans (column_cur m c t b c0 _ _ (by rw [keyAt_cur n r j hj hl, c1]))

theorem block_at (s : Fin 4096) (hr : s.val = 128 * n.val + r.val) (h : Fin 16) (d : Fin 64) (S : ℕ → ℝ) (W : ℕ → EReal) (σ : ℝ)
    (hS : ∀ k : Fin 4096, (∑ x : Fin 64, keys m c (ix3 b k (kvLane h x)) * queries m c (ix3 b s (lane h x))) + table m c (ix2 (bkt (positions m c (ix2 b s)) (positions m c (ix2 b k))) h) = ((S k.val : ℝ) : EReal))
    (hV : ∀ k : Fin 4096, values m c (ix3 b k (kvLane h d)) = W k.val) (hs : sinks m c (ix1 h) = ((σ : ℝ) : EReal)) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
      (iblk m c 0 t) (iblk m c 1 t) (iblk m c 2 t) (iblk m c 3 t) (iblk m c 4 t) (iblk m c 5 t) (iblk m c 6 t) (iblk m c 7 t) (iblk m c 8 t) (iblk m c 9 t) (ix3 0 r (lane h d)) = win S σ W (128 * n.val + r.val) := by
  have hr' : s.val = 128 * (grid0.coords t 1).val + r.val := by rw [c1]; exact hr
  refine out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t)
    n c1 r h d S W σ (fun j l => keys m c (ix3 b (keyAt n j) l)) (fun j l => values m c (ix3 b (keyAt n j) l)) (fun j => positions m c (ix2 b (keyAt n j)))
    (keys_seen m c t b n r c0 c1) (values_seen m c t b n r c0 c1) (column_seen m c t b n r c0 c1) (fun j hj => ?_) (fun j hj => ?_) ((sinks_blk m c t h).trans hs)
  · refine Eq.trans ?_ ((hS (keyAt n j)).trans (congrArg (fun k => ((S k : ℝ) : EReal)) (keyAt_val n r j hj)))
    refine congrArg₂ (fun x y : EReal => x + y) (Finset.sum_congr rfl fun x _ => congrArg (fun y : EReal => keys m c (ix3 b (keyAt n j) (kvLane h x)) * y) (queries_blk m c t b c0 r (lane h x) s hr')) ?_
    exact (congrArg (fun p : BitVec 32 => (iblk m c 9 t : Vec Ideal S16x128 .f32) (ix2 h ⟨(bkt p (positions m c (ix2 b (keyAt n j)))).val, by omega⟩)) (row_blk m c t b c0 r s hr')).trans (table_blk m c t b h _)
  · exact (hV (keyAt n j)).trans (congrArg W (keyAt_val n r j hj))

end

/-- The array after the run, at a position and a head's coordinate. -/
theorem array_at (c : Dev nD) (b : Fin 4) (s : Fin 4096) (h : Fin 16) (d : Fin 64) (S : ℕ → ℝ) (W : ℕ → EReal) (σ : ℝ)
    (hS : ∀ k : Fin 4096, (∑ x : Fin 64, keys m c (ix3 b k (kvLane h x)) * queries m c (ix3 b s (lane h x))) + table m c (ix2 (bkt (positions m c (ix2 b s)) (positions m c (ix2 b k))) h) = ((S k.val : ℝ) : EReal))
    (hV : ∀ k : Fin 4096, values m c (ix3 b k (kvLane h d)) = W k.val) (hs : sinks m c (ix1 h) = ((σ : ℝ) : EReal)) :
    (dats m 0 c).arrAt 10 cfg0.N (ix3 b s (lane h d)) = win S σ W s.val := by
  obtain ⟨n, r, hr⟩ : ∃ (n : Fin 32) (r : Fin 128), s.val = 128 * n.val + r.val := ⟨⟨s.val / 128, by omega⟩, ⟨s.val % 128, by omega⟩, by dsimp only; omega⟩
  obtain ⟨t, c0, c1⟩ := point_exists b n
  obtain ⟨-, -, -, -, -, -, -, -, -, -, ⟨e0, e1, e2⟩, hf⟩ := idx_facts t
  have hb := congrFun (Cert.Kernel4Ideal.Value.blocks10 m c t hf) (ix3 0 r (lane h d))
  rw [Cert.Kernel4Ideal.Value.flushed10_A] at hb
  have he : ((cfg0.win 10).blk t).view.emb (ix3 0 r (lane h d)) = (ix3 b s (lane h d) : S4x4096x1024.Idx) := by
    funext a; apply Fin.ext
    match a with
    | ⟨0, _⟩ => show win0_10.index t (0 : Fin 3) * 1 + 1 * 0 = b.val; omega
    | ⟨1, _⟩ => show win0_10.index t (1 : Fin 3) * 128 + 1 * r.val = s.val; omega
    | ⟨2, _⟩ => show win0_10.index t (2 : Fin 3) * 1024 + 1 * (lane h d).val = (lane h d).val; omega
  have ho := block_at m c t b n r c0.symm c1 s hr h d S W σ hS hV hs
  rw [← hr] at ho
  refine Eq.trans ?_ (hb.trans ho)
  exact congrArg ((dats m 0 c).arrAt 10 cfg0.N) he.symm

end Cert.Win

end
-- ==== Proof.WinRead.lean ====
/- The reference's window attention, read at an index. -/
module

public import proofs.«01_k».proof.Proof.WinBlock
public import Idealize.ShloMosaic.Lib.WordCmp

@[expose] public section

set_option maxRecDepth 16384
set_option maxHeartbeats 4000000

noncomputable section

namespace Cert.Win.Ref

open Cert.Reference4Ideal Cert.Reference4Ideal.Gen Idealize.ShloMosaic Idealize.ShloMosaic.TcCoe

theorem dots_at (q : FVec Ideal S4x4096x1024 .bf16) (k : FVec Ideal S4x4096x256 .bf16) (b : Fin 4) (h : Fin 16) (s t : Fin 4096) :
    dots q k (ix4 b h s t) = ∑ x : Fin 64, k (ix3 b t (kvLane h x)) * q (ix3 b s (lane h x)) := by
  pointwise [dots]
  refine Finset.sum_congr rfl fun x _ => ?_
  exact congrArg₂ (fun y z => k (ix3 b t y) * q (ix3 b s z)) (Fin.ext (by dsimp only [kvLane]; omega)) (Fin.ext (by dsimp only [lane]; omega))

theorem mask_at (s t : Fin 4096) : mask (ix2 s t) = BitVec.ofBool (decide (t.val ≤ s.val ∧ s.val < t.val + 128)) := by
  have hs : s.val < 4096 := s.isLt
  have ht : t.val < 4096 := t.isLt
  pointwise [mask]
  have hd : (IntOp.subi (BitVec.ofNat 32 s.val) (BitVec.ofNat 32 t.val)).toInt = (s.val : ℤ) - t.val := by
    have e1 : (BitVec.ofNat 32 s.val).toInt = s.val := by
      rw [BitVec.toInt_eq_toNat_cond, BitVec.toNat_ofNat]; split <;> omega
    have e2 : (BitVec.ofNat 32 t.val).toInt = t.val := by
      rw [BitVec.toInt_eq_toNat_cond, BitVec.toNat_ofNat]; split <;> omega
    simp only [IntOp.subi, BitVec.toInt_sub, e1, e2, Int.bmod]
    omega
  have h1 : IntOp.cmpi CmpIPredicate.sge (IntOp.subi (BitVec.ofNat 32 s.val) (BitVec.ofNat 32 t.val)) 0#32 = BitVec.ofBool (decide (t.val ≤ s.val)) := by
    simp only [IntOp.cmpi, BitVec.sle, hd]
    congr 1
    rw [decide_eq_decide]
    show (0 : ℤ) ≤ _ ↔ _
    omega
  have h2 : IntOp.cmpi CmpIPredicate.slt (IntOp.subi (BitVec.ofNat 32 s.val) (BitVec.ofNat 32 t.val)) 128#32 = BitVec.ofBool (decide (s.val < t.val + 128)) := by
    simp only [IntOp.cmpi, BitVec.slt, hd]
    congr 1
    rw [decide_eq_decide]
    show _ < (128 : ℤ) ↔ _
    omega
  rw [h1, h2]
  by_cases p1 : t.val ≤ s.val <;> by_cases p2 : s.val < t.val + 128 <;> simp [p1, p2, IntOp.andi]

theorem masked_at (x : FVec Ideal S4x16x4096x4096 .f32) (b : Fin 4) (h : Fin 16) (s t : Fin 4096) :
    masked x (ix4 b h s t) = if t.val ≤ s.val ∧ s.val < t.val + 128 then x (ix4 b h s t) else ⊥ := by
  pointwise [masked]
  rw [mask_at, show (id (constant (F := Ideal) S_ FTy.f32 4286578688#32) ix0 : EReal) = ⊥ from bottom_bits]
  by_cases hp : t.val ≤ s.val ∧ s.val < t.val + 128
  · rw [if_pos hp, decide_eq_true hp]; rfl
  · rw [if_neg hp, decide_eq_false hp]; rfl

theorem withSink_at (x : FVec Ideal S4x16x4096x4096 .f32) (y : FVec Ideal S16 .f32) (b : Fin 4) (h : Fin 16) (s : Fin 4096) (t : Fin 4097) :
    withSink x y (ix4 b h s t) = if ht : t.val < 4096 then x (ix4 b h s ⟨t.val, ht⟩) else y (ix1 h) := by
  pointwise [withSink]

theorem key_logit (x : FVec Ideal S4x16x4096x4096 .f32) (y : FVec Ideal S16 .f32) (b : Fin 4) (h : Fin 16) (s t : Fin 4096) :
    withSink x y (ix4 b h s (Fin.castSucc t)) = x (ix4 b h s t) :=
  (withSink_at x y b h s _).trans (dif_pos t.isLt)

theorem sink_logit (x : FVec Ideal S4x16x4096x4096 .f32) (y : FVec Ideal S16 .f32) (b : Fin 4) (h : Fin 16) (s : Fin 4096) :
    withSink x y (ix4 b h s (Fin.last 4096)) = y (ix1 h) :=
  (withSink_at x y b h s _).trans (dif_neg (Nat.lt_irrefl 4096))

theorem powers_at (x : FVec Ideal S4x16x4096x4097 .f32) (y : FVec Ideal S4x16x4096 .f32) (b : Fin 4) (h : Fin 16) (s : Fin 4096) (t : Fin 4097) :
    powers x y (ix4 b h s t) = Ideal.exp (x (ix4 b h s t) - y (ix3 b h s)) := by
  pointwise [powers]

theorem weights_at (x : FVec Ideal S4x16x4096x4097 .f32) (b : Fin 4) (h : Fin 16) (s : Fin 4096) (t : Fin 4097) :
    weights x (ix4 b h s t) = Ideal.div (x (ix4 b h s t)) (∑ i, x (ix4 b h s i)) := by
  pointwise [weights]

theorem split_at (x : FVec Ideal S4x16x4096x4097 .f32) (b : Fin 4) (g : Fin 2) (p : Fin 4) (u : Fin 2) (s t : Fin 4096) (h : Fin 16) (hh : h.val = g.val * 8 + p.val * 2 + u.val) :
    split x (ix6 b g p u s t) = x (ix4 b h s (Fin.castSucc t)) := by
  pointwise [split]
  exact congrArg (fun y => x (ix4 b y s (Fin.castSucc t))) (Fin.ext hh.symm)

theorem sums_at (v : FVec Ideal S4x4096x256 .bf16) (x : FVec Ideal S4x2x4x2x4096x4096 .f32) (b : Fin 4) (g : Fin 2) (p : Fin 4) (u : Fin 2) (d : Fin 64) (s : Fin 4096)
    (h : Fin 16) (hh : h.val = g.val * 8 + p.val * 2 + u.val) :
    sums v x (ix6 b g u d p s) = ∑ t, v (ix3 b t (kvLane h d)) * x (ix6 b g p u s t) := by
  pointwise [sums]
  refine Finset.sum_congr rfl fun t _ => ?_
  exact congrArg (fun y => v (ix3 b t y) * x (ix6 b g p u s t)) (Fin.ext (by dsimp only [kvLane]; omega))

theorem joined_at (o : FVec Ideal S4x2x2x64x4x4096 .f32) (b : Fin 4) (s : Fin 4096) (h : Fin 16) (d : Fin 64) :
    joined o (ix3 b s (lane h d)) = o (ix6 b ⟨h.val / 8, by omega⟩ ⟨h.val % 2, by omega⟩ d ⟨h.val / 2 % 4, by omega⟩ s) := by
  pointwise [joined]
  have e1 : (⟨(lane h d).val / 512, by omega⟩ : Fin 2) = ⟨h.val / 8, by omega⟩ := Fin.ext (by dsimp only [lane]; omega)
  have e2 : (⟨(lane h d).val / 64 % 2, by omega⟩ : Fin 2) = ⟨h.val % 2, by omega⟩ := Fin.ext (by dsimp only [lane]; omega)
  have e3 : (⟨(lane h d).val % 64, by omega⟩ : Fin 64) = d := Fin.ext (by dsimp only [lane]; omega)
  have e4 : (⟨(lane h d).val / 128 % 4, by omega⟩ : Fin 4) = ⟨h.val / 2 % 4, by omega⟩ := Fin.ext (by dsimp only [lane]; omega)
  rw [e1, e2, e3, e4]

theorem fold_at (x : FVec Ideal S4x16x4096x4097 .f32) (j : S4x16x4096.Idx) :
    rowFold x j = (Finset.univ.filter fun i => reducesTo_S4x16x4096x4097_S4x16x4096_d3.drop i = j).fold (max : EReal → EReal → EReal) (Ideal.ofBits .f32 0xFF800000#32) x :=
  Host.reduce_eq_fold (α := EReal) (max : EReal → EReal → EReal) x (constant (F := Ideal) S_ .f32 0xFF800000#32) _ h_S_ _

theorem capped_at (y : FVec Ideal S4x16x4096 .f32) (b : Fin 4) (h : Fin 16) (s : Fin 4096) :
    capped y (ix3 b h s) = max (Ideal.ofBits .f32 0xFF800000#32) (y (ix3 b h s)) := by
  pointwise [capped]

/-- The largest of a row of numbers below plus infinity, the last of them real, is real. -/
theorem rowMax_real (x : FVec Ideal S4x16x4096x4097 .f32) (b : Fin 4) (h : Fin 16) (s : Fin 4096) (hx : ∀ t, x (ix4 b h s t) ≠ ⊤) (h0 : x (ix4 b h s (Fin.last 4096)) ≠ ⊥) :
    ∃ M : ℝ, rowMax x (ix3 b h s) = (M : EReal) := by
  have hd : reducesTo_S4x16x4096x4097_S4x16x4096_d3.drop (ix4 b h s (Fin.last 4096)) = ix3 b h s := by
    funext a
    match a with
    | ⟨0, _⟩ => rfl
    | ⟨1, _⟩ => rfl
    | ⟨2, _⟩ => rfl
  have hall : ∀ i, reducesTo_S4x16x4096x4097_S4x16x4096_d3.drop i = ix3 b h s → x i ≠ ⊤ := fun i hi => by
    have : i = ix4 b h s (i 3) := by
      funext a
      match a with
      | ⟨0, _⟩ => exact congrFun hi 0
      | ⟨1, _⟩ => exact congrFun hi 1
      | ⟨2, _⟩ => exact congrFun hi 2
      | ⟨3, _⟩ => rfl
    rw [this]; exact hx _
  unfold rowMax
  rw [capped_at, fold_at, bottom_bits, max_eq_right bot_le]
  generalize hs : (Finset.univ.filter fun i => reducesTo_S4x16x4096x4097_S4x16x4096_d3.drop i = ix3 b h s) = A
  have h0m : (ix4 b h s (Fin.last 4096) : S4x16x4096x4097.Idx) ∈ A := by rw [← hs]; exact Finset.mem_filter.mpr ⟨Finset.mem_univ _, hd⟩
  have h1 : A.fold max ⊥ x ≠ ⊥ := fun hh => h0 (le_bot_iff.mp (hh ▸ (Finset.le_fold_max (b := ⊥) (f := x) (s := A) (x (ix4 b h s (Fin.last 4096)))).mpr (.inr ⟨_, h0m, le_refl _⟩)))
  have h2 : A.fold max ⊥ x < ⊤ := (Finset.fold_max_lt (b := ⊥) (f := x) (s := A) (c := ⊤)).mpr ⟨bot_lt_top, fun j hj => lt_top_iff_ne_top.mpr (hall j (by rw [← hs] at hj; exact (Finset.mem_filter.mp hj).2))⟩
  exact ⟨(A.fold max ⊥ x).toReal, (EReal.coe_toReal h2.ne h1).symm⟩

/-- The reference's result at a position and a head's coordinate is windowed attention. -/
theorem result_at (sink : FVec Ideal S16 .f32) (q : FVec Ideal S4x4096x1024 .bf16) (k v : FVec Ideal S4x4096x256 .bf16) (pos : IVec S4x4096 32) (tab : FVec Ideal S32x16 .f32)
    (b : Fin 4) (s : Fin 4096) (h : Fin 16) (d : Fin 64) (S : ℕ → ℝ) (W : ℕ → EReal) (σ : ℝ)
    (hS : ∀ t : Fin 4096, (∑ x : Fin 64, k (ix3 b t (kvLane h x)) * q (ix3 b s (lane h x))) + tab (ix2 (bkt (pos (ix2 b s)) (pos (ix2 b t))) h) = ((S t.val : ℝ) : EReal))
    (hV : ∀ t : Fin 4096, v (ix3 b t (kvLane h d)) = W t.val) (hs : sink (ix1 h) = ((σ : ℝ) : EReal)) :
    result sink q k v pos tab (ix3 b s (lane h d)) = win S σ W s.val := by
  have hkey : ∀ t : Fin 4096, logits sink q k pos tab (ix4 b h s (Fin.castSucc t)) = if t.val ≤ s.val ∧ s.val < t.val + 128 then ((S t.val : ℝ) : EReal) else ⊥ := fun t => by
    unfold logits
    rw [key_logit, masked_at, ← hS t]
    congr 1
    show dots q k (ix4 b h s t) + bias tab (wrapped (bucket (back pos))) (ix4 b h s t) = _
    rw [dots_at, bias_at tab _ b h s t (bkt (pos (ix2 b s)) (pos (ix2 b t))) (wrapped_at _ b s t _ (bucket_at pos b s t))]
  have hsink : logits sink q k pos tab (ix4 b h s (Fin.last 4096)) = ((σ : ℝ) : EReal) := by
    unfold logits
    rw [sink_logit, hs]
  unfold result
  generalize logits sink q k pos tab = L at hkey hsink
  obtain ⟨M, hM⟩ := rowMax_real L b h s (fun t => by
    refine Fin.lastCases ?_ (fun t => ?_) t
    · rw [hsink]; simp
    · rw [hkey]; split <;> simp) (by rw [hsink]; simp)
  have hh : h.val = h.val / 8 * 8 + h.val / 2 % 4 * 2 + h.val % 2 := by omega
  rw [joined_at, sums_at _ _ b _ _ _ d s h hh]
  refine Eq.trans ?_ (early (n := 4096) (q := s.val) (fun t => t.val ≤ s.val ∧ s.val < t.val + 128) (fun t => t.val) S σ W
    (fun t ht => by simp only [near, Finset.mem_filter, Finset.mem_range]; omega) (fun t t' _ _ e => Fin.ext e)
    (fun t ht => by
      simp only [near, Finset.mem_filter, Finset.mem_range] at ht
      exact ⟨⟨t, by omega⟩, ⟨by dsimp only; omega, by dsimp only; omega⟩, rfl⟩)
    (fun t => L (ix4 b h s (Fin.castSucc t))) (fun t => v (ix3 b t (kvLane h d))) hkey (fun t _ => hV t) M)
  refine Finset.sum_congr rfl fun t _ => ?_
  rw [split_at _ b _ _ _ s t h hh, weights_at]
  simp only [powers_at, hM]
  rw [Fin.sum_univ_castSucc (fun i : Fin 4097 => Ideal.exp (L (ix4 b h s i) - (M : EReal))), hsink]

end Cert.Win.Ref

end
-- ==== Proof.WinEqual.lean ====
/- The window attention's two results, index by index, on finite operands. -/
module

public import proofs.«01_k».proof.Proof.WinArray
public import proofs.«01_k».proof.Proof.WinRead
public import proofs.«01_k».proof.Proof.Online

@[expose] public section

set_option maxRecDepth 16384
set_option maxHeartbeats 1000000

noncomputable section

namespace Cert.Win

open Cert.Kernel4Ideal Cert.Kernel4Ideal.Gen Idealize.ShloMosaic Idealize.ShloMosaic.TcCoe

/-- The score of a key against a query with its bias, as a real number, by the key's number. -/
def scoreOf (q : FVec Ideal S4x4096x1024 .bf16) (k : FVec Ideal S4x4096x256 .bf16) (pos : IVec S4x4096 32) (tab : FVec Ideal S32x16 .f32)
    (b : Fin 4) (h : Fin 16) (s : Fin 4096) (t : ℕ) : ℝ :=
  if ht : t < 4096 then (∑ x : Fin 64, (k (ix3 b ⟨t, ht⟩ (kvLane h x))).toReal * (q (ix3 b s (lane h x))).toReal)
    + (tab (ix2 (bkt (pos (ix2 b s)) (pos (ix2 b ⟨t, ht⟩))) h)).toReal else 0

/-- A value of a key, by the key's number. -/
def valueOf (v : FVec Ideal S4x4096x256 .bf16) (b : Fin 4) (h : Fin 16) (d : Fin 64) (t : ℕ) : EReal :=
  if ht : t < 4096 then v (ix3 b ⟨t, ht⟩ (kvLane h d)) else 0

theorem scoreOf_eq (q : FVec Ideal S4x4096x1024 .bf16) (k : FVec Ideal S4x4096x256 .bf16) (pos : IVec S4x4096 32) (tab : FVec Ideal S32x16 .f32)
    (hq : ∀ b s w, ∃ r : ℝ, q (ix3 b s w) = (r : EReal)) (hk : ∀ b s w, ∃ r : ℝ, k (ix3 b s w) = (r : EReal)) (ht : ∀ u h, ∃ r : ℝ, tab (ix2 u h) = (r : EReal))
    (b : Fin 4) (h : Fin 16) (s t : Fin 4096) :
    (∑ x : Fin 64, k (ix3 b t (kvLane h x)) * q (ix3 b s (lane h x))) + tab (ix2 (bkt (pos (ix2 b s)) (pos (ix2 b t))) h)
      = ((scoreOf q k pos tab b h s t.val : ℝ) : EReal) := by
  unfold scoreOf
  rw [dif_pos t.isLt, EReal.coe_add, Cert.Attn.coe_sum_real]
  congr 1
  · refine Finset.sum_congr rfl fun x _ => ?_
    obtain ⟨y, hy⟩ := hk b t (kvLane h x)
    obtain ⟨z, hz⟩ := hq b s (lane h x)
    rw [hy, hz, EReal.coe_mul, EReal.toReal_coe, EReal.toReal_coe]
  · obtain ⟨y, hy⟩ := ht (bkt (pos (ix2 b s)) (pos (ix2 b t))) h
    rw [hy, EReal.toReal_coe]

theorem valueOf_eq (v : FVec Ideal S4x4096x256 .bf16) (b : Fin 4) (h : Fin 16) (d : Fin 64) (t : Fin 4096) : v (ix3 b t (kvLane h d)) = valueOf v b h d t.val := by
  unfold valueOf
  rw [dif_pos t.isLt]

theorem results_eq (m : (ℓ : Loc nD τ sig) → Buf (Elt Ideal) ℓ) (c : Dev nD) (hs : ∀ h, ∃ r : ℝ, sinks m c (ix1 h) = (r : EReal))
    (hq : ∀ b s w, ∃ r : ℝ, queries m c (ix3 b s w) = (r : EReal)) (hk : ∀ b s w, ∃ r : ℝ, keys m c (ix3 b s w) = (r : EReal))
    (ht : ∀ u h, ∃ r : ℝ, table m c (ix2 u h) = (r : EReal)) :
    Ref.result (sinks m c) (queries m c) (keys m c) (values m c) (positions m c) (table m c) = (dats m 0 c).arrAt 10 cfg0.N := by
  funext i
  obtain ⟨b, s, w, rfl⟩ : ∃ (b : Fin 4) (s : Fin 4096) (w : Fin 1024), i = ix3 b s w := ⟨_, _, _, eq_ix3 i⟩
  obtain ⟨h, d, rfl⟩ : ∃ (h : Fin 16) (d : Fin 64), w = lane h d := ⟨⟨w.val / 64, by omega⟩, ⟨w.val % 64, by omega⟩, Fin.ext (by dsimp only [lane]; omega)⟩
  obtain ⟨σ, hσ⟩ := hs h
  exact (Ref.result_at _ _ _ _ _ _ b s h d _ _ σ (scoreOf_eq _ _ (positions m c) _ hq hk ht b h s) (valueOf_eq (values m c) b h d) hσ).trans
    (array_at m c b s h d _ _ σ (scoreOf_eq _ _ (positions m c) _ hq hk ht b h s) (valueOf_eq (values m c) b h d) hσ).symm

end Cert.Win

end
-- ==== Proof.Norm.lean ====
/- Scales of root-mean-square norms: a division by a width and a multiplication by its reciprocal agree. -/
module

public import Idealize.ShloMosaic.Lib.Pointwise

@[expose] public section

noncomputable section

namespace Cert.Norm

open Idealize.ShloMosaic

/-- The small number under the root. -/
abbrev eps : EReal := Ideal.ofBits FTy.f32 897988541#32

/-- The reciprocal root of a sum of squares over a width. -/
def scale {n : ℕ} (k : EReal) (v : Fin n → EReal) : EReal := Ideal.rsqrt (Ideal.div (∑ j, v j * v j) k + eps)

/-- The reciprocal root of a sum of squares times a number. -/
def scaleBy {n : ℕ} (k : EReal) (v : Fin n → EReal) : EReal := Ideal.rsqrt ((∑ j, v j * v j) * k + eps)

theorem scaleBy_eq {n : ℕ} {k l : EReal} {y : ℝ} (hy : y ≠ 0) (hl : l = (y : EReal)) (hk : k = ((1 / y : ℝ) : EReal)) (v : Fin n → EReal) :
    scaleBy k v = scale l v := by
  unfold scaleBy scale
  rw [hl, hk, Ideal.div_coe hy]

theorem bits_1024 : Ideal.ofBits .f32 0x44800000#32 = ((1024 : ℝ) : EReal) := by
  simp [Ideal.ofBits, Ideal.ieee, -EReal.coe_mul]; try norm_num

theorem bits_inv_1024 : Ideal.ofBits .f32 0x3A800000#32 = ((1 / 1024 : ℝ) : EReal) := by
  simp [Ideal.ofBits, Ideal.ieee, -EReal.coe_mul]; try norm_num

theorem scaleBy_1024 {n : ℕ} (v : Fin n → EReal) : scaleBy (Ideal.ofBits .f32 0x3A800000#32) v = scale (Ideal.ofBits .f32 0x44800000#32) v :=
  scaleBy_eq (by norm_num) bits_1024 bits_inv_1024 v

theorem bits_2048 : Ideal.ofBits .f32 0x45000000#32 = ((2048 : ℝ) : EReal) := by
  simp [Ideal.ofBits, Ideal.ieee, -EReal.coe_mul]; try norm_num

theorem bits_inv_2048 : Ideal.ofBits .f32 0x3A000000#32 = ((1 / 2048 : ℝ) : EReal) := by
  simp [Ideal.ofBits, Ideal.ieee, -EReal.coe_mul]; try norm_num

theorem scaleBy_2048 {n : ℕ} (v : Fin n → EReal) : scaleBy (Ideal.ofBits .f32 0x3A000000#32) v = scale (Ideal.ofBits .f32 0x45000000#32) v :=
  scaleBy_eq (by norm_num) bits_2048 bits_inv_2048 v

theorem bits_512 : Ideal.ofBits .f32 0x44000000#32 = ((512 : ℝ) : EReal) := by
  simp [Ideal.ofBits, Ideal.ieee, -EReal.coe_mul]; try norm_num

theorem bits_inv_512 : Ideal.ofBits .f32 0x3B000000#32 = ((1 / 512 : ℝ) : EReal) := by
  simp [Ideal.ofBits, Ideal.ieee, -EReal.coe_mul]; try norm_num

theorem scaleBy_512 {n : ℕ} (v : Fin n → EReal) : scaleBy (Ideal.ofBits .f32 0x3B000000#32) v = scale (Ideal.ofBits .f32 0x44000000#32) v :=
  scaleBy_eq (by norm_num) bits_512 bits_inv_512 v

theorem bits_256 : Ideal.ofBits .f32 0x43800000#32 = ((256 : ℝ) : EReal) := by
  simp [Ideal.ofBits, Ideal.ieee, -EReal.coe_mul]; try norm_num

theorem bits_inv_256 : Ideal.ofBits .f32 0x3B800000#32 = ((1 / 256 : ℝ) : EReal) := by
  simp [Ideal.ofBits, Ideal.ieee, -EReal.coe_mul]; try norm_num

theorem scaleBy_256 {n : ℕ} (v : Fin n → EReal) : scaleBy (Ideal.ofBits .f32 0x3B800000#32) v = scale (Ideal.ofBits .f32 0x43800000#32) v :=
  scaleBy_eq (by norm_num) bits_256 bits_inv_256 v

theorem bits_64 : Ideal.ofBits .f32 0x42800000#32 = ((64 : ℝ) : EReal) := by
  simp [Ideal.ofBits, Ideal.ieee, -EReal.coe_mul]; try norm_num

theorem bits_inv_64 : Ideal.ofBits .f32 0x3C800000#32 = ((1 / 64 : ℝ) : EReal) := by
  simp [Ideal.ofBits, Ideal.ieee, -EReal.coe_mul]; try norm_num

theorem scaleBy_64 {n : ℕ} (v : Fin n → EReal) : scaleBy (Ideal.ofBits .f32 0x3C800000#32) v = scale (Ideal.ofBits .f32 0x42800000#32) v :=
  scaleBy_eq (by norm_num) bits_64 bits_inv_64 v

end Cert.Norm

end
-- ==== Proof.OutPoint.lean ====
/- One grid point of the output projection: the two blocks it stores, read at an index. -/
module

public import proofs.«01_k».proof.Proof.Gen.Kernel2Ideal.Value
public import proofs.«01_k».proof.Proof.Norm
public import Idealize.ShloMosaic.Lib.Pipeline.ValueKit.Basic
public import Idealize.ShloMosaic.Lib.Pipeline.ValueKit.Tiles

@[expose] public section

set_option maxRecDepth 16384
set_option maxHeartbeats 1000000

noncomputable section

namespace Cert.Out

open Cert.Kernel2Ideal Cert.Kernel2Ideal.Gen Idealize.ShloMosaic Idealize.ShloMosaic.TcCoe Cert.Norm

section

variable (x0 x1 : Vec Ideal S512x1024 .f32) (x2 : Vec Ideal S512x2048 .f32) (x3 : Vec Ideal S1x2048 .f32) (x4 : Vec Ideal S2048x2048 .bf16) (x5 : Vec Ideal S1x2048 .f32)

theorem first_eq : out0_6 (F := Ideal) x0 x1 x2 x3 x4 x5 = k0_pay3 x0 x1 x2 x3 x4 x5 :=
  View.canon_cons_unit_lit _ _ _ (fun a => by match a with | ⟨0, _⟩ => rfl | ⟨1, _⟩ => rfl)

theorem second_eq : out0_7 (F := Ideal) x0 x1 x2 x3 x4 x5 = k0_pay1 (k0_pay3 x0 x1 x2 x3 x4 x5) (View.ld x5 r0_5) :=
  View.canon_cons_unit_lit _ _ _ (fun a => by match a with | ⟨0, _⟩ => rfl | ⟨1, _⟩ => rfl)

theorem first_at (r : Fin 512) (j : Fin 2048) :
    out0_6 (F := Ideal) x0 x1 x2 x3 x4 x5 (ix2 r j) = x2 (ix2 r j) +
      ((∑ k : Fin 1024, x0 (ix2 r k) * scaleBy (Ideal.ofBits FTy.f32 0x3A800000#32) (fun k : Fin 1024 => x0 (ix2 r k)) * x3 (ix2 0 ⟨k.val, by omega⟩) * x4 (ix2 ⟨k.val, by omega⟩ j))
      + ∑ k : Fin 1024, x1 (ix2 r k) * scaleBy (Ideal.ofBits FTy.f32 0x3A800000#32) (fun k : Fin 1024 => x1 (ix2 r k)) * x3 (ix2 0 ⟨1024 + k.val, by omega⟩) * x4 (ix2 ⟨1024 + k.val, by omega⟩ j)) := by
  rw [first_eq]
  unfold k0_pay3
  pointwise [k0_pay2]
  rfl

theorem second_at (r : Fin 512) (j : Fin 2048) :
    out0_7 (F := Ideal) x0 x1 x2 x3 x4 x5 (ix2 r j) = out0_6 (F := Ideal) x0 x1 x2 x3 x4 x5 (ix2 r j)
      * scaleBy (Ideal.ofBits FTy.f32 0x3A000000#32) (fun j : Fin 2048 => out0_6 (F := Ideal) x0 x1 x2 x3 x4 x5 (ix2 r j)) * x5 (ix2 0 j) := by
  rw [second_eq, first_eq]
  generalize k0_pay3 x0 x1 x2 x3 x4 x5 = h
  pointwise [k0_pay1]
  rfl

end

end Cert.Out

end
-- ==== Proof.OutRef.lean ====
/- The reference of the output projection: its composed terms in two stages, each read at an index. -/
module

public import proofs.«01_k».proof.Proof.Gen.Reference2Ideal.Run
public import proofs.«01_k».proof.Proof.Norm

@[expose] public section

set_option maxRecDepth 16384
set_option maxHeartbeats 1000000

noncomputable section

namespace Cert.Out.Ref

open Cert.Reference2Ideal Cert.Reference2Ideal.Gen Idealize.ShloMosaic Idealize.ShloMosaic.TcCoe Cert.Norm

/-- The residual stream after the projection. -/
def stream (om osw : FVec Ideal S16384x1024 .f32) (x : FVec Ideal S16384x2048 .f32) (gout : FVec Ideal S2048 .f32) (wout : FVec Ideal S2048x2048 .f32) :
    FVec Ideal S16384x2048 .f32 :=
  addf x (Host.dotGeneral dot_S16384x2048_S2048x2048_S16384x2048_1_0_0_1_n_n none (concatenate S16384x2048 1 [⟨S16384x1024, (mulf (mulf om (broadcastInDim S16384x1024 ![0, 1] bcast_S16384x1_S16384x1024_0_1 (Host.rsqrt (addf (Host.divf (broadcastInDim S16384x1 ![0] bcast_S16384_S16384x1_0 (Host.reduceAdd (mulf om om) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (extractStridedSlice S1024 ![0] gout slices_S2048_S1024_0))))⟩, ⟨S16384x1024, (mulf (mulf osw (broadcastInDim S16384x1024 ![0, 1] bcast_S16384x1_S16384x1024_0_1 (Host.rsqrt (addf (Host.divf (broadcastInDim S16384x1 ![0] bcast_S16384_S16384x1_0 (Host.reduceAdd (mulf osw osw) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (extractStridedSlice S1024 ![1024] gout slices_S2048_S1024_1024))))⟩] concatenates_S16384x1024_S16384x1024_S16384x2048_d1) wout)

/-- The second norm of a stream. -/
def second (h : FVec Ideal S16384x2048 .f32) (g2 : FVec Ideal S2048 .f32) : FVec Ideal S16384x2048 .bf16 :=
  truncf .bf16 (mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g2))) bitsLt_bf16_f32

theorem res_second (m : (ℓ : Loc nD τ sig) → Buf (Elt Ideal) ℓ) (c : Dev nD) :
    Cert.Reference2Ideal.Value.res_out1 m c = second (stream (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) (m ((c.tc : Thread nD τ).loc main_arg5)) := rfl

theorem stream_at (om osw : FVec Ideal S16384x1024 .f32) (x : FVec Ideal S16384x2048 .f32) (gout : FVec Ideal S2048 .f32) (wout : FVec Ideal S2048x2048 .f32)
    (s : Fin 16384) (j : Fin 2048) :
    stream om osw x gout wout (ix2 s j) = x (ix2 s j) +
      ((∑ k : Fin 1024, om (ix2 s k) * scale (Ideal.ofBits FTy.f32 0x44800000#32) (fun k : Fin 1024 => om (ix2 s k)) * gout (ix1 ⟨k.val, by omega⟩) * wout (ix2 ⟨k.val, by omega⟩ j))
      + ∑ k : Fin 1024, osw (ix2 s k) * scale (Ideal.ofBits FTy.f32 0x44800000#32) (fun k : Fin 1024 => osw (ix2 s k)) * gout (ix1 ⟨1024 + k.val, by omega⟩) * wout (ix2 ⟨1024 + k.val, by omega⟩ j)) := by
  pointwise [stream]
  rfl

theorem second_at (h : FVec Ideal S16384x2048 .f32) (g2 : FVec Ideal S2048 .f32) (s : Fin 16384) (j : Fin 2048) :
    second h g2 (ix2 s j) = h (ix2 s j) * scale (Ideal.ofBits FTy.f32 0x45000000#32) (fun j => h (ix2 s j)) * g2 (ix1 j) := by
  pointwise [second]
  rfl

end Cert.Out.Ref

end
-- ==== Proof.OutArray.lean ====
/- The arrays of the output projection after the run, and their equality with the reference's two results. -/
module

public import proofs.«01_k».proof.Proof.OutPoint
public import proofs.«01_k».proof.Proof.OutRef

@[expose] public section

set_option maxRecDepth 16384
set_option maxHeartbeats 1000000

noncomputable section

namespace Cert.Out

open Cert.Kernel2Ideal Cert.Kernel2Ideal.Gen Idealize.ShloMosaic Idealize.ShloMosaic.TcCoe Cert.Norm

/-- Which block each window takes at a grid point. -/
theorem idx_facts : ∀ t : Fin cfg0.N,
    (win0_0.index t (0 : Fin 2) = (grid0.coords t 0).val ∧ win0_0.index t (1 : Fin 2) = 0)
    ∧ (win0_1.index t (0 : Fin 2) = (grid0.coords t 0).val ∧ win0_1.index t (1 : Fin 2) = 0)
    ∧ (win0_2.index t (0 : Fin 2) = (grid0.coords t 0).val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = (grid0.coords t 0).val ∧ win0_6.index t (1 : Fin 2) = 0)
    ∧ (win0_7.index t (0 : Fin 2) = (grid0.coords t 0).val ∧ win0_7.index t (1 : Fin 2) = 0)
    ∧ (cfg0.win 6).flush t = true ∧ (cfg0.win 7).flush t = true :=
  (by decide +kernel : ∀ t : Fin grid0.N, _)

/-- Every block of tokens is a grid point. -/
theorem point_exists : ∀ i : Fin 32, ∃ t : Fin cfg0.N, (grid0.coords t 0).val = i.val :=
  (by decide +kernel : ∀ i : Fin 32, ∃ t : Fin grid0.N, (grid0.coords t 0).val = i.val)

variable (m : (ℓ : Loc nD τ sig) → Buf (Elt Ideal) ℓ)

/-- The launch's arguments. -/
abbrev latent (c : Dev nD) : FVec Ideal S16384x1024 .f32 := m ((c : Thread nD τ).loc main_arg0)

abbrev windowed (c : Dev nD) : FVec Ideal S16384x1024 .f32 := m ((c : Thread nD τ).loc main_arg1)

abbrev before (c : Dev nD) : FVec Ideal S16384x2048 .f32 := m ((c : Thread nD τ).loc main_arg2)

abbrev groupGain (c : Dev nD) : FVec Ideal S2048 .f32 := m ((c : Thread nD τ).loc main_arg3)

abbrev weight (c : Dev nD) : FVec Ideal S2048x2048 .f32 := m ((c : Thread nD τ).loc main_arg4)

abbrev lastGain (c : Dev nD) : FVec Ideal S2048 .f32 := m ((c : Thread nD τ).loc main_arg5)

/-- The gains' rows and the weights, as the host code hands them to the launch. -/
theorem row_groupGain (c : Dev nD) (j : Fin 2048) : (V m c main_v0 : FVec Ideal S1x2048 .f32) (ix2 0 j) = groupGain m c (ix1 j) := by
  rw [show V m c main_v0 = shapeCast S1x2048 (groupGain m c) shapeCasts_S2048_S1x2048 from rfl]
  pointwise

theorem row_lastGain (c : Dev nD) (j : Fin 2048) : (V m c main_v2 : FVec Ideal S1x2048 .f32) (ix2 0 j) = lastGain m c (ix1 j) := by
  rw [show V m c main_v2 = shapeCast S1x2048 (lastGain m c) shapeCasts_S2048_S1x2048 from rfl]
  pointwise

theorem weight_eq (c : Dev nD) (i : S2048x2048.Idx) : (V m c main_v1 : FVec Ideal S2048x2048 .bf16) i = weight m c i := rfl

theorem latent_at (c : Dev nD) (t : Fin cfg0.N) (r : Fin 512) (j : Fin 1024) (s : Fin 16384) (hs : s.val = 512 * (grid0.coords t 0).val + r.val) :
    iblk m c 0 t (ix2 r j) = latent m c (ix2 s j) := by
  obtain ⟨⟨e0, e1⟩, -⟩ := idx_facts t
  show V m c main_arg0 (((cfg0.win 0).blk t).view.emb (ix2 r j)) = _
  rw [show ((cfg0.win 0).blk t).view.emb (ix2 r j) = (ix2 s j : S16384x1024.Idx) from by
    funext a; apply Fin.ext
    match a with
    | ⟨0, _⟩ => show win0_0.index t (0 : Fin 2) * 512 + 1 * r.val = s.val; omega
    | ⟨1, _⟩ => show win0_0.index t (1 : Fin 2) * 1024 + 1 * j.val = j.val; omega]
  exact congrFun (V_main_arg0 m c) _

theorem windowed_at (c : Dev nD) (t : Fin cfg0.N) (r : Fin 512) (j : Fin 1024) (s : Fin 16384) (hs : s.val = 512 * (grid0.coords t 0).val + r.val) :
    iblk m c 1 t (ix2 r j) = windowed m c (ix2 s j) := by
  obtain ⟨-, ⟨e0, e1⟩, -⟩ := idx_facts t
  show V m c main_arg1 (((cfg0.win 1).blk t).view.emb (ix2 r j)) = _
  rw [show ((cfg0.win 1).blk t).view.emb (ix2 r j) = (ix2 s j : S16384x1024.Idx) from by
    funext a; apply Fin.ext
    match a with
    | ⟨0, _⟩ => show win0_1.index t (0 : Fin 2) * 512 + 1 * r.val = s.val; omega
    | ⟨1, _⟩ => show win0_1.index t (1 : Fin 2) * 1024 + 1 * j.val = j.val; omega]
  exact congrFun (V_main_arg1 m c) _

theorem before_at (c : Dev nD) (t : Fin cfg0.N) (r : Fin 512) (j : Fin 2048) (s : Fin 16384) (hs : s.val = 512 * (grid0.coords t 0).val + r.val) :
    iblk m c 2 t (ix2 r j) = before m c (ix2 s j) := by
  obtain ⟨-, -, ⟨e0, e1⟩, -⟩ := idx_facts t
  show V m c main_arg2 (((cfg0.win 2).blk t).view.emb (ix2 r j)) = _
  rw [show ((cfg0.win 2).blk t).view.emb (ix2 r j) = (ix2 s j : S16384x2048.Idx) from by
    funext a; apply Fin.ext
    match a with
    | ⟨0, _⟩ => show win0_2.index t (0 : Fin 2) * 512 + 1 * r.val = s.val; omega
    | ⟨1, _⟩ => show win0_2.index t (1 : Fin 2) * 2048 + 1 * j.val = j.val; omega]
  exact congrFun (V_main_arg2 m c) _

theorem groupGain_at (c : Dev nD) (t : Fin cfg0.N) (r : Fin 1) (j : Fin 2048) :
    iblk m c 3 t (ix2 r j) = groupGain m c (ix1 j) := by
  obtain ⟨-, -, -, ⟨e0, e1⟩, -⟩ := idx_facts t
  show V m c main_v0 (((cfg0.win 3).blk t).view.emb (ix2 r j)) = _
  rw [show ((cfg0.win 3).blk t).view.emb (ix2 r j) = (ix2 r j : S1x2048.Idx) from by
    funext a; apply Fin.ext
    match a with
    | ⟨0, _⟩ => show win0_3.index t (0 : Fin 2) * 1 + 1 * r.val = r.val; omega
    | ⟨1, _⟩ => show win0_3.index t (1 : Fin 2) * 2048 + 1 * j.val = j.val; omega]
  obtain rfl : r = 0 := by omega
  exact row_groupGain m c j

theorem weight_at (c : Dev nD) (t : Fin cfg0.N) (r : Fin 2048) (j : Fin 2048) :
    iblk m c 4 t (ix2 r j) = weight m c (ix2 r j) := by
  obtain ⟨-, -, -, -, ⟨e0, e1⟩, -⟩ := idx_facts t
  show V m c main_v1 (((cfg0.win 4).blk t).view.emb (ix2 r j)) = _
  rw [show ((cfg0.win 4).blk t).view.emb (ix2 r j) = (ix2 r j : S2048x2048.Idx) from by
    funext a; apply Fin.ext
    match a with
    | ⟨0, _⟩ => show win0_4.index t (0 : Fin 2) * 2048 + 1 * r.val = r.val; omega
    | ⟨1, _⟩ => show win0_4.index t (1 : Fin 2) * 2048 + 1 * j.val = j.val; omega]
  exact weight_eq m c _

theorem lastGain_at (c : Dev nD) (t : Fin cfg0.N) (r : Fin 1) (j : Fin 2048) :
    iblk m c 5 t (ix2 r j) = lastGain m c (ix1 j) := by
  obtain ⟨-, -, -, -, -, ⟨e0, e1⟩, -⟩ := idx_facts t
  show V m c main_v2 (((cfg0.win 5).blk t).view.emb (ix2 r j)) = _
  rw [show ((cfg0.win 5).blk t).view.emb (ix2 r j) = (ix2 r j : S1x2048.Idx) from by
    funext a; apply Fin.ext
    match a with
    | ⟨0, _⟩ => show win0_5.index t (0 : Fin 2) * 1 + 1 * r.val = r.val; omega
    | ⟨1, _⟩ => show win0_5.index t (1 : Fin 2) * 2048 + 1 * j.val = j.val; omega]
  obtain rfl : r = 0 := by omega
  exact row_lastGain m c j

/-- The stream after the projection, of the launch's arguments. -/
abbrev stream (c : Dev nD) : FVec Ideal S16384x2048 .f32 := Ref.stream (latent m c) (windowed m c) (before m c) (groupGain m c) (weight m c)

/-- A grid point's first block is the stream's. -/
theorem block_first (c : Dev nD) (t : Fin cfg0.N) (r : Fin 512) (j : Fin 2048) (s : Fin 16384) (hs : s.val = 512 * (grid0.coords t 0).val + r.val) :
    out0_6 (F := Ideal) (iblk m c 0 t) (iblk m c 1 t) (iblk m c 2 t) (iblk m c 3 t) (iblk m c 4 t) (iblk m c 5 t) (ix2 r j) = stream m c (ix2 s j) := by
  refine (first_at _ _ _ _ _ _ r j).trans ((Ref.stream_at _ _ _ _ _ s j).trans ?_).symm
  rw [before_at m c t r j s hs]
  simp only [latent_at m c t r _ s hs, windowed_at m c t r _ s hs, groupGain_at m c t 0, weight_at m c t, scaleBy_1024]

/-- A grid point's second block is the stream's norm. -/
theorem block_second (c : Dev nD) (t : Fin cfg0.N) (r : Fin 512) (j : Fin 2048) (s : Fin 16384) (hs : s.val = 512 * (grid0.coords t 0).val + r.val) :
    out0_7 (F := Ideal) (iblk m c 0 t) (iblk m c 1 t) (iblk m c 2 t) (iblk m c 3 t) (iblk m c 4 t) (iblk m c 5 t) (ix2 r j) = Ref.second (stream m c) (lastGain m c) (ix2 s j) := by
  refine (second_at _ _ _ _ _ _ r j).trans ((Ref.second_at _ _ s j).trans ?_).symm
  simp only [block_first m c t r _ s hs, lastGain_at m c t 0, scaleBy_2048]

/-- The first array after the run. -/
theorem array_first (c : Dev nD) : stream m c = (dats m 0 c).arrAt 6 cfg0.N := by
  funext i
  obtain ⟨s, j, rfl⟩ : ∃ (s : Fin 16384) (j : Fin 2048), i = ix2 s j := ⟨_, _, eq_ix2 i⟩
  obtain ⟨t, ht⟩ := point_exists ⟨s.val / 512, by omega⟩
  dsimp only at ht
  obtain ⟨-, -, -, -, -, -, ⟨e0, e1⟩, -, hf, -⟩ := idx_facts t
  have hb := congrFun (Cert.Kernel2Ideal.Value.blocks6 m c t hf) (ix2 ⟨s.val % 512, by omega⟩ j)
  rw [Cert.Kernel2Ideal.Value.flushed6] at hb
  have he : ((cfg0.win 6).blk t).view.emb (ix2 ⟨s.val % 512, by omega⟩ j) = (ix2 s j : S16384x2048.Idx) := by
    funext a; apply Fin.ext
    match a with
    | ⟨0, _⟩ => show win0_6.index t (0 : Fin 2) * 512 + 1 * (s.val % 512) = s.val; omega
    | ⟨1, _⟩ => show win0_6.index t (1 : Fin 2) * 2048 + 1 * j.val = j.val; omega
  have ho := block_first m c t ⟨s.val % 512, by omega⟩ j s (by dsimp only; omega)
  refine ((congrArg ((dats m 0 c).arrAt 6 cfg0.N) he.symm).trans (hb.trans ho)).symm

/-- The second array after the run. -/
theorem array_second (c : Dev nD) : Ref.second (stream m c) (lastGain m c) = (dats m 0 c).arrAt 7 cfg0.N := by
  funext i
  obtain ⟨s, j, rfl⟩ : ∃ (s : Fin 16384) (j : Fin 2048), i = ix2 s j := ⟨_, _, eq_ix2 i⟩
  obtain ⟨t, ht⟩ := point_exists ⟨s.val / 512, by omega⟩
  dsimp only at ht
  obtain ⟨-, -, -, -, -, -, -, ⟨e0, e1⟩, -, hf⟩ := idx_facts t
  have hb := congrFun (Cert.Kernel2Ideal.Value.blocks7 m c t hf) (ix2 ⟨s.val % 512, by omega⟩ j)
  rw [Cert.Kernel2Ideal.Value.flushed7] at hb
  have he : ((cfg0.win 7).blk t).view.emb (ix2 ⟨s.val % 512, by omega⟩ j) = (ix2 s j : S16384x2048.Idx) := by
    funext a; apply Fin.ext
    match a with
    | ⟨0, _⟩ => show win0_7.index t (0 : Fin 2) * 512 + 1 * (s.val % 512) = s.val; omega
    | ⟨1, _⟩ => show win0_7.index t (1 : Fin 2) * 2048 + 1 * j.val = j.val; omega
  have ho := block_second m c t ⟨s.val % 512, by omega⟩ j s (by dsimp only; omega)
  refine ((congrArg ((dats m 0 c).arrAt 7 cfg0.N) he.symm).trans (hb.trans ho)).symm

end Cert.Out

end
-- ==== Proof.InHost.lean ====
/- The arrays the host code hands the input projection: its weights, gains and rotation constants, laid out in lanes. -/
module

public import proofs.«01_k».proof.Proof.Gen.Kernel3Ideal.Value
public import Idealize.ShloMosaic.Lib.Pointwise

@[expose] public section

set_option maxRecDepth 16384
set_option maxHeartbeats 1000000

noncomputable section

namespace Cert.In

open Cert.Kernel3Ideal Cert.Kernel3Ideal.Gen Idealize.ShloMosaic Idealize.ShloMosaic.TcCoe

/-- Sixty-four columns from an offset of a block of two heads. -/
abbrev half0 (w : FVec Ideal S2048x128 .f32) : FVec Ideal S2048x64 .f32 := extractStridedSlice S2048x64 ![0, 0] w slices_S2048x128_S2048x64_0_0

abbrev half1 (w : FVec Ideal S2048x128 .f32) : FVec Ideal S2048x64 .f32 := extractStridedSlice S2048x64 ![0, 64] w slices_S2048x128_S2048x64_0_64

/-- Each of two heads' columns twice. -/
def twice (w : FVec Ideal S2048x128 .f32) : FVec Ideal S2048x256 .f32 :=
  concatenate S2048x256 1 [⟨S2048x64, half0 w⟩, ⟨S2048x64, half0 w⟩, ⟨S2048x64, half1 w⟩, ⟨S2048x64, half1 w⟩] concatenates_S2048x64_S2048x64_S2048x64_S2048x64_S2048x256_d1

/-- The projection's weight, its columns in lanes. -/
def wideIn (w : FVec Ideal S2048x2112 .f32) : FVec Ideal S2048x2432 .bf16 :=
  truncf .bf16 (concatenate S2048x2432 1 [⟨S2048x832, extractStridedSlice S2048x832 ![0, 0] w slices_S2048x2112_S2048x832_0_0⟩,
    ⟨S2048x64, broadcastInDim S2048x64 ![] bcast_S_S2048x64 (constant S_ .f32 0x00000000#32)⟩,
    ⟨S2048x1024, extractStridedSlice S2048x1024 ![0, 832] w slices_S2048x2112_S2048x1024_0_832⟩,
    ⟨S2048x256, twice (extractStridedSlice S2048x128 ![0, 1856] w slices_S2048x2112_S2048x128_0_1856)⟩,
    ⟨S2048x256, twice (extractStridedSlice S2048x128 ![0, 1984] w slices_S2048x2112_S2048x128_0_1984)⟩]
    concatenates_S2048x832_S2048x64_S2048x1024_S2048x256_S2048x256_S2048x2432_d1) bitsLt_bf16_f32

/-- The queries' weight, each head's columns padded to lanes. -/
def wideQ (w : FVec Ideal S512x1536 .f32) : FVec Ideal S512x2048 .bf16 :=
  truncf .bf16 (shapeCast S512x2048 (pad S512x8x256 ![0, 0, 0] ![0, 0, 64] ![0, 0, 0] (shapeCast S512x8x192 w shapeCasts_S512x1536_S512x8x192)
    (sitofp .f32 (constantI S_ 32 0#32) : FVec Ideal S_ .f32) pads_S512x8x192_S512x8x256_000_000_0640 h_S_) shapeCasts_S512x8x256_S512x2048) bitsLt_bf16_f32

/-- The keys' part of the latent's weight. -/
def keyW (w : FVec Ideal S256x2048 .f32) : FVec Ideal S256x1024 .bf16 :=
  truncf .bf16 (shapeCast S256x1024 (extractStridedSlice S256x8x128 ![0, 0, 0] (shapeCast S256x8x256 w shapeCasts_S256x2048_S256x8x256) slices_S256x8x256_S256x8x128_0_0_0)
    shapeCasts_S256x8x128_S256x1024) bitsLt_bf16_f32

/-- The values' part of the latent's weight, transposed. -/
def valueW (w : FVec Ideal S256x2048 .f32) : FVec Ideal S8x128x256 .bf16 :=
  truncf .bf16 (transpose S8x128x256 [1, 2, 0] (extractStridedSlice S256x8x128 ![0, 0, 128] (shapeCast S256x8x256 w shapeCasts_S256x2048_S256x8x256) slices_S256x8x256_S256x8x128_0_0_128)
    transposes_S256x8x128_S8x128x256_1_2_0) bitsLt_bf16_f32

/-- A head's gain, padded to lanes. -/
def wideGain (g : FVec Ideal S192 .f32) : FVec Ideal S1x256 .f32 :=
  pad S1x256 ![0, 0] ![0, 64] ![0, 0] (shapeCast S1x192 g shapeCasts_S192_S1x192) (sitofp .f32 (constantI S_ 32 0#32) : FVec Ideal S_ .f32) pads_S1x192_S1x256_000_0640 h_S_

/-- A gain of sixty-four twice. -/
def gainTwice (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

/-- The rotation's frequencies. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

abbrev zeros64 : FVec Ideal S64 .f32 := broadcastInDim S64 ![] bcast_S_S64 (constant S_ .f32 0x00000000#32)

abbrev ones32 : FVec Ideal S32 .f32 := broadcastInDim S32 ![] bcast_S_S32 (constant S_ .f32 0x3F800000#32)

/-- The rotation's constants: the frequencies, the lanes turned, the signs. -/
def ropeRows : FVec Ideal S8x128 .f32 :=
  pad S8x128 ![0, 0] ![5, 0] ![0, 0] (concatenate S3x128 0
    [⟨S1x128, broadcastInDim S1x128 ![1] bcast_S128_S1x128_1 (concatenate S128 0 [⟨S32, freqs⟩, ⟨S32, freqs⟩, ⟨S64, zeros64⟩] concatenates_S32_S32_S64_S128_d0)⟩,
     ⟨S1x128, broadcastInDim S1x128 ![1] bcast_S128_S1x128_1 (concatenate S128 0 [⟨S64, (broadcastInDim S64 ![] bcast_S_S64 (constant S_ .f32 0x3F800000#32) : FVec Ideal S64 .f32)⟩, ⟨S64, zeros64⟩] concatenates_S64_S64_S128_d0)⟩,
     ⟨S1x128, broadcastInDim S1x128 ![1] bcast_S128_S1x128_1 (concatenate S128 0 [⟨S32, Host.negf ones32⟩, ⟨S32, ones32⟩, ⟨S64, zeros64⟩] concatenates_S32_S32_S64_S128_d0)⟩]
    concatenates_S1x128_S1x128_S1x128_S3x128_d0) (sitofp .f32 (constantI S_ 32 0#32) : FVec Ideal S_ .f32) pads_S3x128_S8x128_050_000 h_S_

variable (m : (ℓ : Loc nD τ sig) → Buf (Elt Ideal) ℓ) (c : Dev nD)

theorem host_in : V m c main_v16 = wideIn (m ((c : Thread nD τ).loc main_arg3)) := rfl

theorem host_q : V m c main_v20 = wideQ (m ((c : Thread nD τ).loc main_arg5)) := rfl

theorem host_key : V m c main_v24 = keyW (m ((c : Thread nD τ).loc main_arg7)) := rfl

theorem host_value : V m c main_v27 = valueW (m ((c : Thread nD τ).loc main_arg7)) := rfl

theorem host_pos : V m c main_v28 = shapeCast S4x4096x1 (m ((c : Thread nD τ).loc main_arg1)) shapeCasts_S4x4096_S4x4096x1 := rfl

theorem host_g1 : V m c main_v29 = shapeCast S1x2048 (m ((c : Thread nD τ).loc main_arg2)) shapeCasts_S2048_S1x2048 := rfl

theorem host_qag : V m c main_v30 = shapeCast S1x512 (m ((c : Thread nD τ).loc main_arg4)) shapeCasts_S512_S1x512 := rfl

theorem host_kvag : V m c main_v31 = shapeCast S1x256 (m ((c : Thread nD τ).loc main_arg6)) shapeCasts_S256_S1x256 := rfl

theorem host_qg : V m c main_v33 = wideGain (m ((c : Thread nD τ).loc main_arg8)) := rfl

theorem host_kg : V m c main_v35 = wideGain (m ((c : Thread nD τ).loc main_arg9)) := rfl

theorem host_sqg : V m c main_v39 = gainTwice (m ((c : Thread nD τ).loc main_arg10)) := rfl

theorem host_skg : V m c main_v43 = gainTwice (m ((c : Thread nD τ).loc main_arg11)) := rfl

theorem host_rope : V m c main_v62 = ropeRows := rfl

end Cert.In

end
-- ==== Proof.InTok.lean ====
/- The input projection of one token, in plain functions: the reference's mathematics read at an index. -/
module

public import proofs.«01_k».proof.Proof.Norm

@[expose] public section

set_option maxRecDepth 16384

noncomputable section

namespace Cert.In

open Idealize.ShloMosaic Cert.Norm

/-- The queries' factor. -/
abbrev qFactor : EReal := Ideal.ofBits FTy.f32 0x3DD53B95#32

/-- The window attention's factor. -/
abbrev wFactor : EReal := Ideal.ofBits FTy.f32 0x3E000000#32

/-- A frequency of the rotation. -/
def freq (d : Fin 32) : EReal :=
  Ideal.pow (Ideal.ofBits FTy.f32 1176256512#32) (Ideal.div (-FloatOps.sitofp (F := Ideal) FTy.f32 (BitVec.ofNat 32 d.val)) (Ideal.ofBits FTy.f32 1107296256#32))

/-- A token's stream and position, the weights and the gains. -/
structure Tok where
  x : Fin 2048 → EReal
  pos : EReal
  g1 : Fin 2048 → EReal
  win : Fin 2048 → Fin 2112 → EReal
  qag : Fin 512 → EReal
  wq : Fin 512 → Fin 1536 → EReal
  kvag : Fin 256 → EReal
  wkv : Fin 256 → Fin 2048 → EReal
  qg : Fin 192 → EReal
  kg : Fin 192 → EReal
  sqg : Fin 64 → EReal
  skg : Fin 64 → EReal

namespace Tok

variable (T : Tok)

/-- The normed stream. -/
def normed (k : Fin 2048) : EReal := T.x k * scale (Ideal.ofBits .f32 0x45000000#32) T.x * T.g1 k

/-- The projection. -/
def proj (j : Fin 2112) : EReal := ∑ k, T.normed k * T.win k j

def qLat (k : Fin 512) : EReal := T.proj ⟨k.val, by omega⟩

/-- The queries' normed latent. -/
def qLatN (k : Fin 512) : EReal := T.qLat k * scale (Ideal.ofBits .f32 0x44000000#32) T.qLat * T.qag k

/-- A head's query. -/
def q (h : Fin 8) (d : Fin 192) : EReal := ∑ k, T.qLatN k * T.wq k ⟨h.val * 192 + d.val, by omega⟩

def kvLat (k : Fin 256) : EReal := T.proj ⟨512 + k.val, by omega⟩

/-- The keys' and values' normed latent. -/
def kvLatN (k : Fin 256) : EReal := T.kvLat k * scale (Ideal.ofBits .f32 0x43800000#32) T.kvLat * T.kvag k

/-- A head's key and value. -/
def kv (h : Fin 8) (e : Fin 256) : EReal := ∑ k, T.kvLatN k * T.wkv k ⟨h.val * 256 + e.val, by omega⟩

/-- A head's key: its own part, then the part the heads share. -/
def key (h : Fin 8) (d : Fin 192) : EReal :=
  if hd : d.val < 128 then T.kv h ⟨d.val, by omega⟩ else T.proj ⟨768 + (d.val - 128), by omega⟩

/-- The scale of a vector of width 192. -/
abbrev scale192 (v : Fin 192 → EReal) : EReal := scale (Ideal.ofBits .f32 0x43400000#32) v

def qNorm (h : Fin 8) (d : Fin 192) : EReal := T.q h d * scale192 (T.q h) * T.qg d

def kNorm (h : Fin 8) (d : Fin 192) : EReal := T.key h d * scale192 (T.key h) * T.kg d

/-- An angle of the rotation. -/
def ang (d : Fin 32) : EReal := T.pos * freq d

/-- The rotation of the last 64 coordinates, the two halves paired. -/
def rot (v : Fin 192 → EReal) (e : Fin 192) : EReal :=
  if h2 : e.val < 128 then v e
  else if h3 : e.val - 128 < 32 then
    v ⟨128 + (e.val - 128), by omega⟩ * Ideal.cos (T.ang ⟨e.val - 128, by omega⟩) - v ⟨128 + (32 + (e.val - 128)), by omega⟩ * Ideal.sin (T.ang ⟨e.val - 128, by omega⟩)
  else
    v ⟨128 + (32 + (e.val - 128 - 32)), by omega⟩ * Ideal.cos (T.ang ⟨e.val - 128 - 32, by omega⟩) + v ⟨128 + (e.val - 128 - 32), by omega⟩ * Ideal.sin (T.ang ⟨e.val - 128 - 32, by omega⟩)

def qOut (h : Fin 8) (e : Fin 256) : EReal := if he : e.val < 192 then T.rot (T.qNorm h) ⟨e.val, he⟩ * qFactor else 0

def kOut (h : Fin 8) (e : Fin 256) : EReal := if he : e.val < 192 then T.rot (T.kNorm h) ⟨e.val, he⟩ else 0

def vOut (h : Fin 8) (d : Fin 128) : EReal := T.kv h ⟨128 + d.val, by omega⟩

/-- The scale of a vector of width 64. -/
abbrev scale64 (v : Fin 64 → EReal) : EReal := scale (Ideal.ofBits .f32 0x42800000#32) v

/-- A window attention query. -/
def sq (h : Fin 16) (d : Fin 64) : EReal := T.proj ⟨832 + (h.val * 64 + d.val), by omega⟩

def sk (h : Fin 2) (d : Fin 64) : EReal := T.proj ⟨1856 + (h.val * 64 + d.val), by omega⟩

def sv (h : Fin 2) (d : Fin 64) : EReal := T.proj ⟨1984 + (h.val * 64 + d.val), by omega⟩

def qsOut (h : Fin 16) (d : Fin 64) : EReal := T.sq h d * scale64 (T.sq h) * T.sqg d * wFactor

def ksOut (h : Fin 2) (d : Fin 64) : EReal := T.sk h d * scale64 (T.sk h) * T.skg d

end Tok

end Cert.In

end
-- ==== Proof.InPoint.lean ====
/- One grid point of the input projection: the six blocks it stores, read at an index from the shared values. -/
module

public import proofs.«01_k».proof.Proof.Gen.Kernel3Ideal.Value
public import proofs.«01_k».proof.Proof.InTok
public import Idealize.ShloMosaic.Lib.Pipeline.ValueKit.Basic
public import Idealize.ShloMosaic.Lib.Pipeline.ValueKit.Tiles

@[expose] public section

set_option maxRecDepth 16384
set_option maxHeartbeats 1000000

noncomputable section

namespace Cert.In

open Cert.Kernel3Ideal Cert.Kernel3Ideal.Gen Idealize.ShloMosaic Idealize.ShloMosaic.TcCoe Cert.Norm

/-- The reciprocal of the width of a query, the named constant. -/
abbrev invQk : EReal := Named.named (F := Ideal) (φ := .f32) κ "inv_qk" 0x3BAAAAAB#32

section

variable (P : FVec Ideal S512x2432 .f32) (Q : FVec Ideal S512x2048 .f32) (N : FVec Ideal S512x1024 .f32) (L : FVec Ideal S512x256 .bf16) (A C ct st : FVec Ideal S512x128 .f32)
variable (g : Vec Ideal S1x256 .f32) (sg : Vec Ideal S1x128 .f32) (rc : Vec Ideal S8x128 .f32) (w : Vec Ideal S8x128x256 .bf16)

/-- A coordinate of a head's normed query. -/
def qn (h : Fin 8) (r : Fin 512) (e : Fin 256) : EReal :=
  Q (ix2 r ⟨256 * h.val + e.val, by omega⟩) * scaleBy invQk (fun x : Fin 256 => Q (ix2 r ⟨256 * h.val + x.val, by omega⟩)) * g (ix2 0 e)

def qLo (h : Fin 8) (r : Fin 512) (d : Fin 128) : EReal := qn Q g h r ⟨d.val, by omega⟩ * qFactor

def qHi (h : Fin 8) (r : Fin 512) (d : Fin 128) : EReal :=
  (qn Q g h r ⟨128 + d.val, by omega⟩ * ct (ix2 r d)
    + (qn Q g h r ⟨128 + (d.val + 128 - 32) % 128, by omega⟩ + qn Q g h r ⟨128 + (d.val + 128 - 96) % 128, by omega⟩) * st (ix2 r d)) * qFactor

/-- The scale of a head's key. -/
def kScale (h : Fin 8) (r : Fin 512) : EReal :=
  Ideal.rsqrt ((∑ x : Fin 128, N (ix2 r ⟨128 * h.val + x.val, by omega⟩) * N (ix2 r ⟨128 * h.val + x.val, by omega⟩)
    + ∑ x : Fin 128, P (ix2 r ⟨768 + x.val, by omega⟩) * P (ix2 r ⟨768 + x.val, by omega⟩)) * invQk + eps)

def kLo (h : Fin 8) (r : Fin 512) (d : Fin 128) : EReal := N (ix2 r ⟨128 * h.val + d.val, by omega⟩) * kScale P N h r * g (ix2 0 ⟨d.val, by omega⟩)

/-- A coordinate of the shared part of the keys, times its gain. -/
def kg (r : Fin 512) (d : Fin 128) : EReal := P (ix2 r ⟨768 + d.val, by omega⟩) * g (ix2 0 ⟨128 + d.val, by omega⟩)

def kHi (h : Fin 8) (r : Fin 512) (d : Fin 128) : EReal :=
  (kg P g r d * ct (ix2 r d) + (kg P g r ⟨(d.val + 128 - 32) % 128, by omega⟩ + kg P g r ⟨(d.val + 128 - 96) % 128, by omega⟩) * st (ix2 r d)) * kScale P N h r

def vAt (h : Fin 8) (d : Fin 128) (r : Fin 512) : EReal := ∑ x : Fin 256, w (ix3 h d x) * L (ix2 r x)

/-- Whether a lane is of the first half. -/
def lane (d : Fin 128) : BitVec 1 := IntOp.cmpi CmpIPredicate.slt (BitVec.ofNat 32 d.val) 64#32

/-- A coordinate of the window attention's queries, two heads to a row of lanes. -/
def qsAt (p : Fin 8) (r : Fin 512) (d : Fin 128) : EReal :=
  P (ix2 r ⟨896 + 128 * p.val + d.val, by omega⟩)
    * Scalar.select (lane d)
        (Ideal.rsqrt ((∑ x : Fin 128, Scalar.select (lane x) (P (ix2 r ⟨896 + 128 * p.val + x.val, by omega⟩) * P (ix2 r ⟨896 + 128 * p.val + x.val, by omega⟩)) (0 : EReal)) * Ideal.ofBits FTy.f32 0x3C800000#32 + eps))
        (Ideal.rsqrt ((∑ x : Fin 128, Scalar.select (lane x) (0 : EReal) (P (ix2 r ⟨896 + 128 * p.val + x.val, by omega⟩) * P (ix2 r ⟨896 + 128 * p.val + x.val, by omega⟩))) * Ideal.ofBits FTy.f32 0x3C800000#32 + eps))
    * sg (ix2 0 d) * Ideal.ofBits FTy.f32 0x3E000000#32

/-- A coordinate of the window attention's keys, each twice in a row of lanes. -/
def ksAt (h : Fin 2) (r : Fin 512) (d : Fin 128) : EReal :=
  P (ix2 r ⟨1920 + 128 * h.val + d.val, by omega⟩) * scaleBy (Ideal.ofBits FTy.f32 0x3C000000#32) (fun x : Fin 128 => P (ix2 r ⟨1920 + 128 * h.val + x.val, by omega⟩)) * sg (ix2 0 d)

theorem qHi_7 (r : Fin 512) (d : Fin 128) : k0_pay54 (k0_pay50 Q ct st (View.ld g r0_5)) (ix4 0 0 r d) = qHi Q ct st g ⟨7, by omega⟩ r d := by
  pointwise [k0_pay49, k0_pay50, k0_pay54]
  simp only [qHi, qLo, qn, scaleBy, show ((7 : Fin 8) : ℕ) = 7 from rfl, Nat.reduceMul, Nat.reduceAdd, Nat.zero_add] <;> rfl

theorem qLo_7 (r : Fin 512) (d : Fin 128) : k0_pay53 (k0_pay51 Q (View.ld g r0_5)) (k0_pay52 (F := Ideal)) (ix4 0 0 r d) = qLo Q g ⟨7, by omega⟩ r d := by
  pointwise [k0_pay49, k0_pay51, k0_pay52, k0_pay53]
  simp only [qHi, qLo, qn, scaleBy, show ((7 : Fin 8) : ℕ) = 7 from rfl, Nat.reduceMul, Nat.reduceAdd, Nat.zero_add] <;> rfl

theorem qHi_6 (r : Fin 512) (d : Fin 128) : k0_pay48 ct st (k0_pay45 Q (View.ld g r0_5)) (k0_pay46 Q (View.ld g r0_5)) (ix4 0 0 r d) = qHi Q ct st g ⟨6, by omega⟩ r d := by
  pointwise [k0_pay44, k0_pay45, k0_pay46, k0_pay48]
  simp only [qHi, qLo, qn, scaleBy, show ((6 : Fin 8) : ℕ) = 6 from rfl, Nat.reduceMul, Nat.reduceAdd, Nat.zero_add] <;> rfl

theorem qLo_6 (r : Fin 512) (d : Fin 128) : k0_pay47 (k0_pay44 Q (View.ld g r0_5)) (ix4 0 0 r d) = qLo Q g ⟨6, by omega⟩ r d := by
  pointwise [k0_pay44, k0_pay47]
  simp only [qHi, qLo, qn, scaleBy, show ((6 : Fin 8) : ℕ) = 6 from rfl, Nat.reduceMul, Nat.reduceAdd, Nat.zero_add] <;> rfl

theorem qHi_5 (r : Fin 512) (d : Fin 128) : k0_pay43 ct st (k0_pay41 Q (View.ld g r0_5)) (ix4 0 0 r d) = qHi Q ct st g ⟨5, by omega⟩ r d := by
  pointwise [k0_pay41, k0_pay43]
  simp only [qHi, qLo, qn, scaleBy, show ((5 : Fin 8) : ℕ) = 5 from rfl, Nat.reduceMul, Nat.reduceAdd, Nat.zero_add] <;> rfl

theorem qLo_5 (r : Fin 512) (d : Fin 128) : k0_pay42 (k0_pay41 Q (View.ld g r0_5)) (ix4 0 0 r d) = qLo Q g ⟨5, by omega⟩ r d := by
  pointwise [k0_pay41, k0_pay42]
  simp only [qHi, qLo, qn, scaleBy, show ((5 : Fin 8) : ℕ) = 5 from rfl, Nat.reduceMul, Nat.reduceAdd, Nat.zero_add] <;> rfl

theorem qHi_4 (r : Fin 512) (d : Fin 128) : k0_pay40 ct st (k0_pay37 Q) (View.ld g r0_5) (ix4 0 0 r d) = qHi Q ct st g ⟨4, by omega⟩ r d := by
  pointwise [k0_pay37, k0_pay38, k0_pay40]
  simp only [qHi, qLo, qn, scaleBy, show ((4 : Fin 8) : ℕ) = 4 from rfl, Nat.reduceMul, Nat.reduceAdd, Nat.zero_add] <;> rfl

theorem qLo_4 (r : Fin 512) (d : Fin 128) : k0_pay39 (k0_pay37 Q) (View.ld g r0_5) (ix4 0 0 r d) = qLo Q g ⟨4, by omega⟩ r d := by
  pointwise [k0_pay37, k0_pay38, k0_pay39]
  simp only [qHi, qLo, qn, scaleBy, show ((4 : Fin 8) : ℕ) = 4 from rfl, Nat.reduceMul, Nat.reduceAdd, Nat.zero_add] <;> rfl

theorem qHi_3 (r : Fin 512) (d : Fin 128) : k0_pay36 ct st (k0_pay32 Q) (k0_pay33 Q) (View.ld g r0_5) (ix4 0 0 r d) = qHi Q ct st g ⟨3, by omega⟩ r d := by
  pointwise [k0_pay32, k0_pay33, k0_pay34, k0_pay36]
  simp only [qHi, qLo, qn, scaleBy, show ((3 : Fin 8) : ℕ) = 3 from rfl, Nat.reduceMul, Nat.reduceAdd, Nat.zero_add] <;> rfl

theorem qLo_3 (r : Fin 512) (d : Fin 128) : k0_pay35 (k0_pay32 Q) (k0_pay33 Q) (View.ld g r0_5) (ix4 0 0 r d) = qLo Q g ⟨3, by omega⟩ r d := by
  pointwise [k0_pay32, k0_pay33, k0_pay34, k0_pay35]
  simp only [qHi, qLo, qn, scaleBy, show ((3 : Fin 8) : ℕ) = 3 from rfl, Nat.reduceMul, Nat.reduceAdd, Nat.zero_add] <;> rfl

theorem qHi_2 (r : Fin 512) (d : Fin 128) : k0_pay31 ct st (k0_pay27 Q) (k0_pay28 Q) (View.ld g r0_5) (ix4 0 0 r d) = qHi Q ct st g ⟨2, by omega⟩ r d := by
  pointwise [k0_pay27, k0_pay28, k0_pay29, k0_pay31]
  simp only [qHi, qLo, qn, scaleBy, show ((2 : Fin 8) : ℕ) = 2 from rfl, Nat.reduceMul, Nat.reduceAdd, Nat.zero_add] <;> rfl

theorem qLo_2 (r : Fin 512) (d : Fin 128) : k0_pay30 (k0_pay27 Q) (k0_pay28 Q) (View.ld g r0_5) (ix4 0 0 r d) = qLo Q g ⟨2, by omega⟩ r d := by
  pointwise [k0_pay27, k0_pay28, k0_pay29, k0_pay30]
  simp only [qHi, qLo, qn, scaleBy, show ((2 : Fin 8) : ℕ) = 2 from rfl, Nat.reduceMul, Nat.reduceAdd, Nat.zero_add] <;> rfl

theorem qHi_1 (r : Fin 512) (d : Fin 128) : k0_pay26 Q ct st (View.ld g r0_5) (ix4 0 0 r d) = qHi Q ct st g ⟨1, by omega⟩ r d := by
  pointwise [k0_pay24, k0_pay26]
  simp only [qHi, qLo, qn, scaleBy, show ((1 : Fin 8) : ℕ) = 1 from rfl, Nat.reduceMul, Nat.reduceAdd, Nat.zero_add] <;> rfl

theorem qLo_1 (r : Fin 512) (d : Fin 128) : k0_pay25 Q (View.ld g r0_5) (ix4 0 0 r d) = qLo Q g ⟨1, by omega⟩ r d := by
  pointwise [k0_pay24, k0_pay25]
  simp only [qHi, qLo, qn, scaleBy, show ((1 : Fin 8) : ℕ) = 1 from rfl, Nat.reduceMul, Nat.reduceAdd, Nat.zero_add] <;> rfl

theorem qHi_0 (r : Fin 512) (d : Fin 128) : k0_pay23 (k0_pay22 Q A C (View.ld rc r0_25) (View.ld rc r0_26) (View.ld g r0_5)) (ix4 0 0 r d) = qHi Q (k0_pay18 C (View.ld rc r0_25)) (k0_pay19 A (View.ld rc r0_26)) g ⟨0, by omega⟩ r d := by
  pointwise [k0_pay20, k0_pay22, k0_pay23]
  simp only [qHi, qLo, qn, scaleBy, show ((0 : Fin 8) : ℕ) = 0 from rfl, Nat.reduceMul, Nat.reduceAdd, Nat.zero_add] <;> rfl

theorem qLo_0 (r : Fin 512) (d : Fin 128) : k0_pay21 Q (View.ld g r0_5) (ix4 0 0 r d) = qLo Q g ⟨0, by omega⟩ r d := by
  pointwise [k0_pay20, k0_pay21]
  simp only [qHi, qLo, qn, scaleBy, show ((0 : Fin 8) : ℕ) = 0 from rfl, Nat.reduceMul, Nat.reduceAdd, Nat.zero_add] <;> rfl

theorem kHi_7 (r : Fin 512) (d : Fin 128) : k0_pay95 (k0_pay94 N (k0_pay56 P) (k0_pay57 P ct st (View.ld g r0_43))) (ix4 0 0 r d) = kHi P N ct st g ⟨7, by omega⟩ r d := by
  pointwise [k0_pay55, k0_pay56, k0_pay57, k0_pay91, k0_pay92, k0_pay94, k0_pay95]
  simp only [kHi, kLo, kg, kScale, show ((7 : Fin 8) : ℕ) = 7 from rfl, Nat.reduceMul, Nat.reduceAdd, Nat.zero_add] <;> rfl

theorem kLo_7 (r : Fin 512) (d : Fin 128) : k0_pay93 N (k0_pay56 P) (View.ld g r0_44) (ix4 0 0 r d) = kLo P N g ⟨7, by omega⟩ r d := by
  pointwise [k0_pay55, k0_pay56, k0_pay91, k0_pay92, k0_pay93]
  simp only [kHi, kLo, kg, kScale, show ((7 : Fin 8) : ℕ) = 7 from rfl, Nat.reduceMul, Nat.reduceAdd, Nat.zero_add] <;> rfl

theorem kHi_6 (r : Fin 512) (d : Fin 128) : k0_pay90 (k0_pay57 P ct st (View.ld g r0_43)) (k0_pay88 N (k0_pay56 P)) (ix4 0 0 r d) = kHi P N ct st g ⟨6, by omega⟩ r d := by
  pointwise [k0_pay55, k0_pay56, k0_pay57, k0_pay87, k0_pay88, k0_pay90]
  simp only [kHi, kLo, kg, kScale, show ((6 : Fin 8) : ℕ) = 6 from rfl, Nat.reduceMul, Nat.reduceAdd, Nat.zero_add] <;> rfl

theorem kLo_6 (r : Fin 512) (d : Fin 128) : k0_pay89 (k0_pay87 N) (k0_pay88 N (k0_pay56 P)) (View.ld g r0_44) (ix4 0 0 r d) = kLo P N g ⟨6, by omega⟩ r d := by
  pointwise [k0_pay55, k0_pay56, k0_pay87, k0_pay88, k0_pay89]
  simp only [kHi, kLo, kg, kScale, show ((6 : Fin 8) : ℕ) = 6 from rfl, Nat.reduceMul, Nat.reduceAdd, Nat.zero_add] <;> rfl

theorem kHi_5 (r : Fin 512) (d : Fin 128) : k0_pay86 N (k0_pay56 P) (k0_pay57 P ct st (View.ld g r0_43)) (ix4 0 0 r d) = kHi P N ct st g ⟨5, by omega⟩ r d := by
  pointwise [k0_pay55, k0_pay56, k0_pay57, k0_pay83, k0_pay84, k0_pay86]
  simp only [kHi, kLo, kg, kScale, show ((5 : Fin 8) : ℕ) = 5 from rfl, Nat.reduceMul, Nat.reduceAdd, Nat.zero_add] <;> rfl

theorem kLo_5 (r : Fin 512) (d : Fin 128) : k0_pay85 N (k0_pay56 P) (View.ld g r0_44) (ix4 0 0 r d) = kLo P N g ⟨5, by omega⟩ r d := by
  pointwise [k0_pay55, k0_pay56, k0_pay83, k0_pay84, k0_pay85]
  simp only [kHi, kLo, kg, kScale, show ((5 : Fin 8) : ℕ) = 5 from rfl, Nat.reduceMul, Nat.reduceAdd, Nat.zero_add] <;> rfl

theorem kHi_4 (r : Fin 512) (d : Fin 128) : k0_pay82 (k0_pay81 N (k0_pay56 P) (k0_pay57 P ct st (View.ld g r0_43))) (ix4 0 0 r d) = kHi P N ct st g ⟨4, by omega⟩ r d := by
  pointwise [k0_pay55, k0_pay56, k0_pay57, k0_pay78, k0_pay79, k0_pay81, k0_pay82]
  simp only [kHi, kLo, kg, kScale, show ((4 : Fin 8) : ℕ) = 4 from rfl, Nat.reduceMul, Nat.reduceAdd, Nat.zero_add] <;> rfl

theorem kLo_4 (r : Fin 512) (d : Fin 128) : k0_pay80 N (k0_pay56 P) (View.ld g r0_44) (ix4 0 0 r d) = kLo P N g ⟨4, by omega⟩ r d := by
  pointwise [k0_pay55, k0_pay56, k0_pay78, k0_pay79, k0_pay80]
  simp only [kHi, kLo, kg, kScale, show ((4 : Fin 8) : ℕ) = 4 from rfl, Nat.reduceMul, Nat.reduceAdd, Nat.zero_add] <;> rfl

theorem kHi_3 (r : Fin 512) (d : Fin 128) : k0_pay77 (k0_pay57 P ct st (View.ld g r0_43)) (k0_pay74 N (k0_pay56 P)) (ix4 0 0 r d) = kHi P N ct st g ⟨3, by omega⟩ r d := by
  pointwise [k0_pay55, k0_pay56, k0_pay57, k0_pay73, k0_pay74, k0_pay77]
  simp only [kHi, kLo, kg, kScale, show ((3 : Fin 8) : ℕ) = 3 from rfl, Nat.reduceMul, Nat.reduceAdd, Nat.zero_add] <;> rfl

theorem kLo_3 (r : Fin 512) (d : Fin 128) : k0_pay76 (k0_pay75 N (k0_pay56 P)) (View.ld g r0_44) (ix4 0 0 r d) = kLo P N g ⟨3, by omega⟩ r d := by
  pointwise [k0_pay55, k0_pay56, k0_pay73, k0_pay74, k0_pay75, k0_pay76]
  simp only [kHi, kLo, kg, kScale, show ((3 : Fin 8) : ℕ) = 3 from rfl, Nat.reduceMul, Nat.reduceAdd, Nat.zero_add] <;> rfl

theorem kHi_2 (r : Fin 512) (d : Fin 128) : k0_pay72 N (k0_pay56 P) (k0_pay57 P ct st (View.ld g r0_43)) (ix4 0 0 r d) = kHi P N ct st g ⟨2, by omega⟩ r d := by
  pointwise [k0_pay55, k0_pay56, k0_pay57, k0_pay69, k0_pay70, k0_pay72]
  simp only [kHi, kLo, kg, kScale, show ((2 : Fin 8) : ℕ) = 2 from rfl, Nat.reduceMul, Nat.reduceAdd, Nat.zero_add] <;> rfl

theorem kLo_2 (r : Fin 512) (d : Fin 128) : k0_pay71 N (k0_pay56 P) (View.ld g r0_44) (ix4 0 0 r d) = kLo P N g ⟨2, by omega⟩ r d := by
  pointwise [k0_pay55, k0_pay56, k0_pay69, k0_pay70, k0_pay71]
  simp only [kHi, kLo, kg, kScale, show ((2 : Fin 8) : ℕ) = 2 from rfl, Nat.reduceMul, Nat.reduceAdd, Nat.zero_add] <;> rfl

theorem kHi_1 (r : Fin 512) (d : Fin 128) : k0_pay68 (k0_pay67 N (k0_pay56 P) (k0_pay57 P ct st (View.ld g r0_43))) (ix4 0 0 r d) = kHi P N ct st g ⟨1, by omega⟩ r d := by
  pointwise [k0_pay55, k0_pay56, k0_pay57, k0_pay64, k0_pay65, k0_pay67, k0_pay68]
  simp only [kHi, kLo, kg, kScale, show ((1 : Fin 8) : ℕ) = 1 from rfl, Nat.reduceMul, Nat.reduceAdd, Nat.zero_add] <;> rfl

theorem kLo_1 (r : Fin 512) (d : Fin 128) : k0_pay66 N (k0_pay56 P) (View.ld g r0_44) (ix4 0 0 r d) = kLo P N g ⟨1, by omega⟩ r d := by
  pointwise [k0_pay55, k0_pay56, k0_pay64, k0_pay65, k0_pay66]
  simp only [kHi, kLo, kg, kScale, show ((1 : Fin 8) : ℕ) = 1 from rfl, Nat.reduceMul, Nat.reduceAdd, Nat.zero_add] <;> rfl

theorem kHi_0 (r : Fin 512) (d : Fin 128) : k0_pay63 (k0_pay57 P ct st (View.ld g r0_43)) (k0_pay59 P N) (ix4 0 0 r d) = kHi P N ct st g ⟨0, by omega⟩ r d := by
  pointwise [k0_pay55, k0_pay56, k0_pay57, k0_pay58, k0_pay59, k0_pay63]
  simp only [kHi, kLo, kg, kScale, show ((0 : Fin 8) : ℕ) = 0 from rfl, Nat.reduceMul, Nat.reduceAdd, Nat.zero_add] <;> rfl

theorem kLo_0 (r : Fin 512) (d : Fin 128) : k0_pay62 (k0_pay60 P N) (k0_pay61 (View.ld g r0_44)) (ix4 0 0 r d) = kLo P N g ⟨0, by omega⟩ r d := by
  pointwise [k0_pay55, k0_pay56, k0_pay58, k0_pay59, k0_pay60, k0_pay61, k0_pay62]
  simp only [kHi, kLo, kg, kScale, show ((0 : Fin 8) : ℕ) = 0 from rfl, Nat.reduceMul, Nat.reduceAdd, Nat.zero_add] <;> rfl

theorem v_7 (r : Fin 512) (d : Fin 128) : k0_pay15 L (View.ld w r0_21) (ix5 0 0 0 d r) = vAt L w ⟨7, by omega⟩ d r := by
  pointwise [k0_pay15]
  rfl

theorem v_6 (r : Fin 512) (d : Fin 128) : k0_pay14 L (View.ld w r0_19) (ix5 0 0 0 d r) = vAt L w ⟨6, by omega⟩ d r := by
  pointwise [k0_pay14]
  rfl

theorem v_5 (r : Fin 512) (d : Fin 128) : k0_pay13 (k0_pay12 L (View.ld w r0_17)) (ix5 0 0 0 d r) = vAt L w ⟨5, by omega⟩ d r := by
  pointwise [k0_pay12, k0_pay13]
  rfl

theorem v_4 (r : Fin 512) (d : Fin 128) : k0_pay11 L (View.ld w r0_15) (ix5 0 0 0 d r) = vAt L w ⟨4, by omega⟩ d r := by
  pointwise [k0_pay11]
  rfl

theorem v_3 (r : Fin 512) (d : Fin 128) : k0_pay10 L (View.ld w r0_13) (ix5 0 0 0 d r) = vAt L w ⟨3, by omega⟩ d r := by
  pointwise [k0_pay10]
  rfl

theorem v_2 (r : Fin 512) (d : Fin 128) : k0_pay9 L (View.ld w r0_11) (ix5 0 0 0 d r) = vAt L w ⟨2, by omega⟩ d r := by
  pointwise [k0_pay9]
  rfl

theorem v_1 (r : Fin 512) (d : Fin 128) : k0_pay8 P (View.ld g r0_5) (View.ld w r0_9) (ix5 0 0 0 d r) = vAt (k0_pay5 P (View.ld g r0_5)) w ⟨1, by omega⟩ d r := by
  pointwise [k0_pay8]
  rfl

theorem v_0 (r : Fin 512) (d : Fin 128) : k0_pay7 P (View.ld g r0_5) (View.ld w r0_7) (ix5 0 0 0 d r) = vAt (k0_pay5 P (View.ld g r0_5)) w ⟨0, by omega⟩ d r := by
  pointwise [k0_pay7]
  rfl

theorem qs_7 (r : Fin 512) (d : Fin 128) : k0_pay115 (k0_pay96) (k0_pay112 P) (k0_pay113 P) (k0_pay114 P (k0_pay96)) (View.ld sg r0_45) (ix3 0 r d) = qsAt P sg ⟨7, by omega⟩ r d := by
  pointwise [k0_pay96, k0_pay112, k0_pay113, k0_pay114, k0_pay115]
  simp only [qsAt, show ((7 : Fin 8) : ℕ) = 7 from rfl, Nat.reduceMul, Nat.reduceAdd, Nat.zero_add] <;> rfl

theorem qs_6 (r : Fin 512) (d : Fin 128) : k0_pay111 (k0_pay96) (k0_pay108 P) (k0_pay109 P) (Scalar.ofBits .f32 0x00000000#32) (k0_pay110 (k0_pay96)) (View.ld sg r0_45) (ix3 0 r d) = qsAt P sg ⟨6, by omega⟩ r d := by
  pointwise [k0_pay96, k0_pay108, k0_pay109, k0_pay110, k0_pay111]
  simp only [qsAt, show ((6 : Fin 8) : ℕ) = 6 from rfl, Nat.reduceMul, Nat.reduceAdd, Nat.zero_add] <;> rfl

theorem qs_5 (r : Fin 512) (d : Fin 128) : k0_pay107 (k0_pay96) (k0_pay105 P) (k0_pay106 P) (View.ld sg r0_45) (ix3 0 r d) = qsAt P sg ⟨5, by omega⟩ r d := by
  pointwise [k0_pay96, k0_pay105, k0_pay106, k0_pay107]
  simp only [qsAt, show ((5 : Fin 8) : ℕ) = 5 from rfl, Nat.reduceMul, Nat.reduceAdd, Nat.zero_add] <;> rfl

theorem qs_4 (r : Fin 512) (d : Fin 128) : k0_pay104 P (k0_pay96) (View.ld sg r0_45) (ix3 0 r d) = qsAt P sg ⟨4, by omega⟩ r d := by
  pointwise [k0_pay96, k0_pay104]
  simp only [qsAt, show ((4 : Fin 8) : ℕ) = 4 from rfl, Nat.reduceMul, Nat.reduceAdd, Nat.zero_add] <;> rfl

theorem qs_3 (r : Fin 512) (d : Fin 128) : k0_pay103 P (k0_pay96) (View.ld sg r0_45) (ix3 0 r d) = qsAt P sg ⟨3, by omega⟩ r d := by
  pointwise [k0_pay96, k0_pay103]
  simp only [qsAt, show ((3 : Fin 8) : ℕ) = 3 from rfl, Nat.reduceMul, Nat.reduceAdd, Nat.zero_add] <;> rfl

theorem qs_2 (r : Fin 512) (d : Fin 128) : k0_pay102 (k0_pay101 P (k0_pay96) (View.ld sg r0_45)) (ix3 0 r d) = qsAt P sg ⟨2, by omega⟩ r d := by
  pointwise [k0_pay96, k0_pay101, k0_pay102]
  simp only [qsAt, show ((2 : Fin 8) : ℕ) = 2 from rfl, Nat.reduceMul, Nat.reduceAdd, Nat.zero_add] <;> rfl

theorem qs_1 (r : Fin 512) (d : Fin 128) : k0_pay100 (k0_pay99 P (k0_pay96) (View.ld sg r0_45)) (ix3 0 r d) = qsAt P sg ⟨1, by omega⟩ r d := by
  pointwise [k0_pay96, k0_pay99, k0_pay100]
  simp only [qsAt, show ((1 : Fin 8) : ℕ) = 1 from rfl, Nat.reduceMul, Nat.reduceAdd, Nat.zero_add] <;> rfl

theorem qs_0 (r : Fin 512) (d : Fin 128) : k0_pay98 (k0_pay97 P (View.ld sg r0_45)) (Scalar.ofBits .f32 0x3E000000#32) (ix3 0 r d) = qsAt P sg ⟨0, by omega⟩ r d := by
  pointwise [k0_pay96, k0_pay97, k0_pay98]
  simp only [qsAt, show ((0 : Fin 8) : ℕ) = 0 from rfl, Nat.reduceMul, Nat.reduceAdd, Nat.zero_add] <;> rfl

theorem ks_1 (r : Fin 512) (d : Fin 128) : k0_pay1 (k0_pay119 P) (k0_pay120 (View.ld sg r0_45)) (ix3 0 r d) = ksAt P sg ⟨1, by omega⟩ r d := by
  pointwise [k0_pay1, k0_pay119, k0_pay120]
  simp only [ksAt, scaleBy, show ((1 : Fin 2) : ℕ) = 1 from rfl, Nat.reduceMul, Nat.reduceAdd, Nat.zero_add] <;> rfl

theorem ks_0 (r : Fin 512) (d : Fin 128) : k0_pay118 (k0_pay116 P) (k0_pay117 P) (View.ld sg r0_45) (ix3 0 r d) = ksAt P sg ⟨0, by omega⟩ r d := by
  pointwise [k0_pay116, k0_pay117, k0_pay118]
  simp only [ksAt, scaleBy, show ((0 : Fin 2) : ℕ) = 0 from rfl, Nat.reduceMul, Nat.reduceAdd, Nat.zero_add] <;> rfl

theorem vs_all (r : Fin 512) (e : Fin 256) : k0_pay2 P (ix3 0 r e) = P (ix2 r ⟨2176 + e.val, by omega⟩) := by
  pointwise [k0_pay2]

end

end Cert.In

end
-- ==== Proof.InMath.lean ====
/- A token's outputs from lanes: sums over padded lanes, the rotation by rolled lanes, the scale moved past it. -/
module

public import proofs.«01_k».proof.Proof.InPoint

@[expose] public section

set_option maxRecDepth 16384

noncomputable section

namespace Cert.In

open Cert.Kernel3Ideal Cert.Kernel3Ideal.Gen Idealize.ShloMosaic Idealize.ShloMosaic.TcCoe Cert.Norm

theorem bits_192 : Ideal.ofBits .f32 0x43400000#32 = ((192 : ℝ) : EReal) := by
  simp [Ideal.ofBits, Ideal.ieee, -EReal.coe_mul]; try norm_num

theorem bits_inv_128 : Ideal.ofBits .f32 0x3C000000#32 = ((1 / 128 : ℝ) : EReal) := by
  simp [Ideal.ofBits, Ideal.ieee, -EReal.coe_mul]; try norm_num

theorem invQk_eq : invQk = ((1 / 192 : ℝ) : EReal) := IdealRules.named_const.ideal_named_scalar _ _ _ _ rfl

theorem scaleBy_192 {n : ℕ} (v : Fin n → EReal) : scaleBy invQk v = scale (Ideal.ofBits .f32 0x43400000#32) v :=
  scaleBy_eq (by norm_num) bits_192 invQk_eq v

theorem eps_pos : (0 : EReal) < eps := by
  have h : eps = ((8796093 * 2 ^ (-43 : ℤ) : ℝ) : EReal) := by
    simp [Ideal.ofBits, Ideal.ieee, -EReal.coe_mul]; try norm_num
  rw [h]
  exact EReal.coe_pos.mpr (by positivity)

theorem sq_nonneg (a : EReal) : 0 ≤ a * a := by
  rcases le_total 0 a with h | h
  · exact mul_nonneg h h
  · rw [← neg_mul_neg]; exact mul_nonneg (EReal.neg_nonneg.mpr h) (EReal.neg_nonneg.mpr h)

theorem sum_sq_nonneg {n : ℕ} (v : Fin n → EReal) : 0 ≤ ∑ j, v j * v j := Finset.sum_nonneg fun j _ => sq_nonneg (v j)

theorem rsqrt_range (x : EReal) (hx : 0 ≤ x) : 0 ≤ Ideal.rsqrt (x + eps) ∧ Ideal.rsqrt (x + eps) ≠ ⊤ := by
  have hp : 0 < x + eps := lt_of_lt_of_le eps_pos (le_add_of_nonneg_left hx)
  generalize x + eps = y at hp
  induction y with
  | bot => exact absurd hp (by simp)
  | top => rw [Ideal.rsqrt_top]; exact ⟨le_refl _, by simp⟩
  | coe r =>
    have hr : 0 < r := EReal.coe_pos.mp hp
    rw [Ideal.rsqrt_coe, if_neg (by linarith), if_neg (by linarith)]
    exact ⟨EReal.coe_nonneg.mpr (by positivity), EReal.coe_ne_top _⟩

theorem scale192_range (v : Fin 192 → EReal) : 0 ≤ Tok.scale192 v ∧ Tok.scale192 v ≠ ⊤ := by
  unfold Tok.scale192
  rw [← scaleBy_192]
  refine rsqrt_range _ (mul_nonneg (sum_sq_nonneg v) ?_)
  rw [invQk_eq]
  exact EReal.coe_nonneg.mpr (by norm_num)

/-- A vector of 192 in 256 lanes, zeros after it. -/
def pad (v : Fin 192 → EReal) (e : Fin 256) : EReal := if he : e.val < 192 then v ⟨e.val, he⟩ else 0

theorem sum_256 (f : Fin 256 → EReal) (g : Fin 192 → EReal) (hlo : ∀ x : Fin 192, f ⟨x.val, by omega⟩ = g x) (hhi : ∀ x : Fin 64, f ⟨192 + x.val, by omega⟩ = 0) :
    ∑ x, f x = ∑ x, g x := by
  refine (Fin.sum_univ_add (a := 192) (b := 64) f).trans ?_
  refine (congrArg₂ (· + ·) (Finset.sum_congr rfl fun x _ => hlo x) (Finset.sum_congr rfl fun x _ => hhi x)).trans ?_
  simp

theorem sum_192 (f : Fin 192 → EReal) : ∑ x, f x = ∑ x : Fin 128, f ⟨x.val, by omega⟩ + ∑ x : Fin 64, f ⟨128 + x.val, by omega⟩ :=
  Fin.sum_univ_add (a := 128) (b := 64) f

theorem sum_128 (f : Fin 128 → EReal) : ∑ x, f x = ∑ x : Fin 64, f ⟨x.val, by omega⟩ + ∑ x : Fin 64, f ⟨64 + x.val, by omega⟩ :=
  Fin.sum_univ_add (a := 64) (b := 64) f

theorem sum_pad (v : Fin 192 → EReal) : ∑ x, pad v x * pad v x = ∑ x, v x * v x :=
  sum_256 _ _ (fun x => by simp only [pad, dif_pos x.isLt]) (fun x => by simp only [pad, dif_neg (show ¬ (192 + x.val < 192) by omega), mul_zero])

theorem scale_pad (v : Fin 192 → EReal) : scaleBy invQk (pad v) = Tok.scale192 v := by
  unfold Tok.scale192
  rw [← scaleBy_192]
  unfold scaleBy
  rw [sum_pad]

variable (T : Tok)

/-- The rotation's cosines in lanes. -/
def ctV (d : Fin 128) : EReal :=
  if h1 : d.val < 32 then Ideal.cos (T.ang ⟨d.val, h1⟩) else if h2 : d.val - 32 < 32 then Ideal.cos (T.ang ⟨d.val - 32, h2⟩) else 0

/-- The rotation's signed sines in lanes. -/
def stV (d : Fin 128) : EReal :=
  if h1 : d.val < 32 then - Ideal.sin (T.ang ⟨d.val, h1⟩) else if h2 : d.val - 32 < 32 then Ideal.sin (T.ang ⟨d.val - 32, h2⟩) else 0

/-- The rotation by rolled lanes of the upper half of a padded vector. -/
def roll (v : Fin 192 → EReal) (d : Fin 128) : EReal :=
  pad v ⟨128 + d.val, by omega⟩ * ctV T d
    + (pad v ⟨128 + (d.val + 128 - 32) % 128, by omega⟩ + pad v ⟨128 + (d.val + 128 - 96) % 128, by omega⟩) * stV T d

theorem roll_eq (v : Fin 192 → EReal) (d : Fin 128) : roll T v d = pad (T.rot v) ⟨128 + d.val, by omega⟩ := by
  unfold roll
  by_cases h1 : d.val < 32
  · rw [show pad v ⟨128 + (d.val + 128 - 32) % 128, by omega⟩ = 0 from dif_neg (by dsimp only; omega)]
    rw [show pad v ⟨128 + (d.val + 128 - 96) % 128, by omega⟩ = v ⟨128 + (32 + (128 + d.val - 128)), by omega⟩ from
      (dif_pos (by dsimp only; omega)).trans (congrArg v (Fin.ext (by dsimp only; omega)))]
    rw [show pad v ⟨128 + d.val, by omega⟩ = v ⟨128 + (128 + d.val - 128), by omega⟩ from
      (dif_pos (by dsimp only; omega)).trans (congrArg v (Fin.ext (by dsimp only; omega)))]
    rw [show pad (T.rot v) ⟨128 + d.val, by omega⟩ = T.rot v ⟨128 + d.val, by omega⟩ from dif_pos (by dsimp only; omega)]
    rw [show ctV T d = Ideal.cos (T.ang ⟨128 + d.val - 128, by omega⟩) from (dif_pos h1).trans (congrArg (fun x => Ideal.cos (T.ang x)) (Fin.ext (by dsimp only; omega)))]
    rw [show stV T d = - Ideal.sin (T.ang ⟨128 + d.val - 128, by omega⟩) from (dif_pos h1).trans (congrArg (fun x => - Ideal.sin (T.ang x)) (Fin.ext (by dsimp only; omega)))]
    unfold Tok.rot
    rw [dif_neg (by dsimp only; omega), dif_pos (by dsimp only; omega), zero_add, mul_neg, sub_eq_add_neg]
  · by_cases h2 : d.val - 32 < 32
    · rw [show pad v ⟨128 + (d.val + 128 - 96) % 128, by omega⟩ = 0 from dif_neg (by dsimp only; omega)]
      rw [show pad v ⟨128 + (d.val + 128 - 32) % 128, by omega⟩ = v ⟨128 + (128 + d.val - 128 - 32), by omega⟩ from
        (dif_pos (by dsimp only; omega)).trans (congrArg v (Fin.ext (by dsimp only; omega)))]
      rw [show pad v ⟨128 + d.val, by omega⟩ = v ⟨128 + (32 + (128 + d.val - 128 - 32)), by omega⟩ from
        (dif_pos (by dsimp only; omega)).trans (congrArg v (Fin.ext (by dsimp only; omega)))]
      rw [show pad (T.rot v) ⟨128 + d.val, by omega⟩ = T.rot v ⟨128 + d.val, by omega⟩ from dif_pos (by dsimp only; omega)]
      rw [show ctV T d = Ideal.cos (T.ang ⟨128 + d.val - 128 - 32, by omega⟩) from
        (dif_neg h1).trans ((dif_pos h2).trans (congrArg (fun x => Ideal.cos (T.ang x)) (Fin.ext (by dsimp only; omega))))]
      rw [show stV T d = Ideal.sin (T.ang ⟨128 + d.val - 128 - 32, by omega⟩) from
        (dif_neg h1).trans ((dif_pos h2).trans (congrArg (fun x => Ideal.sin (T.ang x)) (Fin.ext (by dsimp only; omega))))]
      unfold Tok.rot
      rw [dif_neg (by dsimp only; omega), dif_neg (by dsimp only; omega), add_zero]
    · rw [show ctV T d = 0 from (dif_neg h1).trans (dif_neg h2), show stV T d = 0 from (dif_neg h1).trans (dif_neg h2),
        show pad (T.rot v) ⟨128 + d.val, by omega⟩ = 0 from dif_neg (by dsimp only; omega), mul_zero, mul_zero, add_zero]

/-- A finite scale moves past the rotation. -/
theorem rot_scale (v : Fin 192 → EReal) (c : EReal) (h0 : 0 ≤ c) (ht : c ≠ ⊤) (e : Fin 192) : T.rot v e * c = T.rot (fun e => v e * c) e := by
  unfold Tok.rot
  split_ifs
  · rfl
  · rw [sub_eq_add_neg, sub_eq_add_neg, EReal.right_distrib_of_nonneg_of_ne_top h0 ht, neg_mul, mul_right_comm, mul_right_comm (v _) (Ideal.sin _) c]
  · rw [EReal.right_distrib_of_nonneg_of_ne_top h0 ht, mul_right_comm, mul_right_comm (v _) (Ideal.sin _) c]

section

variable (P : FVec Ideal S512x2432 .f32) (Q : FVec Ideal S512x2048 .f32) (N : FVec Ideal S512x1024 .f32) (L : FVec Ideal S512x256 .bf16) (ct st : FVec Ideal S512x128 .f32)
variable (g : Vec Ideal S1x256 .f32) (sg : Vec Ideal S1x128 .f32) (w : Vec Ideal S8x128x256 .bf16) (r : Fin 512)

theorem qn_eq (h : Fin 8) (hQ : ∀ e : Fin 256, Q (ix2 r ⟨256 * h.val + e.val, by omega⟩) = pad (T.q h) e) (hg : ∀ e : Fin 256, g (ix2 0 e) = pad T.qg e)
    (e : Fin 256) : qn Q g h r e = pad (T.qNorm h) e := by
  unfold qn
  simp only [hQ, hg]
  rw [show (fun x => pad (T.q h) x) = pad (T.q h) from rfl, scale_pad]
  unfold pad
  split_ifs
  · rfl
  · simp

theorem qLo_eq (h : Fin 8) (hQ : ∀ e : Fin 256, Q (ix2 r ⟨256 * h.val + e.val, by omega⟩) = pad (T.q h) e) (hg : ∀ e : Fin 256, g (ix2 0 e) = pad T.qg e)
    (d : Fin 128) : qLo Q g h r d = T.qOut h ⟨d.val, by omega⟩ := by
  unfold qLo
  rw [qn_eq T Q g r h hQ hg]
  unfold Tok.qOut pad Tok.rot
  rw [dif_pos (by dsimp only; omega), dif_pos (by dsimp only; omega), dif_pos (by dsimp only; omega)]

theorem qHi_eq (h : Fin 8) (hQ : ∀ e : Fin 256, Q (ix2 r ⟨256 * h.val + e.val, by omega⟩) = pad (T.q h) e) (hg : ∀ e : Fin 256, g (ix2 0 e) = pad T.qg e)
    (hc : ∀ d, ct (ix2 r d) = ctV T d) (hs : ∀ d, st (ix2 r d) = stV T d) (d : Fin 128) : qHi Q ct st g h r d = T.qOut h ⟨128 + d.val, by omega⟩ := by
  unfold qHi
  simp only [qn_eq T Q g r h hQ hg, hc, hs]
  refine (congrArg (· * qFactor) (roll_eq T (T.qNorm h) d)).trans ?_
  unfold Tok.qOut pad
  split_ifs
  · rfl
  · simp

theorem kScale_eq (h : Fin 8) (hN : ∀ d : Fin 128, N (ix2 r ⟨128 * h.val + d.val, by omega⟩) = T.kv h ⟨d.val, by omega⟩)
    (hP : ∀ d : Fin 64, P (ix2 r ⟨768 + d.val, by omega⟩) = T.proj ⟨768 + d.val, by omega⟩) (hz : ∀ d : Fin 64, P (ix2 r ⟨832 + d.val, by omega⟩) = 0) :
    kScale P N h r = Tok.scale192 (T.key h) := by
  unfold Tok.scale192
  rw [← scaleBy_192]
  unfold kScale scaleBy
  refine congrArg (fun x => Ideal.rsqrt (x * invQk + eps)) ?_
  rw [sum_192, sum_128 (fun x => P (ix2 r ⟨768 + x.val, by omega⟩) * P (ix2 r ⟨768 + x.val, by omega⟩))]
  refine congrArg₂ (· + ·) ?_ ?_
  · refine Finset.sum_congr rfl fun x _ => ?_
    rw [hN, show T.key h ⟨x.val, by omega⟩ = T.kv h ⟨x.val, by omega⟩ from dif_pos x.isLt]
  · rw [Finset.sum_eq_zero (s := Finset.univ) (f := fun x : Fin 64 => P (ix2 r ⟨768 + (64 + x.val), by omega⟩) * P (ix2 r ⟨768 + (64 + x.val), by omega⟩)), add_zero]
    · refine Finset.sum_congr rfl fun x _ => ?_
      rw [hP, show T.key h ⟨128 + x.val, by omega⟩ = T.proj ⟨768 + x.val, by omega⟩ from
        (dif_neg (by dsimp only; omega)).trans (congrArg T.proj (Fin.ext (by dsimp only; omega)))]
    · intro x _
      rw [show (⟨768 + (64 + x.val), by omega⟩ : Fin 2432) = ⟨832 + x.val, by omega⟩ from Fin.ext (by dsimp only; omega), hz, mul_zero]

theorem kLo_eq (h : Fin 8) (hN : ∀ d : Fin 128, N (ix2 r ⟨128 * h.val + d.val, by omega⟩) = T.kv h ⟨d.val, by omega⟩)
    (hP : ∀ d : Fin 64, P (ix2 r ⟨768 + d.val, by omega⟩) = T.proj ⟨768 + d.val, by omega⟩) (hz : ∀ d : Fin 64, P (ix2 r ⟨832 + d.val, by omega⟩) = 0)
    (hg : ∀ e : Fin 256, g (ix2 0 e) = pad T.kg e) (d : Fin 128) : kLo P N g h r d = T.kOut h ⟨d.val, by omega⟩ := by
  unfold kLo
  rw [kScale_eq T P N r h hN hP hz, hN, hg]
  unfold Tok.kOut Tok.rot Tok.kNorm Tok.key pad
  rw [dif_pos (by dsimp only; omega), dif_pos (by dsimp only; omega), dif_pos (by dsimp only; omega), dif_pos (by dsimp only; omega)]

theorem kg_eq (h : Fin 8) (hP : ∀ d : Fin 64, P (ix2 r ⟨768 + d.val, by omega⟩) = T.proj ⟨768 + d.val, by omega⟩) (hg : ∀ e : Fin 256, g (ix2 0 e) = pad T.kg e) (d : Fin 128) :
    kg P g r d = pad (fun e => T.key h e * T.kg e) ⟨128 + d.val, by omega⟩ := by
  unfold kg
  rw [hg]
  unfold pad
  split_ifs with hd
  · dsimp only at hd ⊢
    rw [show P (ix2 r ⟨768 + d.val, by omega⟩) = _ from hP ⟨d.val, by omega⟩, show T.key h ⟨128 + d.val, by omega⟩ = T.proj ⟨768 + d.val, by omega⟩ from
      (dif_neg (by dsimp only; omega)).trans (congrArg T.proj (Fin.ext (by dsimp only; omega)))]
  · simp

theorem kHi_eq (h : Fin 8) (hN : ∀ d : Fin 128, N (ix2 r ⟨128 * h.val + d.val, by omega⟩) = T.kv h ⟨d.val, by omega⟩)
    (hP : ∀ d : Fin 64, P (ix2 r ⟨768 + d.val, by omega⟩) = T.proj ⟨768 + d.val, by omega⟩) (hz : ∀ d : Fin 64, P (ix2 r ⟨832 + d.val, by omega⟩) = 0)
    (hg : ∀ e : Fin 256, g (ix2 0 e) = pad T.kg e) (hc : ∀ d, ct (ix2 r d) = ctV T d) (hs : ∀ d, st (ix2 r d) = stV T d) (d : Fin 128) :
    kHi P N ct st g h r d = T.kOut h ⟨128 + d.val, by omega⟩ := by
  unfold kHi
  rw [kScale_eq T P N r h hN hP hz]
  simp only [kg_eq T P g r h hP hg, hc, hs]
  refine (congrArg (· * Tok.scale192 (T.key h)) (roll_eq T (fun e => T.key h e * T.kg e) d)).trans ?_
  unfold Tok.kOut
  unfold pad
  obtain ⟨h0, ht⟩ := scale192_range (T.key h)
  split_ifs
  · rw [rot_scale T _ _ h0 ht]
    refine congrArg (fun v => T.rot v _) (funext fun e => ?_)
    unfold Tok.kNorm
    rw [mul_right_comm]
  · simp

theorem vAt_eq (h : Fin 8) (d : Fin 128) (hL : ∀ x, L (ix2 r x) = T.kvLatN x) (hw : ∀ x, w (ix3 h d x) = T.wkv x ⟨h.val * 256 + (128 + d.val), by omega⟩) :
    vAt L w h d r = T.vOut h d := by
  unfold vAt Tok.vOut Tok.kv
  refine Finset.sum_congr rfl fun x _ => ?_
  rw [hL, hw, mul_comm]

/-- A sum of squares counted twice, times half a number. -/
theorem twice_mul (S : EReal) (h : 0 ≤ S) : (S + S) * Ideal.ofBits .f32 0x3C000000#32 = S * Ideal.ofBits .f32 0x3C800000#32 := by
  have h1 : (0 : EReal) ≤ ((1 / 128 : ℝ) : EReal) := EReal.coe_nonneg.mpr (by norm_num)
  rw [bits_inv_128, bits_inv_64, EReal.right_distrib_of_nonneg h h, ← EReal.left_distrib_of_nonneg h1 h1, ← EReal.coe_add]
  norm_num

theorem ksAt_eq (h : Fin 2) (hP : ∀ d : Fin 128, P (ix2 r ⟨1920 + 128 * h.val + d.val, by omega⟩) = T.sk h ⟨d.val % 64, by omega⟩)
    (hg : ∀ d : Fin 128, sg (ix2 0 d) = T.skg ⟨d.val % 64, by omega⟩) (d : Fin 128) : ksAt P sg h r d = T.ksOut h ⟨d.val % 64, by omega⟩ := by
  unfold ksAt Tok.ksOut
  simp only [hP, hg]
  refine congrArg (fun x => T.sk h ⟨d.val % 64, by omega⟩ * x * T.skg ⟨d.val % 64, by omega⟩) ?_
  unfold Tok.scale64
  rw [← scaleBy_64]
  unfold scaleBy
  refine congrArg (fun x => Ideal.rsqrt (x + eps)) ?_
  rw [← twice_mul _ (sum_sq_nonneg (T.sk h)), sum_128]
  refine congrArg (· * _) (congrArg₂ (· + ·) ?_ ?_)
  · refine Finset.sum_congr rfl fun x _ => ?_
    dsimp only
    rw [show (⟨x.val % 64, by omega⟩ : Fin 64) = x from Fin.ext (by dsimp only; omega)]
  · refine Finset.sum_congr rfl fun x _ => ?_
    dsimp only
    rw [show (⟨(64 + x.val) % 64, by omega⟩ : Fin 64) = x from Fin.ext (by dsimp only; omega)]

theorem lane_lo : ∀ d : Fin 64, lane ⟨d.val, by omega⟩ = 1#1 := by decide

theorem lane_hi : ∀ d : Fin 64, lane ⟨64 + d.val, by omega⟩ = 0#1 := by decide

theorem select_one (a b : EReal) : Scalar.select 1#1 a b = a := rfl

theorem select_zero (a b : EReal) : Scalar.select 0#1 a b = b := rfl

theorem qsLo_eq (p : Fin 8) (h : Fin 16) (hh : h.val = 2 * p.val) (hP : ∀ d : Fin 64, P (ix2 r ⟨896 + 128 * p.val + d.val, by omega⟩) = T.sq h d)
    (hg : ∀ d : Fin 64, sg (ix2 0 ⟨d.val, by omega⟩) = T.sqg d) (d : Fin 64) : qsAt P sg p r ⟨d.val, by omega⟩ = T.qsOut h d := by
  unfold qsAt Tok.qsOut
  rw [lane_lo, select_one, sum_128]
  simp only [lane_lo, lane_hi, select_one, select_zero, Finset.sum_const_zero, add_zero, hP, hg]
  unfold Tok.scale64
  rw [← scaleBy_64]
  rfl

theorem qsHi_eq (p : Fin 8) (h : Fin 16) (hh : h.val = 2 * p.val + 1) (hP : ∀ d : Fin 64, P (ix2 r ⟨896 + 128 * p.val + (64 + d.val), by omega⟩) = T.sq h d)
    (hg : ∀ d : Fin 64, sg (ix2 0 ⟨64 + d.val, by omega⟩) = T.sqg d) (d : Fin 64) : qsAt P sg p r ⟨64 + d.val, by omega⟩ = T.qsOut h d := by
  unfold qsAt Tok.qsOut
  rw [lane_hi, select_zero, sum_128 (fun x => Scalar.select (lane x) (0 : EReal) _)]
  simp only [lane_lo, lane_hi, select_one, select_zero, Finset.sum_const_zero, zero_add, hP, hg]
  unfold Tok.scale64
  rw [← scaleBy_64]
  rfl

end

end Cert.In

end
-- ==== Proof.InHostAt.lean ====
/- The host code's arrays for the input projection, read at an index. -/
module

public import proofs.«01_k».proof.Proof.InHost
public import proofs.«01_k».proof.Proof.InMath

@[expose] public section

set_option maxRecDepth 16384
set_option maxHeartbeats 1000000

noncomputable section

namespace Cert.In

open Cert.Kernel3Ideal Cert.Kernel3Ideal.Gen Idealize.ShloMosaic Idealize.ShloMosaic.TcCoe Cert.Norm

theorem sitofp_zero : FloatOps.sitofp (F := Ideal) FTy.f32 0#32 = (0 : EReal) := by
  show (((0#32).toInt : ℝ) : EReal) = 0
  simp

theorem twice_at (w : FVec Ideal S2048x128 .f32) (k : Fin 2048) (e : Fin 256) : twice w (ix2 k e) = w (ix2 k ⟨e.val / 128 * 64 + e.val % 64, by omega⟩) := by
  pointwise [twice]
  split_ifs <;> exact congrArg (fun x => w (ix2 k x)) (Fin.ext (by dsimp only; omega))

theorem wideIn_at (w : FVec Ideal S2048x2112 .f32) (k : Fin 2048) (j : Fin 2432) : wideIn w (ix2 k j) =
    if h1 : j.val < 832 then w (ix2 k ⟨j.val, by omega⟩)
    else if j.val - 832 < 64 then 0
    else if h3 : j.val - 832 - 64 < 1024 then w (ix2 k ⟨832 + (j.val - 832 - 64), by omega⟩)
    else if h4 : j.val - 832 - 64 - 1024 < 256 then w (ix2 k ⟨1856 + ((j.val - 832 - 64 - 1024) / 128 * 64 + (j.val - 832 - 64 - 1024) % 64), by omega⟩)
    else w (ix2 k ⟨1984 + ((j.val - 832 - 64 - 1024 - 256) / 128 * 64 + (j.val - 832 - 64 - 1024 - 256) % 64), by omega⟩) := by
  pointwise [wideIn]
  simp only [twice_at]
  pointwise
  rfl

theorem wideIn_lo (w : FVec Ideal S2048x2112 .f32) (k : Fin 2048) (j : Fin 832) : wideIn w (ix2 k ⟨j.val, by omega⟩) = w (ix2 k ⟨j.val, by omega⟩) :=
  (wideIn_at _ _ _).trans (dif_pos j.isLt)

theorem wideIn_zero (w : FVec Ideal S2048x2112 .f32) (k : Fin 2048) (j : Fin 64) : wideIn w (ix2 k ⟨832 + j.val, by omega⟩) = (0 : EReal) :=
  (wideIn_at _ _ _).trans ((dif_neg (by dsimp only; omega)).trans (if_pos (by dsimp only; omega)))

theorem wideIn_q (w : FVec Ideal S2048x2112 .f32) (k : Fin 2048) (j : Fin 1024) : wideIn w (ix2 k ⟨896 + j.val, by omega⟩) = w (ix2 k ⟨832 + j.val, by omega⟩) :=
  (wideIn_at _ _ _).trans ((dif_neg (by dsimp only; omega)).trans ((if_neg (by dsimp only; omega)).trans ((dif_pos (by dsimp only; omega)).trans
    (congrArg (fun x => w (ix2 k x)) (Fin.ext (by dsimp only; omega))))))

theorem wideIn_k (w : FVec Ideal S2048x2112 .f32) (k : Fin 2048) (e : Fin 256) :
    wideIn w (ix2 k ⟨1920 + e.val, by omega⟩) = w (ix2 k ⟨1856 + (e.val / 128 * 64 + e.val % 64), by omega⟩) :=
  (wideIn_at _ _ _).trans ((dif_neg (by dsimp only; omega)).trans ((if_neg (by dsimp only; omega)).trans ((dif_neg (by dsimp only; omega)).trans ((dif_pos (by dsimp only; omega)).trans
    (congrArg (fun x => w (ix2 k x)) (Fin.ext (by dsimp only; omega)))))))

theorem wideIn_v (w : FVec Ideal S2048x2112 .f32) (k : Fin 2048) (e : Fin 256) :
    wideIn w (ix2 k ⟨2176 + e.val, by omega⟩) = w (ix2 k ⟨1984 + (e.val / 128 * 64 + e.val % 64), by omega⟩) :=
  (wideIn_at _ _ _).trans ((dif_neg (by dsimp only; omega)).trans ((if_neg (by dsimp only; omega)).trans ((dif_neg (by dsimp only; omega)).trans ((dif_neg (by dsimp only; omega)).trans
    (congrArg (fun x => w (ix2 k x)) (Fin.ext (by dsimp only; omega)))))))

theorem wideQ_at (w : FVec Ideal S512x1536 .f32) (k : Fin 512) (h : Fin 8) (e : Fin 256) :
    wideQ w (ix2 k ⟨256 * h.val + e.val, by omega⟩) = pad (fun d => w (ix2 k ⟨h.val * 192 + d.val, by omega⟩)) e := by
  pointwise [wideQ]
  rw [sitofp_zero]
  rfl

theorem keyW_at (w : FVec Ideal S256x2048 .f32) (k : Fin 256) (h : Fin 8) (d : Fin 128) :
    keyW w (ix2 k ⟨128 * h.val + d.val, by omega⟩) = w (ix2 k ⟨h.val * 256 + d.val, by omega⟩) := by
  pointwise [keyW]

theorem valueW_at (w : FVec Ideal S256x2048 .f32) (k : Fin 256) (h : Fin 8) (d : Fin 128) :
    valueW w (ix3 h d k) = w (ix2 k ⟨h.val * 256 + (128 + d.val), by omega⟩) := by
  pointwise [valueW]

theorem wideGain_at (g : FVec Ideal S192 .f32) (e : Fin 256) : wideGain g (ix2 0 e) = pad (fun d => g (ix1 d)) e := by
  pointwise [wideGain]
  rw [sitofp_zero]
  rfl

theorem gainTwice_at (g : FVec Ideal S64 .f32) (d : Fin 128) : gainTwice g (ix2 0 d) = g (ix1 ⟨d.val % 64, by omega⟩) := by
  pointwise [gainTwice]

theorem freqs_at (d : Fin 32) : freqs (ix1 d) = freq d := by
  pointwise [freqs]
  rfl

/-- The frequencies in lanes. -/
theorem rope_freq (d : Fin 128) : ropeRows (ix2 0 d) = if h1 : d.val < 32 then freq ⟨d.val, h1⟩ else if h2 : d.val - 32 < 32 then freq ⟨d.val - 32, h2⟩ else 0 := by
  pointwise [ropeRows]
  simp only [freqs_at]

theorem rope_turn (d : Fin 128) : ropeRows (ix2 1 d) = if d.val < 64 then (1 : EReal) else 0 := by
  pointwise [ropeRows]
  rfl

theorem rope_sign (d : Fin 128) : ropeRows (ix2 2 d) = if d.val < 32 then (-1 : EReal) else if d.val - 32 < 32 then 1 else 0 := by
  pointwise [ropeRows]
  rfl

section

variable (x0 : Vec Ideal S1x512x2048 .f32) (x1 : Vec Ideal S1x512x1 .i32) (x2 : Vec Ideal S1x2048 .f32) (x3 : Vec Ideal S2048x2432 .bf16) (x4 : Vec Ideal S1x512 .f32)
variable (x5 : Vec Ideal S512x2048 .bf16) (x6 : Vec Ideal S1x256 .f32) (x7 : Vec Ideal S256x1024 .bf16) (x13 : Vec Ideal S8x128 .f32) (P : FVec Ideal S512x2432 .f32) (r : Fin 512)

theorem P_at (j : Fin 2432) : k0_pay3 (View.ld x0 r0_0) (View.ld x2 r0_1) (View.ld x3 r0_2) (ix2 r j)
    = ∑ k : Fin 2048, x0 (ix3 0 r k) * scaleBy (Ideal.ofBits .f32 0x3A000000#32) (fun k : Fin 2048 => x0 (ix3 0 r k)) * x2 (ix2 0 k) * x3 (ix2 k j) := by
  pointwise [k0_pay3]
  rfl

theorem Q_at (j : Fin 2048) (y0 : Vec Ideal S1x512x2048 .f32) (y2 : Vec Ideal S1x2048 .f32) (y3 : Vec Ideal S2048x2432 .bf16) :
    k0_pay4 y0 y2 y3 (View.ld x4 r0_3) (View.ld x5 r0_4) (ix2 r j)
    = ∑ k : Fin 512, k0_pay3 y0 y2 y3 (ix2 r ⟨k.val, by omega⟩) * scaleBy (Ideal.ofBits .f32 0x3B000000#32) (fun k : Fin 512 => k0_pay3 y0 y2 y3 (ix2 r ⟨k.val, by omega⟩))
      * x4 (ix2 0 k) * x5 (ix2 k j) := by
  pointwise [k0_pay4]
  rfl

theorem L_at (k : Fin 256) : k0_pay5 P (View.ld x6 r0_5) (ix2 r k)
    = P (ix2 r ⟨512 + k.val, by omega⟩) * scaleBy (Ideal.ofBits .f32 0x3B800000#32) (fun k : Fin 256 => P (ix2 r ⟨512 + k.val, by omega⟩)) * x6 (ix2 0 k) := by
  pointwise [k0_pay5]
  rfl

theorem N_at (j : Fin 1024) (y6 : Vec Ideal S1x256 .f32) : k0_pay6 P y6 (View.ld x7 r0_6) (ix2 r j) = ∑ k : Fin 256, k0_pay5 P y6 (ix2 r k) * x7 (ix2 k j) := by
  pointwise [k0_pay6]

theorem ct_at (d : Fin 128) : k0_pay18 (k0_pay17 (View.ld x1 r0_23) (View.ld x13 r0_24)) (View.ld x13 r0_25) (ix2 r d)
    = Ideal.cos (FloatOps.sitofp (F := Ideal) FTy.f32 (x1 (ix3 0 r 0)) * x13 (ix2 0 d)) * x13 (ix2 1 d) := by
  pointwise [k0_pay18, k0_pay17, k0_pay16]

theorem st_at (d : Fin 128) : k0_pay19 (k0_pay16 (View.ld x1 r0_23) (View.ld x13 r0_24)) (View.ld x13 r0_26) (ix2 r d)
    = Ideal.sin (FloatOps.sitofp (F := Ideal) FTy.f32 (x1 (ix3 0 r 0)) * x13 (ix2 0 d)) * x13 (ix2 2 d) := by
  pointwise [k0_pay19, k0_pay16]

end

end Cert.In

end
-- ==== Proof.InBlock.lean ====
/- The six blocks a grid point of the input projection stores, each read at an index. -/
module

public import proofs.«01_k».proof.Proof.InPoint

@[expose] public section

set_option maxRecDepth 16384
set_option maxHeartbeats 1000000

noncomputable section

namespace Cert.In

open Cert.Kernel3Ideal Cert.Kernel3Ideal.Gen Idealize.ShloMosaic Idealize.ShloMosaic.TcCoe Cert.Norm

section

variable (P : FVec Ideal S512x2432 .f32) (Q : FVec Ideal S512x2048 .f32) (N : FVec Ideal S512x1024 .f32) (L : FVec Ideal S512x256 .bf16) (ct st : FVec Ideal S512x128 .f32)
variable (g : Vec Ideal S1x256 .f32) (sg : Vec Ideal S1x128 .f32) (w : Vec Ideal S8x128x256 .bf16)

/-- The block of queries. -/
def qBlock (i : S1x8x512x256.Idx) : EReal :=
  if h : (i 3).val < 128 then qLo Q g (i 1) (i 2) ⟨(i 3).val, h⟩ else qHi Q ct st g (i 1) (i 2) ⟨(i 3).val - 128, by have h3 : (i 3).val < 256 := (i 3).isLt; omega⟩

/-- The block of keys. -/
def kBlock (i : S1x8x512x256.Idx) : EReal :=
  if h : (i 3).val < 128 then kLo P N g (i 1) (i 2) ⟨(i 3).val, h⟩ else kHi P N ct st g (i 1) (i 2) ⟨(i 3).val - 128, by have h3 : (i 3).val < 256 := (i 3).isLt; omega⟩

/-- The block of values. -/
def vBlock (i : S1x8x1x128x512.Idx) : EReal := vAt L w (i 1) (i 3) (i 4)

/-- The block of the window attention's queries. -/
def qsBlock (i : S1x512x1024.Idx) : EReal :=
  qsAt P sg ⟨(i 2).val / 128, by have h2 : (i 2).val < 1024 := (i 2).isLt; omega⟩ (i 1) ⟨(i 2).val % 128, by omega⟩

/-- The block of the window attention's keys. -/
def ksBlock (i : S1x512x256.Idx) : EReal :=
  ksAt P sg ⟨(i 2).val / 128, by have h2 : (i 2).val < 256 := (i 2).isLt; omega⟩ (i 1) ⟨(i 2).val % 128, by omega⟩

theorem qBlock_lo (i : S1x8x512x256.Idx) (h : Fin 8) (r : Fin 512) (d : Fin 128) (h1 : (i 1).val = h.val) (h2 : (i 2).val = r.val) (h3 : (i 3).val = d.val) :
    qBlock Q ct st g i = qLo Q g h r d := by
  obtain rfl : i 1 = h := Fin.ext h1
  obtain rfl : i 2 = r := Fin.ext h2
  unfold qBlock
  rw [dif_pos (by omega)]
  exact congrArg _ (Fin.ext h3)

theorem qBlock_hi (i : S1x8x512x256.Idx) (h : Fin 8) (r : Fin 512) (d : Fin 128) (h1 : (i 1).val = h.val) (h2 : (i 2).val = r.val) (h3 : (i 3).val = 128 + d.val) :
    qBlock Q ct st g i = qHi Q ct st g h r d := by
  obtain rfl : i 1 = h := Fin.ext h1
  obtain rfl : i 2 = r := Fin.ext h2
  unfold qBlock
  rw [dif_neg (by omega)]
  exact congrArg _ (Fin.ext (by dsimp only; omega))

theorem kBlock_lo (i : S1x8x512x256.Idx) (h : Fin 8) (r : Fin 512) (d : Fin 128) (h1 : (i 1).val = h.val) (h2 : (i 2).val = r.val) (h3 : (i 3).val = d.val) :
    kBlock P N ct st g i = kLo P N g h r d := by
  obtain rfl : i 1 = h := Fin.ext h1
  obtain rfl : i 2 = r := Fin.ext h2
  unfold kBlock
  rw [dif_pos (by omega)]
  exact congrArg _ (Fin.ext h3)

theorem kBlock_hi (i : S1x8x512x256.Idx) (h : Fin 8) (r : Fin 512) (d : Fin 128) (h1 : (i 1).val = h.val) (h2 : (i 2).val = r.val) (h3 : (i 3).val = 128 + d.val) :
    kBlock P N ct st g i = kHi P N ct st g h r d := by
  obtain rfl : i 1 = h := Fin.ext h1
  obtain rfl : i 2 = r := Fin.ext h2
  unfold kBlock
  rw [dif_neg (by omega)]
  exact congrArg _ (Fin.ext (by dsimp only; omega))

theorem vBlock_at (i : S1x8x1x128x512.Idx) (h : Fin 8) (d : Fin 128) (r : Fin 512) (h1 : (i 1).val = h.val) (h3 : (i 3).val = d.val) (h4 : (i 4).val = r.val) :
    vBlock L w i = vAt L w h d r := by
  obtain rfl : i 1 = h := Fin.ext h1
  obtain rfl : i 3 = d := Fin.ext h3
  obtain rfl : i 4 = r := Fin.ext h4
  rfl

theorem qsBlock_at (i : S1x512x1024.Idx) (p : Fin 8) (r : Fin 512) (d : Fin 128) (h1 : (i 1).val = r.val) (h2 : (i 2).val = 128 * p.val + d.val) :
    qsBlock P sg i = qsAt P sg p r d := by
  obtain rfl : i 1 = r := Fin.ext h1
  unfold qsBlock
  exact congrArg₂ (fun p d => qsAt P sg p (i 1) d) (Fin.ext (by dsimp only; omega)) (Fin.ext (by dsimp only; omega))

theorem ksBlock_at (i : S1x512x256.Idx) (p : Fin 2) (r : Fin 512) (d : Fin 128) (h1 : (i 1).val = r.val) (h2 : (i 2).val = 128 * p.val + d.val) :
    ksBlock P sg i = ksAt P sg p r d := by
  obtain rfl : i 1 = r := Fin.ext h1
  unfold ksBlock
  exact congrArg₂ (fun p d => ksAt P sg p (i 1) d) (Fin.ext (by dsimp only; omega)) (Fin.ext (by dsimp only; omega))

end

section

variable (x0 : Vec Ideal S1x512x2048 .f32) (x1 : Vec Ideal S1x512x1 .i32) (x2 : Vec Ideal S1x2048 .f32) (x3 : Vec Ideal S2048x2432 .bf16) (x4 : Vec Ideal S1x512 .f32) (x5 : Vec Ideal S512x2048 .bf16) (x6 : Vec Ideal S1x256 .f32) (x7 : Vec Ideal S256x1024 .bf16) (x8 : Vec Ideal S8x128x256 .bf16) (x9 : Vec Ideal S1x256 .f32) (x10 : Vec Ideal S1x256 .f32) (x11 : Vec Ideal S1x128 .f32) (x12 : Vec Ideal S1x128 .f32) (x13 : Vec Ideal S8x128 .f32)

/-- The stored queries. -/
theorem qBlock_eq (y : S1x8x512x256.Idx) : out0_14 (F := Ideal) x0 x1 x2 x3 x4 x5 x6 x7 x8 x9 x10 x11 x12 x13 y = qBlock (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 y := by
  refine View.canon_apply_of_pieces (Val := Elt Ideal) (e := .bf16) (qBlock (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9) _ ?_ y (cover0_14 _ _ _ _ _ _ _ _ _ _ _ _ _ _ _ _ y)
  intro pc hpc
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_7 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨7, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_7 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨7, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_6 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨6, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_6 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨6, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_5 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨5, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_5 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨5, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_4 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨4, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_4 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨4, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_3 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨3, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_3 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨3, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_2 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨2, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_2 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨2, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_1 (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨1, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_1 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨1, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qHi_0 (k0_pay122 (F := Ideal) x0 x1 x2 x3 x4 x5 x6 x7 x8 x9 x10 x11 x12 x13) (k0_pay125 (F := Ideal) x0 x1 x2 x3 x4 x5 x6 x7 x8 x9 x10 x11 x12 x13) (k0_pay126 (F := Ideal) x0 x1 x2 x3 x4 x5 x6 x7 x8 x9 x10 x11 x12 x13) x9 x13 r d).trans (qBlock_hi (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨0, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (qLo_0 (k0_pay122 (F := Ideal) x0 x1 x2 x3 x4 x5 x6 x7 x8 x9 x10 x11 x12 x13) x9 r d).trans (qBlock_lo (k0_pay122 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x9 _ ⟨0, by omega⟩ r d rfl (by show 0 + 1 * r.val = r.val; omega) (by show 0 + 1 * d.val = d.val; omega)).symm
  exact nomatch hpc

/-- The stored keys. -/
theorem kBlock_eq (y : S1x8x512x256.Idx) : out0_15 (F := Ideal) x0 x1 x2 x3 x4 x5 x6 x7 x8 x9 x10 x11 x12 x13 y = kBlock (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 y := by
  refine View.canon_apply_of_pieces (Val := Elt Ideal) (e := .bf16) (kBlock (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10) _ ?_ y (cover0_15 _ _ _ _ _ _ _ _ _ _ _ _ _ _ _ _ y)
  intro pc hpc
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_7 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨7, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_7 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨7, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_6 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨6, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_6 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨6, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_5 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨5, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_5 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨5, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_4 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨4, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_4 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨4, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_3 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨3, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_3 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨3, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_2 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨2, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_2 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨2, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_1 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨1, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_1 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨1, by omega⟩ r d rfl (by show 0 + 1 * r.val = r.val; omega) (by show 0 + 1 * d.val = d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kHi_0 (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 r d).trans (kBlock_hi (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨0, by omega⟩ r d rfl (by show 0 + 1 * r.val = r.val; omega) (by show 128 + 1 * d.val = 128 + d.val; omega)).symm
  rcases List.mem_cons.mp hpc with rfl | hpc
  · intro x
    obtain ⟨a, b, r, d, rfl⟩ : ∃ (a b : Fin 1) (r : Fin 512) (d : Fin 128), x = ix4 a b r d := ⟨_, _, _, _, eq_ix4 x⟩
    obtain rfl : a = 0 := Subsingleton.elim _ _
    obtain rfl : b = 0 := Subsingleton.elim _ _
    exact (kLo_0 (k0_pay121 (F := Ideal) x0 x1 x2 x3 x4 x5 x6 x7 x8 x9 x10 x11 x12 x13) (k0_pay124 (F := Ideal) x0 x1 x2 x3 x4 x5 x6 x7 x8 x9 x10 x11 x12 x13) x10 r d).trans (kBlock_lo (k0_pay121 (F := Ideal) x0 x1 x2 x3 x4 x5 x6 x7 x8 x9 x10 x11 x12 x13) (k0_pay124 (F := Ideal) x0 x1 x2 x3 x4 x5 x6 x7 x8 x9 x10 x11 x12 x13) (k0_pay127 (F := Ideal) x0 x1 x2 x3 x4 x5 x6 x7 x8 x9 x10 x11 x12 x13) (k0_pay128 (F := Ideal) x0 x1 x2 x3 x4 x5 x6 x7 x8 x9 x10 x11 x12 x13) x10 _ ⟨0, by omega⟩ r d rfl (by show 0 + 1 * r.val = r.val; omega) (by show 0 + 1 * d.val = d.val; omega)).symm
  exact nomatch hpc

/-- The stored values. -/
theorem vBlock_eq (y : S1x8x1x128x512.Idx) : out0_16 (F := Ideal) x0 x1 x2 x3 x4 x5 x6 x7 x8 x9 x10 x11 x12 x13 y = vBlock (k0_pay123 (F := Ideal) x0 x1 x2 x3 x4 x5 x6 x7 x8 x9 x10 x11 x12 x13) x8 y := by
  refine View.canon_apply_of_pieces (Val := Elt Ideal) (e := .bf16) (vBlock (k0_pay123 (F := Ideal) x0 x1 x2 x3 x4 x5 x6 x7 x8 x9 x10 x11 x12 x13) x8) _ ?_ y (cover0_16 _ _ _ _ _ _ _ _ y)
  intro pc hpc
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_7 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨7, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_6 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨6, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_5 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨5, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_4 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨4, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_3 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨3, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_2 (k0_pay123 (F := Ideal) x0 x1 x2 x3 x4 x5 x6 x7 x8 x9 x10 x11 x12 x13) x8 r d).trans (vBlock_at (k0_pay123 (F := Ideal) x0 x1 x2 x3 x4 x5 x6 x7 x8 x9 x10 x11 x12 x13) x8 _ ⟨2, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_1 (k0_pay121 (F := Ideal) x0 x1 x2 x3 x4 x5 x6 x7 x8 x9 x10 x11 x12 x13) x6 x8 r d).trans (vBlock_at (k0_pay123 (F := Ideal) x0 x1 x2 x3 x4 x5 x6 x7 x8 x9 x10 x11 x12 x13) x8 _ ⟨1, by omega⟩ d r rfl (by show 0 + 1 * d.val = d.val; omega) (by show 0 + 1 * r.val = r.val; omega)).symm
  rcases List.mem_cons.mp hpc with rfl | hpc
  · intro x
    obtain ⟨a, b, e, d, r, rfl⟩ : ∃ (a b e : Fin 1) (d : Fin 128) (r : Fin 512), x = ix5 a b e d r := ⟨_, _, _, _, _, eq_ix5 x⟩
    obtain rfl : a = 0 := Subsingleton.elim _ _
    obtain rfl : b = 0 := Subsingleton.elim _ _
    obtain rfl : e = 0 := Subsingleton.elim _ _
    exact (v_0 (k0_pay121 (F := Ideal) x0 x1 x2 x3 x4 x5 x6 x7 x8 x9 x10 x11 x12 x13) x6 x8 r d).trans (vBlock_at (k0_pay123 (F := Ideal) x0 x1 x2 x3 x4 x5 x6 x7 x8 x9 x10 x11 x12 x13) x8 _ ⟨0, by omega⟩ d r rfl (by show 0 + 1 * d.val = d.val; omega) (by show 0 + 1 * r.val = r.val; omega)).symm
  exact nomatch hpc

/-- The stored window attention's queries. -/
theorem qsBlock_eq (y : S1x512x1024.Idx) : out0_17 (F := Ideal) x0 x1 x2 x3 x4 x5 x6 x7 x8 x9 x10 x11 x12 x13 y = qsBlock (k0_pay121 (F := Ideal) x0 x1 x2 x3 x4 x5 x6 x7 x8 x9 x10 x11 x12 x13) x11 y := by
  refine View.canon_apply_of_pieces (Val := Elt Ideal) (e := .bf16) (qsBlock (k0_pay121 (F := Ideal) x0 x1 x2 x3 x4 x5 x6 x7 x8 x9 x10 x11 x12 x13) x11) _ ?_ y (cover0_17 _ _ _ _ _ _ _ _ y)
  intro pc hpc
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_7 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨7, by omega⟩ r d (by show 0 + 1 * r.val = r.val; omega) (by show 896 + 1 * d.val = 128 * 7 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_6 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨6, by omega⟩ r d (by show 0 + 1 * r.val = r.val; omega) (by show 768 + 1 * d.val = 128 * 6 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_5 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨5, by omega⟩ r d (by show 0 + 1 * r.val = r.val; omega) (by show 640 + 1 * d.val = 128 * 5 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_4 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨4, by omega⟩ r d (by show 0 + 1 * r.val = r.val; omega) (by show 512 + 1 * d.val = 128 * 4 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_3 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨3, by omega⟩ r d (by show 0 + 1 * r.val = r.val; omega) (by show 384 + 1 * d.val = 128 * 3 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_2 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨2, by omega⟩ r d (by show 0 + 1 * r.val = r.val; omega) (by show 256 + 1 * d.val = 128 * 2 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_1 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨1, by omega⟩ r d (by show 0 + 1 * r.val = r.val; omega) (by show 128 + 1 * d.val = 128 * 1 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (qs_0 (k0_pay121 (F := Ideal) x0 x1 x2 x3 x4 x5 x6 x7 x8 x9 x10 x11 x12 x13) x11 r d).trans (qsBlock_at (k0_pay121 (F := Ideal) x0 x1 x2 x3 x4 x5 x6 x7 x8 x9 x10 x11 x12 x13) x11 _ ⟨0, by omega⟩ r d (by show 0 + 1 * r.val = r.val; omega) (by show 0 + 1 * d.val = 128 * 0 + d.val; omega)).symm
  exact nomatch hpc

/-- The stored window attention's keys. -/
theorem ksBlock_eq (y : S1x512x256.Idx) : out0_18 (F := Ideal) x0 x1 x2 x3 x4 x5 x6 x7 x8 x9 x10 x11 x12 x13 y = ksBlock (k0_pay121 (F := Ideal) x0 x1 x2 x3 x4 x5 x6 x7 x8 x9 x10 x11 x12 x13) x12 y := by
  refine View.canon_apply_of_pieces (Val := Elt Ideal) (e := .bf16) (ksBlock (k0_pay121 (F := Ideal) x0 x1 x2 x3 x4 x5 x6 x7 x8 x9 x10 x11 x12 x13) x12) _ ?_ y (cover0_18 _ _ y)
  intro pc hpc
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (ks_1 (k0_pay121 (F := Ideal) x0 x1 x2 x3 x4 x5 x6 x7 x8 x9 x10 x11 x12 x13) x12 r d).trans (ksBlock_at (k0_pay121 (F := Ideal) x0 x1 x2 x3 x4 x5 x6 x7 x8 x9 x10 x11 x12 x13) x12 _ ⟨1, by omega⟩ r d (by show 0 + 1 * r.val = r.val; omega) (by show 128 + 1 * d.val = 128 * 1 + d.val; omega)).symm
  rcases List.mem_cons.mp hpc with rfl | hpc
  · intro x
    obtain ⟨a, r, d, rfl⟩ : ∃ (a : Fin 1) (r : Fin 512) (d : Fin 128), x = ix3 a r d := ⟨_, _, _, eq_ix3 x⟩
    obtain rfl : a = 0 := Subsingleton.elim _ _
    exact (ks_0 (k0_pay121 (F := Ideal) x0 x1 x2 x3 x4 x5 x6 x7 x8 x9 x10 x11 x12 x13) x12 r d).trans (ksBlock_at (k0_pay121 (F := Ideal) x0 x1 x2 x3 x4 x5 x6 x7 x8 x9 x10 x11 x12 x13) x12 _ ⟨0, by omega⟩ r d (by show 0 + 1 * r.val = r.val; omega) (by show 0 + 1 * d.val = 128 * 0 + d.val; omega)).symm
  exact nomatch hpc

/-- The stored window attention's values. -/
theorem vsBlock_eq (r : Fin 512) (e : Fin 256) : out0_19 (F := Ideal) x0 x1 x2 x3 x4 x5 x6 x7 x8 x9 x10 x11 x12 x13 (ix3 0 r e) = (k0_pay121 (F := Ideal) x0 x1 x2 x3 x4 x5 x6 x7 x8 x9 x10 x11 x12 x13) (ix2 r ⟨2176 + e.val, by omega⟩) := by
  rw [show out0_19 (F := Ideal) x0 x1 x2 x3 x4 x5 x6 x7 x8 x9 x10 x11 x12 x13 = k0_pay2 (k0_pay121 (F := Ideal) x0 x1 x2 x3 x4 x5 x6 x7 x8 x9 x10 x11 x12 x13) from View.canon_cons_unit_lit _ _ _ (fun a => by match a with | ⟨0, _⟩ => rfl | ⟨1, _⟩ => rfl | ⟨2, _⟩ => rfl)]
  exact vs_all _ r e

end

end Cert.In

end
-- ==== Proof.InRow.lean ====
/- A grid point's blocks of the input projection, row by row: each holds the token's outputs. -/
module

public import proofs.«01_k».proof.Proof.InHostAt
public import proofs.«01_k».proof.Proof.InBlock

@[expose] public section

set_option maxRecDepth 16384
set_option maxHeartbeats 1000000

noncomputable section

namespace Cert.In

open Cert.Kernel3Ideal Cert.Kernel3Ideal.Gen Idealize.ShloMosaic Idealize.ShloMosaic.TcCoe Cert.Norm

variable (T : Tok) (x0 : Vec Ideal S1x512x2048 .f32) (x1 : Vec Ideal S1x512x1 .i32) (x2 : Vec Ideal S1x2048 .f32) (x3 : Vec Ideal S2048x2432 .bf16) (x4 : Vec Ideal S1x512 .f32)
variable (x5 : Vec Ideal S512x2048 .bf16) (x6 : Vec Ideal S1x256 .f32) (x7 : Vec Ideal S256x1024 .bf16) (x8 : Vec Ideal S8x128x256 .bf16) (x9 x10 : Vec Ideal S1x256 .f32)
variable (x11 x12 : Vec Ideal S1x128 .f32) (x13 : Vec Ideal S8x128 .f32) (r : Fin 512)

/-- A row of a grid point's inputs holds a token; the weights and gains are the token's, laid out in lanes. -/
structure Row : Prop where
  x : ∀ k, x0 (ix3 0 r k) = T.x k
  pos : FloatOps.sitofp (F := Ideal) FTy.f32 (x1 (ix3 0 r 0)) = T.pos
  g1 : ∀ k, x2 (ix2 0 k) = T.g1 k
  win_lo : ∀ (k : Fin 2048) (j : Fin 832), x3 (ix2 k ⟨j.val, by omega⟩) = T.win k ⟨j.val, by omega⟩
  win_zero : ∀ (k : Fin 2048) (j : Fin 64), x3 (ix2 k ⟨832 + j.val, by omega⟩) = (0 : EReal)
  win_q : ∀ (k : Fin 2048) (j : Fin 1024), x3 (ix2 k ⟨896 + j.val, by omega⟩) = T.win k ⟨832 + j.val, by omega⟩
  win_k : ∀ (k : Fin 2048) (e : Fin 256), x3 (ix2 k ⟨1920 + e.val, by omega⟩) = T.win k ⟨1856 + (e.val / 128 * 64 + e.val % 64), by omega⟩
  win_v : ∀ (k : Fin 2048) (e : Fin 256), x3 (ix2 k ⟨2176 + e.val, by omega⟩) = T.win k ⟨1984 + (e.val / 128 * 64 + e.val % 64), by omega⟩
  qag : ∀ k, x4 (ix2 0 k) = T.qag k
  wq : ∀ (k : Fin 512) (h : Fin 8) (e : Fin 256), x5 (ix2 k ⟨256 * h.val + e.val, by omega⟩) = pad (fun d => T.wq k ⟨h.val * 192 + d.val, by omega⟩) e
  kvag : ∀ k, x6 (ix2 0 k) = T.kvag k
  keyW : ∀ (k : Fin 256) (h : Fin 8) (d : Fin 128), x7 (ix2 k ⟨128 * h.val + d.val, by omega⟩) = T.wkv k ⟨h.val * 256 + d.val, by omega⟩
  valueW : ∀ (k : Fin 256) (h : Fin 8) (d : Fin 128), x8 (ix3 h d k) = T.wkv k ⟨h.val * 256 + (128 + d.val), by omega⟩
  qg : ∀ e, x9 (ix2 0 e) = pad T.qg e
  kg : ∀ e, x10 (ix2 0 e) = pad T.kg e
  sqg : ∀ d : Fin 128, x11 (ix2 0 d) = T.sqg ⟨d.val % 64, by omega⟩
  skg : ∀ d : Fin 128, x12 (ix2 0 d) = T.skg ⟨d.val % 64, by omega⟩
  rope0 : ∀ d : Fin 128, x13 (ix2 0 d) = if h1 : d.val < 32 then freq ⟨d.val, h1⟩ else if h2 : d.val - 32 < 32 then freq ⟨d.val - 32, h2⟩ else 0
  rope1 : ∀ d : Fin 128, x13 (ix2 1 d) = if d.val < 64 then (1 : EReal) else 0
  rope2 : ∀ d : Fin 128, x13 (ix2 2 d) = if d.val < 32 then (-1 : EReal) else if d.val - 32 < 32 then 1 else 0

variable (R : Row T x0 x1 x2 x3 x4 x5 x6 x7 x8 x9 x10 x11 x12 x13 r)

include R

theorem normed_row (k : Fin 2048) : x0 (ix3 0 r k) * scaleBy (Ideal.ofBits .f32 0x3A000000#32) (fun k : Fin 2048 => x0 (ix3 0 r k)) * x2 (ix2 0 k) = T.normed k := by
  simp only [R.x, R.g1, scaleBy_2048]
  rfl

theorem P_row (j : Fin 2432) : k0_pay121 (F := Ideal) x0 x1 x2 x3 x4 x5 x6 x7 x8 x9 x10 x11 x12 x13 (ix2 r j) = ∑ k, T.normed k * x3 (ix2 k j) := by
  refine (P_at x0 x2 x3 r j).trans (Finset.sum_congr rfl fun k _ => ?_)
  rw [normed_row T x0 x1 x2 x3 x4 x5 x6 x7 x8 x9 x10 x11 x12 x13 r R]

theorem P_lo (j : Fin 832) : k0_pay121 (F := Ideal) x0 x1 x2 x3 x4 x5 x6 x7 x8 x9 x10 x11 x12 x13 (ix2 r ⟨j.val, by omega⟩) = T.proj ⟨j.val, by omega⟩ := by
  rw [P_row T x0 x1 x2 x3 x4 x5 x6 x7 x8 x9 x10 x11 x12 x13 r R]
  exact Finset.sum_congr rfl fun k _ => congrArg (T.normed k * ·) (R.win_lo k j)

theorem P_zero (j : Fin 64) : k0_pay121 (F := Ideal) x0 x1 x2 x3 x4 x5 x6 x7 x8 x9 x10 x11 x12 x13 (ix2 r ⟨832 + j.val, by omega⟩) = (0 : EReal) := by
  rw [P_row T x0 x1 x2 x3 x4 x5 x6 x7 x8 x9 x10 x11 x12 x13 r R]
  exact Finset.sum_eq_zero fun k _ => (congrArg (T.normed k * ·) (R.win_zero k j)).trans (mul_zero _)

theorem P_q (j : Fin 1024) : k0_pay121 (F := Ideal) x0 x1 x2 x3 x4 x5 x6 x7 x8 x9 x10 x11 x12 x13 (ix2 r ⟨896 + j.val, by omega⟩) = T.proj ⟨832 + j.val, by omega⟩ := by
  rw [P_row T x0 x1 x2 x3 x4 x5 x6 x7 x8 x9 x10 x11 x12 x13 r R]
  exact Finset.sum_congr rfl fun k _ => congrArg (T.normed k * ·) (R.win_q k j)

theorem P_k (e : Fin 256) : k0_pay121 (F := Ideal) x0 x1 x2 x3 x4 x5 x6 x7 x8 x9 x10 x11 x12 x13 (ix2 r ⟨1920 + e.val, by omega⟩) = T.proj ⟨1856 + (e.val / 128 * 64 + e.val % 64), by omega⟩ := by
  rw [P_row T x0 x1 x2 x3 x4 x5 x6 x7 x8 x9 x10 x11 x12 x13 r R]
  exact Finset.sum_congr rfl fun k _ => congrArg (T.normed k * ·) (R.win_k k e)

theorem P_v (e : Fin 256) : k0_pay121 (F := Ideal) x0 x1 x2 x3 x4 x5 x6 x7 x8 x9 x10 x11 x12 x13 (ix2 r ⟨2176 + e.val, by omega⟩) = T.proj ⟨1984 + (e.val / 128 * 64 + e.val % 64), by omega⟩ := by
  rw [P_row T x0 x1 x2 x3 x4 x5 x6 x7 x8 x9 x10 x11 x12 x13 r R]
  exact Finset.sum_congr rfl fun k _ => congrArg (T.normed k * ·) (R.win_v k e)

theorem P_pe (d : Fin 64) : k0_pay121 (F := Ideal) x0 x1 x2 x3 x4 x5 x6 x7 x8 x9 x10 x11 x12 x13 (ix2 r ⟨768 + d.val, by omega⟩) = T.proj ⟨768 + d.val, by omega⟩ :=
  P_lo T x0 x1 x2 x3 x4 x5 x6 x7 x8 x9 x10 x11 x12 x13 r R ⟨768 + d.val, by omega⟩

theorem qLat_row (k : Fin 512) : k0_pay121 (F := Ideal) x0 x1 x2 x3 x4 x5 x6 x7 x8 x9 x10 x11 x12 x13 (ix2 r ⟨k.val, by omega⟩) = T.qLat k := P_lo T x0 x1 x2 x3 x4 x5 x6 x7 x8 x9 x10 x11 x12 x13 r R ⟨k.val, by omega⟩

theorem kvLat_row (k : Fin 256) : k0_pay121 (F := Ideal) x0 x1 x2 x3 x4 x5 x6 x7 x8 x9 x10 x11 x12 x13 (ix2 r ⟨512 + k.val, by omega⟩) = T.kvLat k := P_lo T x0 x1 x2 x3 x4 x5 x6 x7 x8 x9 x10 x11 x12 x13 r R ⟨512 + k.val, by omega⟩

theorem Q_row (h : Fin 8) (e : Fin 256) : k0_pay122 (F := Ideal) x0 x1 x2 x3 x4 x5 x6 x7 x8 x9 x10 x11 x12 x13 (ix2 r ⟨256 * h.val + e.val, by omega⟩) = pad (T.q h) e := by
  refine (Q_at x4 x5 r ⟨256 * h.val + e.val, by omega⟩ _ _ _).trans ?_
  have hl : ∀ k : Fin 512, k0_pay3 (View.ld x0 r0_0) (View.ld x2 r0_1) (View.ld x3 r0_2) (ix2 r ⟨k.val, by omega⟩) = T.qLat k := fun k => qLat_row T x0 x1 x2 x3 x4 x5 x6 x7 x8 x9 x10 x11 x12 x13 r R k
  simp only [hl, R.qag, R.wq, scaleBy_512]
  unfold pad
  split_ifs
  · rfl
  · simp

theorem L_row (k : Fin 256) : k0_pay123 (F := Ideal) x0 x1 x2 x3 x4 x5 x6 x7 x8 x9 x10 x11 x12 x13 (ix2 r k) = T.kvLatN k := by
  refine (L_at x6 _ r k).trans ?_
  have hl : ∀ k : Fin 256, k0_pay121 (F := Ideal) x0 x1 x2 x3 x4 x5 x6 x7 x8 x9 x10 x11 x12 x13 (ix2 r ⟨512 + k.val, by omega⟩) = T.kvLat k := fun k => kvLat_row T x0 x1 x2 x3 x4 x5 x6 x7 x8 x9 x10 x11 x12 x13 r R k
  simp only [hl, R.kvag, scaleBy_256]
  rfl

theorem N_row (h : Fin 8) (d : Fin 128) : k0_pay124 (F := Ideal) x0 x1 x2 x3 x4 x5 x6 x7 x8 x9 x10 x11 x12 x13 (ix2 r ⟨128 * h.val + d.val, by omega⟩) = T.kv h ⟨d.val, by omega⟩ := by
  refine (N_at x7 _ r ⟨128 * h.val + d.val, by omega⟩ _).trans (Finset.sum_congr rfl fun k _ => ?_)
  exact congrArg₂ (· * ·) (L_row T x0 x1 x2 x3 x4 x5 x6 x7 x8 x9 x10 x11 x12 x13 r R k) (R.keyW k h d)

theorem ct_row (d : Fin 128) : k0_pay127 (F := Ideal) x0 x1 x2 x3 x4 x5 x6 x7 x8 x9 x10 x11 x12 x13 (ix2 r d) = ctV T d := by
  refine (ct_at x1 x13 r d).trans ?_
  rw [R.pos, R.rope0, R.rope1]
  unfold ctV
  by_cases h1 : d.val < 32
  · rw [dif_pos h1, dif_pos h1, if_pos (by omega), mul_one]
    rfl
  · by_cases h2 : d.val - 32 < 32
    · rw [dif_neg h1, dif_neg h1, dif_pos h2, dif_pos h2, if_pos (by omega), mul_one]
      rfl
    · rw [dif_neg h1, dif_neg h1, dif_neg h2, dif_neg h2, if_neg (by omega), mul_zero]

theorem st_row (d : Fin 128) : k0_pay128 (F := Ideal) x0 x1 x2 x3 x4 x5 x6 x7 x8 x9 x10 x11 x12 x13 (ix2 r d) = stV T d := by
  refine (st_at x1 x13 r d).trans ?_
  rw [R.pos, R.rope0, R.rope2]
  unfold stV
  by_cases h1 : d.val < 32
  · rw [dif_pos h1, dif_pos h1, if_pos h1, mul_neg, mul_one]
    rfl
  · by_cases h2 : d.val - 32 < 32
    · rw [dif_neg h1, dif_neg h1, dif_pos h2, dif_pos h2, if_neg h1, if_pos h2, mul_one]
      rfl
    · rw [dif_neg h1, dif_neg h1, dif_neg h2, dif_neg h2, if_neg h1, if_neg h2, mul_zero]

/-- The stored queries are the token's. -/
theorem q_row (h : Fin 8) (e : Fin 256) : out0_14 (F := Ideal) x0 x1 x2 x3 x4 x5 x6 x7 x8 x9 x10 x11 x12 x13 (ix4 0 h r e) = T.qOut h e := by
  rw [qBlock_eq]
  by_cases he : e.val < 128
  · rw [qBlock_lo _ _ _ _ (ix4 0 h r e) h r ⟨e.val, he⟩ rfl rfl rfl]
    exact qLo_eq T _ _ r h (Q_row T x0 x1 x2 x3 x4 x5 x6 x7 x8 x9 x10 x11 x12 x13 r R h) R.qg ⟨e.val, he⟩
  · have hd : 128 + (e.val - 128) = e.val := by omega
    rw [qBlock_hi _ _ _ _ (ix4 0 h r e) h r ⟨e.val - 128, by omega⟩ rfl rfl hd.symm]
    exact (qHi_eq T _ _ _ _ r h (Q_row T x0 x1 x2 x3 x4 x5 x6 x7 x8 x9 x10 x11 x12 x13 r R h) R.qg (ct_row T x0 x1 x2 x3 x4 x5 x6 x7 x8 x9 x10 x11 x12 x13 r R) (st_row T x0 x1 x2 x3 x4 x5 x6 x7 x8 x9 x10 x11 x12 x13 r R) ⟨e.val - 128, by omega⟩).trans (congrArg (T.qOut h) (Fin.ext hd))

/-- The stored keys are the token's. -/
theorem k_row (h : Fin 8) (e : Fin 256) : out0_15 (F := Ideal) x0 x1 x2 x3 x4 x5 x6 x7 x8 x9 x10 x11 x12 x13 (ix4 0 h r e) = T.kOut h e := by
  rw [kBlock_eq]
  by_cases he : e.val < 128
  · rw [kBlock_lo _ _ _ _ _ (ix4 0 h r e) h r ⟨e.val, he⟩ rfl rfl rfl]
    exact kLo_eq T _ _ _ r h (N_row T x0 x1 x2 x3 x4 x5 x6 x7 x8 x9 x10 x11 x12 x13 r R h) (P_pe T x0 x1 x2 x3 x4 x5 x6 x7 x8 x9 x10 x11 x12 x13 r R) (P_zero T x0 x1 x2 x3 x4 x5 x6 x7 x8 x9 x10 x11 x12 x13 r R) R.kg ⟨e.val, he⟩
  · have hd : 128 + (e.val - 128) = e.val := by omega
    rw [kBlock_hi _ _ _ _ _ (ix4 0 h r e) h r ⟨e.val - 128, by omega⟩ rfl rfl hd.symm]
    exact (kHi_eq T _ _ _ _ _ r h (N_row T x0 x1 x2 x3 x4 x5 x6 x7 x8 x9 x10 x11 x12 x13 r R h) (P_pe T x0 x1 x2 x3 x4 x5 x6 x7 x8 x9 x10 x11 x12 x13 r R) (P_zero T x0 x1 x2 x3 x4 x5 x6 x7 x8 x9 x10 x11 x12 x13 r R) R.kg (ct_row T x0 x1 x2 x3 x4 x5 x6 x7 x8 x9 x10 x11 x12 x13 r R) (st_row T x0 x1 x2 x3 x4 x5 x6 x7 x8 x9 x10 x11 x12 x13 r R) ⟨e.val - 128, by omega⟩).trans
      (congrArg (T.kOut h) (Fin.ext hd))

/-- The stored values are the token's. -/
theorem v_row (h : Fin 8) (d : Fin 128) : out0_16 (F := Ideal) x0 x1 x2 x3 x4 x5 x6 x7 x8 x9 x10 x11 x12 x13 (ix5 0 h 0 d r) = T.vOut h d := by
  rw [vBlock_eq, vBlock_at _ _ (ix5 0 h 0 d r) h d r rfl rfl rfl]
  exact vAt_eq T _ _ r h d (L_row T x0 x1 x2 x3 x4 x5 x6 x7 x8 x9 x10 x11 x12 x13 r R) (fun k => R.valueW k h d)

/-- The stored queries of the window attention are the token's. -/
theorem qs_row (h : Fin 16) (d : Fin 64) : out0_17 (F := Ideal) x0 x1 x2 x3 x4 x5 x6 x7 x8 x9 x10 x11 x12 x13 (ix3 0 r ⟨h.val * 64 + d.val, by omega⟩) = T.qsOut h d := by
  rw [qsBlock_eq]
  have hP : ∀ (d : Fin 64) (y : Fin 2432), y.val = 896 + (h.val * 64 + d.val) → k0_pay121 (F := Ideal) x0 x1 x2 x3 x4 x5 x6 x7 x8 x9 x10 x11 x12 x13 (ix2 r y) = T.sq h d := fun d y hy =>
    (congrArg (fun y => k0_pay121 (F := Ideal) x0 x1 x2 x3 x4 x5 x6 x7 x8 x9 x10 x11 x12 x13 (ix2 r y)) (Fin.ext hy)).trans (P_q T x0 x1 x2 x3 x4 x5 x6 x7 x8 x9 x10 x11 x12 x13 r R ⟨h.val * 64 + d.val, by omega⟩)
  by_cases hp : h.val % 2 = 0
  · rw [qsBlock_at _ _ (ix3 0 r ⟨h.val * 64 + d.val, by omega⟩) ⟨h.val / 2, by omega⟩ r ⟨d.val, by omega⟩ rfl (by show h.val * 64 + d.val = 128 * (h.val / 2) + d.val; omega)]
    exact qsLo_eq T _ _ r ⟨h.val / 2, by omega⟩ h (by dsimp only; omega) (fun d => hP d _ (by dsimp only; omega))
      (fun d => (R.sqg _).trans (congrArg T.sqg (Fin.ext (by dsimp only; omega)))) d
  · rw [qsBlock_at _ _ (ix3 0 r ⟨h.val * 64 + d.val, by omega⟩) ⟨h.val / 2, by omega⟩ r ⟨64 + d.val, by omega⟩ rfl (by show h.val * 64 + d.val = 128 * (h.val / 2) + (64 + d.val); omega)]
    exact qsHi_eq T _ _ r ⟨h.val / 2, by omega⟩ h (by dsimp only; omega) (fun d => hP d _ (by dsimp only; omega))
      (fun d => (R.sqg _).trans (congrArg T.sqg (Fin.ext (by dsimp only; omega)))) d

/-- The stored keys of the window attention are the token's, each twice. -/
theorem ks_row (e : Fin 256) : out0_18 (F := Ideal) x0 x1 x2 x3 x4 x5 x6 x7 x8 x9 x10 x11 x12 x13 (ix3 0 r e) = T.ksOut ⟨e.val / 128, by omega⟩ ⟨e.val % 64, by omega⟩ := by
  rw [ksBlock_eq, ksBlock_at _ _ (ix3 0 r e) ⟨e.val / 128, by omega⟩ r ⟨e.val % 128, by omega⟩ rfl (by show e.val = 128 * (e.val / 128) + e.val % 128; omega)]
  refine (ksAt_eq T _ _ r ⟨e.val / 128, by omega⟩ (fun d => ?_) R.skg ⟨e.val % 128, by omega⟩).trans (congrArg (T.ksOut _) (Fin.ext (by dsimp only; omega)))
  refine (congrArg (fun y => k0_pay121 (F := Ideal) x0 x1 x2 x3 x4 x5 x6 x7 x8 x9 x10 x11 x12 x13 (ix2 r y)) (Fin.ext (by dsimp only; omega))).trans
    ((P_k T x0 x1 x2 x3 x4 x5 x6 x7 x8 x9 x10 x11 x12 x13 r R ⟨128 * (e.val / 128) + d.val, by omega⟩).trans (congrArg T.proj (Fin.ext (by dsimp only; omega))))

/-- The stored values of the window attention are the token's, each twice. -/
theorem vs_row (e : Fin 256) : out0_19 (F := Ideal) x0 x1 x2 x3 x4 x5 x6 x7 x8 x9 x10 x11 x12 x13 (ix3 0 r e) = T.sv ⟨e.val / 128, by omega⟩ ⟨e.val % 64, by omega⟩ := by
  rw [vsBlock_eq]
  exact P_v T x0 x1 x2 x3 x4 x5 x6 x7 x8 x9 x10 x11 x12 x13 r R e

end Cert.In

end
-- ==== Proof.InRef.lean ====
/- The reference of the input projection: its six results read at an index, in a token's plain functions. -/
module

public import proofs.«01_k».proof.Proof.Gen.Reference3Ideal.Run
public import proofs.«01_k».proof.Proof.InTok

@[expose] public section

set_option maxRecDepth 16384
set_option maxHeartbeats 1000000

noncomputable section

namespace Cert.In.Ref

open Cert.Reference3Ideal Cert.Reference3Ideal.Gen Cert.Reference3Ideal.Value Idealize.ShloMosaic Idealize.ShloMosaic.TcCoe Cert.Norm

/-- A token of the arguments. -/
def tok (x : FVec Ideal S4x4096x2048 .f32) (pos : Vec Ideal S4x4096 .i32) (g1 : FVec Ideal S2048 .f32) (win : FVec Ideal S2048x2112 .f32) (qag : FVec Ideal S512 .f32)
    (wq : FVec Ideal S512x1536 .f32) (kvag : FVec Ideal S256 .f32) (wkv : FVec Ideal S256x2048 .f32) (qg kg : FVec Ideal S192 .f32) (sqg skg : FVec Ideal S64 .f32)
    (b : Fin 4) (s : Fin 4096) : Tok :=
  ⟨fun k => x (ix3 b s k), FloatOps.sitofp (F := Ideal) FTy.f32 (pos (ix2 b s)), fun k => g1 (ix1 k), fun k j => win (ix2 k j), fun k => qag (ix1 k), fun k j => wq (ix2 k j),
    fun k => kvag (ix1 k), fun k j => wkv (ix2 k j), fun d => qg (ix1 d), fun d => kg (ix1 d), fun d => sqg (ix1 d), fun d => skg (ix1 d)⟩

variable (V0 : Valuation τ sig (Elt Ideal)) (b : Fin 4) (s : Fin 4096)

/-- A token of a valuation's arguments. -/
abbrev T : Tok :=
  tok (V0 (Proc.devRef .tc main_arg0)) (V0 (Proc.devRef .tc main_arg1)) (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) b s

theorem sitofp_zero : FloatOps.sitofp (F := Ideal) FTy.f32 0#32 = (0 : EReal) := by
  show (((0#32).toInt : ℝ) : EReal) = 0
  simp

theorem proj_at (j : Fin 2112) : (res_main_v13 V0 : FVec Ideal S4x4096x2112 .f32) (ix3 b s j) = (T V0 b s).proj j := by
  pointwise [res_main_v13]
  rfl

theorem q_at (h : Fin 8) (d : Fin 192) : (res_main_v34 V0 : FVec Ideal S4x4096x8x192 .f32) (ix4 b s h d) = (T V0 b s).q h d := by
  pointwise [res_main_v34, res_main_v14]
  simp only [proj_at]
  rfl

theorem kv_at (h : Fin 8) (e : Fin 256) : (res_main_v49 V0 : FVec Ideal S4x4096x8x256 .f32) (ix4 b s h e) = (T V0 b s).kv h e := by
  pointwise [res_main_v49, res_main_v15]
  simp only [proj_at]
  rfl

theorem key_at (h : Fin 8) (d : Fin 192) : (res_main_v53 V0 : FVec Ideal S4x4096x8x192 .f32) (ix4 b s h d) = (T V0 b s).key h d := by
  pointwise [res_main_v53]
  simp only [proj_at, kv_at]
  rfl

theorem qNorm_at (h : Fin 8) (d : Fin 192) : (res_main_v67 V0 : FVec Ideal S4x4096x8x192 .f32) (ix4 b s h d) = (T V0 b s).qNorm h d := by
  pointwise [res_main_v67]
  simp only [q_at]
  rfl

theorem kNorm_at (h : Fin 8) (d : Fin 192) : (res_main_v80 V0 : FVec Ideal S4x4096x8x192 .f32) (ix4 b s h d) = (T V0 b s).kNorm h d := by
  pointwise [res_main_v80]
  simp only [key_at]
  rfl

theorem ang_at (d : Fin 32) : (res_main_v94 V0 : FVec Ideal S4x4096x1x32 .f32) (ix4 b s 0 d) = (T V0 b s).ang d := by
  pointwise [res_main_v94]
  rfl

theorem ang2_at (d : Fin 32) : (res_main_v124 V0 : FVec Ideal S4x4096x1x32 .f32) (ix4 b s 0 d) = (T V0 b s).ang d := by
  pointwise [res_main_v124]
  rfl

theorem sk_at (h : Fin 2) (d : Fin 64) : (res_main_v173 V0 : FVec Ideal S4x4096x2x64 .f32) (ix4 b s h d) = (T V0 b s).ksOut h d := by
  pointwise [res_main_v173, res_main_v160]
  simp only [proj_at]
  rfl

theorem sv_at (h : Fin 2) (d : Fin 64) : (res_main_v174 V0 : FVec Ideal S4x4096x2x64 .f32) (ix4 b s h d) = (T V0 b s).sv h d := by
  pointwise [res_main_v174]
  simp only [proj_at]
  rfl

def out0 : FVec Ideal S4x8x4096x256 .bf16 :=
  truncf .bf16 (pad S4x8x4096x256 ![0, 0, 0, 0] ![0, 0, 0, 64] ![0, 0, 0, 0] (transpose S4x8x4096x192 [0, 2, 1, 3] (mulf (concatenate S4x4096x8x192 3 [⟨S4x4096x8x128, (extractStridedSlice S4x4096x8x128 ![0, 0, 0, 0] (res_main_v67 V0) slices_S4x4096x8x192_S4x4096x8x128_0_0_0_0)⟩, ⟨S4x4096x8x64, (concatenate S4x4096x8x64 3 [⟨S4x4096x8x32, (subf (mulf (res_main_v97 V0) (broadcastInDim S4x4096x8x32 ![0, 1, 2, 3] bcast_S4x4096x1x32_S4x4096x8x32_0_1_2_3 (res_main_v95 V0))) (mulf (res_main_v98 V0) (broadcastInDim S4x4096x8x32 ![0, 1, 2, 3] bcast_S4x4096x1x32_S4x4096x8x32_0_1_2_3 (res_main_v96 V0))))⟩, ⟨S4x4096x8x32, (addf (mulf (res_main_v98 V0) (broadcastInDim S4x4096x8x32 ![0, 1, 2, 3] bcast_S4x4096x1x32_S4x4096x8x32_0_1_2_3 (res_main_v95 V0))) (mulf (res_main_v97 V0) (broadcastInDim S4x4096x8x32 ![0, 1, 2, 3] bcast_S4x4096x1x32_S4x4096x8x32_0_1_2_3 (res_main_v96 V0))))⟩] concatenates_S4x4096x8x32_S4x4096x8x32_S4x4096x8x64_d3)⟩] concatenates_S4x4096x8x128_S4x4096x8x64_S4x4096x8x192_d3) (broadcastInDim S4x4096x8x192 ![] bcast_S_S4x4096x8x192 (constant S_ .f32 0x3DD53B95#32))) transposes_S4x4096x8x192_S4x8x4096x192_0_2_1_3) (sitofp .f32 (constantI S_ 32 0#32)) pads_S4x8x4096x192_S4x8x4096x256_000_000_000_0640 h_S_) bitsLt_bf16_f32

def out1 : FVec Ideal S4x8x4096x256 .bf16 :=
  truncf .bf16 (pad S4x8x4096x256 ![0, 0, 0, 0] ![0, 0, 0, 64] ![0, 0, 0, 0] (transpose S4x8x4096x192 [0, 2, 1, 3] (concatenate S4x4096x8x192 3 [⟨S4x4096x8x128, (extractStridedSlice S4x4096x8x128 ![0, 0, 0, 0] (res_main_v80 V0) slices_S4x4096x8x192_S4x4096x8x128_0_0_0_0)⟩, ⟨S4x4096x8x64, (concatenate S4x4096x8x64 3 [⟨S4x4096x8x32, (subf (mulf (res_main_v127 V0) (broadcastInDim S4x4096x8x32 ![0, 1, 2, 3] bcast_S4x4096x1x32_S4x4096x8x32_0_1_2_3 (res_main_v125 V0))) (mulf (res_main_v128 V0) (broadcastInDim S4x4096x8x32 ![0, 1, 2, 3] bcast_S4x4096x1x32_S4x4096x8x32_0_1_2_3 (res_main_v126 V0))))⟩, ⟨S4x4096x8x32, (addf (mulf (res_main_v128 V0) (broadcastInDim S4x4096x8x32 ![0, 1, 2, 3] bcast_S4x4096x1x32_S4x4096x8x32_0_1_2_3 (res_main_v125 V0))) (mulf (res_main_v127 V0) (broadcastInDim S4x4096x8x32 ![0, 1, 2, 3] bcast_S4x4096x1x32_S4x4096x8x32_0_1_2_3 (res_main_v126 V0))))⟩] concatenates_S4x4096x8x32_S4x4096x8x32_S4x4096x8x64_d3)⟩] concatenates_S4x4096x8x128_S4x4096x8x64_S4x4096x8x192_d3) transposes_S4x4096x8x192_S4x8x4096x192_0_2_1_3) (sitofp .f32 (constantI S_ 32 0#32)) pads_S4x8x4096x192_S4x8x4096x256_000_000_000_0640 h_S_) bitsLt_bf16_f32

def out2 : FVec Ideal S4x8x8x128x512 .bf16 :=
  truncf .bf16 (transpose S4x8x8x128x512 [0, 3, 1, 4, 2] (shapeCast _ (extractStridedSlice S4x4096x8x128 ![0, 0, 0, 128] (res_main_v49 V0) slices_S4x4096x8x256_S4x4096x8x128_0_0_0_128) shapeCasts_S4x4096x8x128_S4x8x512x8x128) transposes_S4x8x512x8x128_S4x8x8x128x512_0_3_1_4_2) bitsLt_bf16_f32

def out3 : FVec Ideal S4x4096x1024 .bf16 :=
  truncf .bf16 (shapeCast _ (mulf (mulf (mulf (res_main_v144 V0) (broadcastInDim S4x4096x16x64 ![0, 1, 2, 3] bcast_S4x4096x16x1_S4x4096x16x64_0_1_2_3 (Host.rsqrt (addf (Host.divf (broadcastInDim S4x4096x16x1 ![0, 1, 2] bcast_S4x4096x16_S4x4096x16x1_0_1_2 (Host.reduceAdd (mulf (res_main_v144 V0) (res_main_v144 V0)) (constant S_ .f32 0x00000000#32) reducesTo_S4x4096x16x64_S4x4096x16_d3 h_S_)) (broadcastInDim S4x4096x16x1 ![] bcast_S_S4x4096x16x1 (constant S_ .f32 0x42800000#32))) (broadcastInDim S4x4096x16x1 ![] bcast_S_S4x4096x16x1 (constant S_ .f32 0x358637BD#32)))))) (broadcastInDim S4x4096x16x64 ![0, 1, 2, 3] bcast_S1x1x1x64_S4x4096x16x64_0_1_2_3 (broadcastInDim S1x1x1x64 ![3] bcast_S64_S1x1x1x64_3 (V0 (Proc.devRef .tc main_arg10))))) (broadcastInDim S4x4096x16x64 ![] bcast_S_S4x4096x16x64 (constant S_ .f32 0x3E000000#32))) shapeCasts_S4x4096x16x64_S4x4096x1024) bitsLt_bf16_f32

def out4 : FVec Ideal S4x4096x256 .bf16 :=
  truncf .bf16 (shapeCast _ (concatenate S4x4096x2x128 3 [⟨S4x4096x2x64, (res_main_v173 V0)⟩, ⟨S4x4096x2x64, (res_main_v173 V0)⟩] concatenates_S4x4096x2x64_S4x4096x2x64_S4x4096x2x128_d3) shapeCasts_S4x4096x2x128_S4x4096x256) bitsLt_bf16_f32

def out5 : FVec Ideal S4x4096x256 .bf16 :=
  truncf .bf16 (shapeCast _ (concatenate S4x4096x2x128 3 [⟨S4x4096x2x64, (res_main_v174 V0)⟩, ⟨S4x4096x2x64, (res_main_v174 V0)⟩] concatenates_S4x4096x2x64_S4x4096x2x64_S4x4096x2x128_d3) shapeCasts_S4x4096x2x128_S4x4096x256) bitsLt_bf16_f32

theorem out0_at (h : Fin 8) (e : Fin 256) : out0 V0 (ix4 b h s e) = (T V0 b s).qOut h e := by
  pointwise [out0, res_main_v97, res_main_v98, res_main_v95, res_main_v96, res_main_v82]
  simp only [qNorm_at, ang_at, sitofp_zero]
  rfl

theorem out1_at (h : Fin 8) (e : Fin 256) : out1 V0 (ix4 b h s e) = (T V0 b s).kOut h e := by
  pointwise [out1, res_main_v127, res_main_v128, res_main_v125, res_main_v126, res_main_v112]
  simp only [kNorm_at, ang2_at, sitofp_zero]
  rfl

theorem out2_at (h k : Fin 8) (d : Fin 128) (r : Fin 512) : out2 V0 (ix5 b h k d r) = (T V0 b ⟨k.val * 512 + r.val, by omega⟩).vOut h d := by
  pointwise [out2]
  simp only [kv_at]
  rfl

theorem out3_at (j : Fin 1024) : out3 V0 (ix3 b s j) = (T V0 b s).qsOut ⟨j.val / 64, by omega⟩ ⟨j.val % 64, by omega⟩ := by
  pointwise [out3, res_main_v144]
  simp only [proj_at]
  have he : (⟨832 + j.val, by omega⟩ : Fin 2112) = ⟨832 + (j.val / 64 * 64 + j.val % 64), by omega⟩ := Fin.ext (by dsimp only; omega)
  rw [he]
  rfl

theorem out4_at (e : Fin 256) : out4 V0 (ix3 b s e) = (T V0 b s).ksOut ⟨e.val / 128, by omega⟩ ⟨e.val % 64, by omega⟩ := by
  pointwise [out4]
  simp only [sk_at]
  by_cases hlt : e.val % 128 < 64
  · exact (dif_pos hlt).trans (congrArg _ (Fin.ext (by dsimp only; omega)))
  · exact (dif_neg hlt).trans (congrArg _ (Fin.ext (by dsimp only; omega)))

theorem out5_at (e : Fin 256) : out5 V0 (ix3 b s e) = (T V0 b s).sv ⟨e.val / 128, by omega⟩ ⟨e.val % 64, by omega⟩ := by
  pointwise [out5]
  simp only [sv_at]
  by_cases hlt : e.val % 128 < 64
  · exact (dif_pos hlt).trans (congrArg _ (Fin.ext (by dsimp only; omega)))
  · exact (dif_neg hlt).trans (congrArg _ (Fin.ext (by dsimp only; omega)))

end Cert.In.Ref

end
-- ==== Proof.InArray.lean ====
/- The arrays of the input projection after the run, and their equality with the reference's six results. -/
module

public import proofs.«01_k».proof.Proof.InRow
public import proofs.«01_k».proof.Proof.InRef

@[expose] public section

set_option maxRecDepth 16384
set_option maxHeartbeats 1000000

noncomputable section

namespace Cert.In

open Cert.Kernel3Ideal Cert.Kernel3Ideal.Gen Idealize.ShloMosaic Idealize.ShloMosaic.TcCoe Cert.Norm

/-- Which block each window takes at a grid point. -/
theorem idx0 : ∀ t : Fin cfg0.N, win0_0.index t (0 : Fin 3) = (grid0.coords t 0).val ∧ win0_0.index t (1 : Fin 3) = (grid0.coords t 1).val ∧ win0_0.index t (2 : Fin 3) = 0 :=
  (by decide +kernel : ∀ t : Fin grid0.N, _)

theorem idx1 : ∀ t : Fin cfg0.N, win0_1.index t (0 : Fin 3) = (grid0.coords t 0).val ∧ win0_1.index t (1 : Fin 3) = (grid0.coords t 1).val ∧ win0_1.index t (2 : Fin 3) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 4) = (grid0.coords t 0).val ∧ win0_14.index t (1 : Fin 4) = 0 ∧ win0_14.index t (2 : Fin 4) = (grid0.coords t 1).val ∧ win0_14.index t (3 : Fin 4) = 0 :=
  (by decide +kernel : ∀ t : Fin grid0.N, _)

theorem idx15 : ∀ t : Fin cfg0.N, win0_15.index t (0 : Fin 4) = (grid0.coords t 0).val ∧ win0_15.index t (1 : Fin 4) = 0 ∧ win0_15.index t (2 : Fin 4) = (grid0.coords t 1).val ∧ win0_15.index t (3 : Fin 4) = 0 :=
  (by decide +kernel : ∀ t : Fin grid0.N, _)

theorem idx16 : ∀ t : Fin cfg0.N, win0_16.index t (0 : Fin 5) = (grid0.coords t 0).val ∧ win0_16.index t (1 : Fin 5) = 0 ∧ win0_16.index t (2 : Fin 5) = (grid0.coords t 1).val ∧ win0_16.index t (3 : Fin 5) = 0 ∧ win0_16.index t (4 : Fin 5) = 0 :=
  (by decide +kernel : ∀ t : Fin grid0.N, _)

theorem idx17 : ∀ t : Fin cfg0.N, win0_17.index t (0 : Fin 3) = (grid0.coords t 0).val ∧ win0_17.index t (1 : Fin 3) = (grid0.coords t 1).val ∧ win0_17.index t (2 : Fin 3) = 0 :=
  (by decide +kernel : ∀ t : Fin grid0.N, _)

theorem idx18 : ∀ t : Fin cfg0.N, win0_18.index t (0 : Fin 3) = (grid0.coords t 0).val ∧ win0_18.index t (1 : Fin 3) = (grid0.coords t 1).val ∧ win0_18.index t (2 : Fin 3) = 0 :=
  (by decide +kernel : ∀ t : Fin grid0.N, _)

theorem idx19 : ∀ t : Fin cfg0.N, win0_19.index t (0 : Fin 3) = (grid0.coords t 0).val ∧ win0_19.index t (1 : Fin 3) = (grid0.coords t 1).val ∧ win0_19.index t (2 : Fin 3) = 0 :=
  (by decide +kernel : ∀ t : Fin grid0.N, _)

theorem flushes : ∀ t : Fin cfg0.N, (cfg0.win 14).flush t = true ∧ (cfg0.win 15).flush t = true ∧ (cfg0.win 16).flush t = true ∧ (cfg0.win 17).flush t = true
    ∧ (cfg0.win 18).flush t = true ∧ (cfg0.win 19).flush t = true :=
  (by decide +kernel : ∀ t : Fin grid0.N, _)

/-- Every block of a sequence's tokens is a grid point. -/
theorem point_exists : ∀ (i : Fin 4) (j : Fin 8), ∃ t : Fin cfg0.N, (grid0.coords t 0).val = i.val ∧ (grid0.coords t 1).val = j.val :=
  (by decide +kernel : ∀ (i : Fin 4) (j : Fin 8), ∃ t : Fin grid0.N, (grid0.coords t 0).val = i.val ∧ (grid0.coords t 1).val = j.val)

variable (m : (ℓ : Loc nD τ sig) → Buf (Elt Ideal) ℓ) (c : Dev nD)

/-- A token of the launch's arguments. -/
abbrev tokenOf (b : Fin 4) (s : Fin 4096) : Tok :=
  Ref.tok (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) b s

variable (t : Fin cfg0.N)

theorem blk0 (r : Fin 512) (j : Fin 2048) (b : Fin 4) (s : Fin 4096) (hb : b.val = (grid0.coords t 0).val) (hs : s.val = 512 * (grid0.coords t 1).val + r.val) :
    iblk m c 0 t (ix3 0 r j) = V m c main_arg0 (ix3 b s j) := by
  obtain ⟨e0, e1, e2⟩ := idx0 t
  refine congrArg (V m c main_arg0) (show ((cfg0.win 0).blk t).view.emb (ix3 0 r j) = (ix3 b s j : S4x4096x2048.Idx) from ?_)
  funext a; apply Fin.ext
  match a with
  | ⟨0, _⟩ => show win0_0.index t (0 : Fin 3) * 1 + 1 * 0 = b.val; omega
  | ⟨1, _⟩ => show win0_0.index t (1 : Fin 3) * 512 + 1 * r.val = s.val; omega
  | ⟨2, _⟩ => show win0_0.index t (2 : Fin 3) * 2048 + 1 * j.val = j.val; omega

theorem blk1 (r : Fin 512) (j : Fin 1) (b : Fin 4) (s : Fin 4096) (hb : b.val = (grid0.coords t 0).val) (hs : s.val = 512 * (grid0.coords t 1).val + r.val) :
    iblk m c 1 t (ix3 0 r j) = V m c main_v28 (ix3 b s j) := by
  obtain ⟨e0, e1, e2⟩ := idx1 t
  refine congrArg (V m c main_v28) (show ((cfg0.win 1).blk t).view.emb (ix3 0 r j) = (ix3 b s j : S4x4096x1.Idx) from ?_)
  funext a; apply Fin.ext
  match a with
  | ⟨0, _⟩ => show win0_1.index t (0 : Fin 3) * 1 + 1 * 0 = b.val; omega
  | ⟨1, _⟩ => show win0_1.index t (1 : Fin 3) * 512 + 1 * r.val = s.val; omega
  | ⟨2, _⟩ => show win0_1.index t (2 : Fin 3) * 1 + 1 * j.val = j.val; omega

theorem blk2 (i : Fin 1) (j : Fin 2048) : iblk m c 2 t (ix2 i j) = V m c main_v29 (ix2 i j) := by
  obtain ⟨e0, e1⟩ := idx2 t
  refine congrArg (V m c main_v29) (show ((cfg0.win 2).blk t).view.emb (ix2 i j) = (ix2 i j : S1x2048.Idx) from ?_)
  funext a; apply Fin.ext
  match a with
  | ⟨0, _⟩ => show win0_2.index t (0 : Fin 2) * 1 + 1 * i.val = i.val; omega
  | ⟨1, _⟩ => show win0_2.index t (1 : Fin 2) * 2048 + 1 * j.val = j.val; omega

theorem blk3 (i : Fin 2048) (j : Fin 2432) : iblk m c 3 t (ix2 i j) = V m c main_v16 (ix2 i j) := by
  obtain ⟨e0, e1⟩ := idx3 t
  refine congrArg (V m c main_v16) (show ((cfg0.win 3).blk t).view.emb (ix2 i j) = (ix2 i j : S2048x2432.Idx) from ?_)
  funext a; apply Fin.ext
  match a with
  | ⟨0, _⟩ => show win0_3.index t (0 : Fin 2) * 2048 + 1 * i.val = i.val; omega
  | ⟨1, _⟩ => show win0_3.index t (1 : Fin 2) * 2432 + 1 * j.val = j.val; omega

theorem blk4 (i : Fin 1) (j : Fin 512) : iblk m c 4 t (ix2 i j) = V m c main_v30 (ix2 i j) := by
  obtain ⟨e0, e1⟩ := idx4 t
  refine congrArg (V m c main_v30) (show ((cfg0.win 4).blk t).view.emb (ix2 i j) = (ix2 i j : S1x512.Idx) from ?_)
  funext a; apply Fin.ext
  match a with
  | ⟨0, _⟩ => show win0_4.index t (0 : Fin 2) * 1 + 1 * i.val = i.val; omega
  | ⟨1, _⟩ => show win0_4.index t (1 : Fin 2) * 512 + 1 * j.val = j.val; omega

theorem blk5 (i : Fin 512) (j : Fin 2048) : iblk m c 5 t (ix2 i j) = V m c main_v20 (ix2 i j) := by
  obtain ⟨e0, e1⟩ := idx5 t
  refine congrArg (V m c main_v20) (show ((cfg0.win 5).blk t).view.emb (ix2 i j) = (ix2 i j : S512x2048.Idx) from ?_)
  funext a; apply Fin.ext
  match a with
  | ⟨0, _⟩ => show win0_5.index t (0 : Fin 2) * 512 + 1 * i.val = i.val; omega
  | ⟨1, _⟩ => show win0_5.index t (1 : Fin 2) * 2048 + 1 * j.val = j.val; omega

theorem blk6 (i : Fin 1) (j : Fin 256) : iblk m c 6 t (ix2 i j) = V m c main_v31 (ix2 i j) := by
  obtain ⟨e0, e1⟩ := idx6 t
  refine congrArg (V m c main_v31) (show ((cfg0.win 6).blk t).view.emb (ix2 i j) = (ix2 i j : S1x256.Idx) from ?_)
  funext a; apply Fin.ext
  match a with
  | ⟨0, _⟩ => show win0_6.index t (0 : Fin 2) * 1 + 1 * i.val = i.val; omega
  | ⟨1, _⟩ => show win0_6.index t (1 : Fin 2) * 256 + 1 * j.val = j.val; omega

theorem blk7 (i : Fin 256) (j : Fin 1024) : iblk m c 7 t (ix2 i j) = V m c main_v24 (ix2 i j) := by
  obtain ⟨e0, e1⟩ := idx7 t
  refine congrArg (V m c main_v24) (show ((cfg0.win 7).blk t).view.emb (ix2 i j) = (ix2 i j : S256x1024.Idx) from ?_)
  funext a; apply Fin.ext
  match a with
  | ⟨0, _⟩ => show win0_7.index t (0 : Fin 2) * 256 + 1 * i.val = i.val; omega
  | ⟨1, _⟩ => show win0_7.index t (1 : Fin 2) * 1024 + 1 * j.val = j.val; omega

theorem blk8 (i : Fin 8) (j : Fin 128) (k : Fin 256) : iblk m c 8 t (ix3 i j k) = V m c main_v27 (ix3 i j k) := by
  obtain ⟨e0, e1, e2⟩ := idx8 t
  refine congrArg (V m c main_v27) (show ((cfg0.win 8).blk t).view.emb (ix3 i j k) = (ix3 i j k : S8x128x256.Idx) from ?_)
  funext a; apply Fin.ext
  match a with
  | ⟨0, _⟩ => show win0_8.index t (0 : Fin 3) * 8 + 1 * i.val = i.val; omega
  | ⟨1, _⟩ => show win0_8.index t (1 : Fin 3) * 128 + 1 * j.val = j.val; omega
  | ⟨2, _⟩ => show win0_8.index t (2 : Fin 3) * 256 + 1 * k.val = k.val; omega

theorem blk9 (i : Fin 1) (j : Fin 256) : iblk m c 9 t (ix2 i j) = V m c main_v33 (ix2 i j) := by
  obtain ⟨e0, e1⟩ := idx9 t
  refine congrArg (V m c main_v33) (show ((cfg0.win 9).blk t).view.emb (ix2 i j) = (ix2 i j : S1x256.Idx) from ?_)
  funext a; apply Fin.ext
  match a with
  | ⟨0, _⟩ => show win0_9.index t (0 : Fin 2) * 1 + 1 * i.val = i.val; omega
  | ⟨1, _⟩ => show win0_9.index t (1 : Fin 2) * 256 + 1 * j.val = j.val; omega

theorem blk10 (i : Fin 1) (j : Fin 256) : iblk m c 10 t (ix2 i j) = V m c main_v35 (ix2 i j) := by
  obtain ⟨e0, e1⟩ := idx10 t
  refine congrArg (V m c main_v35) (show ((cfg0.win 10).blk t).view.emb (ix2 i j) = (ix2 i j : S1x256.Idx) from ?_)
  funext a; apply Fin.ext
  match a with
  | ⟨0, _⟩ => show win0_10.index t (0 : Fin 2) * 1 + 1 * i.val = i.val; omega
  | ⟨1, _⟩ => show win0_10.index t (1 : Fin 2) * 256 + 1 * j.val = j.val; omega

theorem blk11 (i : Fin 1) (j : Fin 128) : iblk m c 11 t (ix2 i j) = V m c main_v39 (ix2 i j) := by
  obtain ⟨e0, e1⟩ := idx11 t
  refine congrArg (V m c main_v39) (show ((cfg0.win 11).blk t).view.emb (ix2 i j) = (ix2 i j : S1x128.Idx) from ?_)
  funext a; apply Fin.ext
  match a with
  | ⟨0, _⟩ => show win0_11.index t (0 : Fin 2) * 1 + 1 * i.val = i.val; omega
  | ⟨1, _⟩ => show win0_11.index t (1 : Fin 2) * 128 + 1 * j.val = j.val; omega

theorem blk12 (i : Fin 1) (j : Fin 128) : iblk m c 12 t (ix2 i j) = V m c main_v43 (ix2 i j) := by
  obtain ⟨e0, e1⟩ := idx12 t
  refine congrArg (V m c main_v43) (show ((cfg0.win 12).blk t).view.emb (ix2 i j) = (ix2 i j : S1x128.Idx) from ?_)
  funext a; apply Fin.ext
  match a with
  | ⟨0, _⟩ => show win0_12.index t (0 : Fin 2) * 1 + 1 * i.val = i.val; omega
  | ⟨1, _⟩ => show win0_12.index t (1 : Fin 2) * 128 + 1 * j.val = j.val; omega

theorem blk13 (i : Fin 8) (j : Fin 128) : iblk m c 13 t (ix2 i j) = V m c main_v62 (ix2 i j) := by
  obtain ⟨e0, e1⟩ := idx13 t
  refine congrArg (V m c main_v62) (show ((cfg0.win 13).blk t).view.emb (ix2 i j) = (ix2 i j : S8x128.Idx) from ?_)
  funext a; apply Fin.ext
  match a with
  | ⟨0, _⟩ => show win0_13.index t (0 : Fin 2) * 8 + 1 * i.val = i.val; omega
  | ⟨1, _⟩ => show win0_13.index t (1 : Fin 2) * 128 + 1 * j.val = j.val; omega

theorem pos_at (b : Fin 4) (s : Fin 4096) : (V m c main_v28 : Vec Ideal S4x4096x1 .i32) (ix3 b s 0) = m ((c : Thread nD τ).loc main_arg1) (ix2 b s) := by
  rw [host_pos]
  pointwise

theorem g1_at (j : Fin 2048) : (V m c main_v29 : FVec Ideal S1x2048 .f32) (ix2 0 j) = m ((c : Thread nD τ).loc main_arg2) (ix1 j) := by
  rw [host_g1]
  pointwise

theorem qag_at (j : Fin 512) : (V m c main_v30 : FVec Ideal S1x512 .f32) (ix2 0 j) = m ((c : Thread nD τ).loc main_arg4) (ix1 j) := by
  rw [host_qag]
  pointwise

theorem kvag_at (j : Fin 256) : (V m c main_v31 : FVec Ideal S1x256 .f32) (ix2 0 j) = m ((c : Thread nD τ).loc main_arg6) (ix1 j) := by
  rw [host_kvag]
  pointwise

/-- A row of a grid point's inputs holds its token. -/
theorem row_of (r : Fin 512) (b : Fin 4) (s : Fin 4096) (hb : b.val = (grid0.coords t 0).val) (hs : s.val = 512 * (grid0.coords t 1).val + r.val) :
    Row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r where
  x k := (blk0 m c t r k b s hb hs).trans (congrFun (V_main_arg0 m c) _)
  pos := congrArg (FloatOps.sitofp (F := Ideal) FTy.f32) ((blk1 m c t r 0 b s hb hs).trans (pos_at m c b s))
  g1 k := (blk2 m c t 0 k).trans (g1_at m c k)
  win_lo k j := (blk3 m c t k _).trans ((congrFun (host_in m c) _).trans (wideIn_lo _ k j))
  win_zero k j := (blk3 m c t k _).trans ((congrFun (host_in m c) _).trans (wideIn_zero _ k j))
  win_q k j := (blk3 m c t k _).trans ((congrFun (host_in m c) _).trans (wideIn_q _ k j))
  win_k k j := (blk3 m c t k _).trans ((congrFun (host_in m c) _).trans (wideIn_k _ k j))
  win_v k j := (blk3 m c t k _).trans ((congrFun (host_in m c) _).trans (wideIn_v _ k j))
  qag k := (blk4 m c t 0 k).trans (qag_at m c k)
  wq k h e := (blk5 m c t k _).trans ((congrFun (host_q m c) _).trans (wideQ_at _ k h e))
  kvag k := (blk6 m c t 0 k).trans (kvag_at m c k)
  keyW k h d := (blk7 m c t k _).trans ((congrFun (host_key m c) _).trans (keyW_at _ k h d))
  valueW k h d := (blk8 m c t h d k).trans ((congrFun (host_value m c) _).trans (valueW_at _ k h d))
  qg e := (blk9 m c t 0 e).trans ((congrFun (host_qg m c) _).trans (wideGain_at _ e))
  kg e := (blk10 m c t 0 e).trans ((congrFun (host_kg m c) _).trans (wideGain_at _ e))
  sqg d := (blk11 m c t 0 d).trans ((congrFun (host_sqg m c) _).trans (gainTwice_at _ d))
  skg d := (blk12 m c t 0 d).trans ((congrFun (host_skg m c) _).trans (gainTwice_at _ d))
  rope0 d := (blk13 m c t 0 d).trans ((congrFun (host_rope m c) _).trans (rope_freq d))
  rope1 d := (blk13 m c t 1 d).trans ((congrFun (host_rope m c) _).trans (rope_turn d))
  rope2 d := (blk13 m c t 2 d).trans ((congrFun (host_rope m c) _).trans (rope_sign d))

/-- The queries array after the run holds the tokens' outputs. -/
theorem at14 (b : Fin 4) (h : Fin 8) (s : Fin 4096) (e : Fin 256) : (dats m 0 c).arrAt 14 cfg0.N (ix4 b h s e : S4x8x4096x256.Idx) = (tokenOf m c b s).qOut h e := by
  obtain ⟨t, ht0, ht1⟩ := point_exists b ⟨s.val / 512, by omega⟩
  dsimp only at ht1
  obtain ⟨hf, -⟩ := flushes t
  obtain ⟨e0, e1, e2, e3⟩ := idx14 t
  have hb := congrFun (Cert.Kernel3Ideal.Value.blocks14 m c t hf) (ix4 0 h ⟨s.val % 512, by omega⟩ e)
  rw [Cert.Kernel3Ideal.Value.flushed14] at hb
  have he : ((cfg0.win 14).blk t).view.emb (ix4 0 h ⟨s.val % 512, by omega⟩ e) = (ix4 b h s e : S4x8x4096x256.Idx) := by
    funext a; apply Fin.ext
    match a with
    | ⟨0, _⟩ => show win0_14.index t (0 : Fin 4) * 1 + 1 * 0 = b.val; omega
    | ⟨1, _⟩ => show win0_14.index t (1 : Fin 4) * 8 + 1 * h.val = h.val; omega
    | ⟨2, _⟩ => show win0_14.index t (2 : Fin 4) * 512 + 1 * (s.val % 512) = s.val; omega
    | ⟨3, _⟩ => show win0_14.index t (3 : Fin 4) * 256 + 1 * e.val = e.val; omega
  have ho := q_row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨s.val % 512, by omega⟩ (row_of m c t ⟨s.val % 512, by omega⟩ b s ht0.symm (by dsimp only; omega)) h e
  exact (congrArg ((dats m 0 c).arrAt 14 cfg0.N) he.symm).trans (hb.trans ho)

/-- The keys array after the run holds the tokens' outputs. -/
theorem at15 (b : Fin 4) (h : Fin 8) (s : Fin 4096) (e : Fin 256) : (dats m 0 c).arrAt 15 cfg0.N (ix4 b h s e : S4x8x4096x256.Idx) = (tokenOf m c b s).kOut h e := by
  obtain ⟨t, ht0, ht1⟩ := point_exists b ⟨s.val / 512, by omega⟩
  dsimp only at ht1
  obtain ⟨-, hf, -⟩ := flushes t
  obtain ⟨e0, e1, e2, e3⟩ := idx15 t
  have hb := congrFun (Cert.Kernel3Ideal.Value.blocks15 m c t hf) (ix4 0 h ⟨s.val % 512, by omega⟩ e)
  rw [Cert.Kernel3Ideal.Value.flushed15] at hb
  have he : ((cfg0.win 15).blk t).view.emb (ix4 0 h ⟨s.val % 512, by omega⟩ e) = (ix4 b h s e : S4x8x4096x256.Idx) := by
    funext a; apply Fin.ext
    match a with
    | ⟨0, _⟩ => show win0_15.index t (0 : Fin 4) * 1 + 1 * 0 = b.val; omega
    | ⟨1, _⟩ => show win0_15.index t (1 : Fin 4) * 8 + 1 * h.val = h.val; omega
    | ⟨2, _⟩ => show win0_15.index t (2 : Fin 4) * 512 + 1 * (s.val % 512) = s.val; omega
    | ⟨3, _⟩ => show win0_15.index t (3 : Fin 4) * 256 + 1 * e.val = e.val; omega
  have ho := k_row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨s.val % 512, by omega⟩ (row_of m c t ⟨s.val % 512, by omega⟩ b s ht0.symm (by dsimp only; omega)) h e
  exact (congrArg ((dats m 0 c).arrAt 15 cfg0.N) he.symm).trans (hb.trans ho)

/-- The values array after the run holds the tokens' outputs. -/
theorem at16 (b : Fin 4) (h k : Fin 8) (d : Fin 128) (r : Fin 512) : (dats m 0 c).arrAt 16 cfg0.N (ix5 b h k d r : S4x8x8x128x512.Idx) = (tokenOf m c b ⟨k.val * 512 + r.val, by omega⟩).vOut h d := by
  obtain ⟨t, ht0, ht1⟩ := point_exists b k
  dsimp only at ht1
  obtain ⟨-, -, hf, -⟩ := flushes t
  obtain ⟨e0, e1, e2, e3, e4⟩ := idx16 t
  have hb := congrFun (Cert.Kernel3Ideal.Value.blocks16 m c t hf) (ix5 0 h 0 d r)
  rw [Cert.Kernel3Ideal.Value.flushed16] at hb
  have he : ((cfg0.win 16).blk t).view.emb (ix5 0 h 0 d r) = (ix5 b h k d r : S4x8x8x128x512.Idx) := by
    funext a; apply Fin.ext
    match a with
    | ⟨0, _⟩ => show win0_16.index t (0 : Fin 5) * 1 + 1 * 0 = b.val; omega
    | ⟨1, _⟩ => show win0_16.index t (1 : Fin 5) * 8 + 1 * h.val = h.val; omega
    | ⟨2, _⟩ => show win0_16.index t (2 : Fin 5) * 1 + 1 * 0 = k.val; omega
    | ⟨3, _⟩ => show win0_16.index t (3 : Fin 5) * 128 + 1 * d.val = d.val; omega
    | ⟨4, _⟩ => show win0_16.index t (4 : Fin 5) * 512 + 1 * r.val = r.val; omega
  have ho := v_row (tokenOf m c b ⟨k.val * 512 + r.val, by omega⟩) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r (row_of m c t r b ⟨k.val * 512 + r.val, by omega⟩ ht0.symm (by dsimp only; omega)) h d
  exact (congrArg ((dats m 0 c).arrAt 16 cfg0.N) he.symm).trans (hb.trans ho)

/-- The window attention's queries array after the run holds the tokens' outputs. -/
theorem at17 (b : Fin 4) (s : Fin 4096) (h : Fin 16) (d : Fin 64) : (dats m 0 c).arrAt 17 cfg0.N (ix3 b s ⟨h.val * 64 + d.val, by omega⟩ : S4x4096x1024.Idx) = (tokenOf m c b s).qsOut h d := by
  obtain ⟨t, ht0, ht1⟩ := point_exists b ⟨s.val / 512, by omega⟩
  dsimp only at ht1
  obtain ⟨-, -, -, hf, -⟩ := flushes t
  obtain ⟨e0, e1, e2⟩ := idx17 t
  have hb := congrFun (Cert.Kernel3Ideal.Value.blocks17 m c t hf) (ix3 0 ⟨s.val % 512, by omega⟩ ⟨h.val * 64 + d.val, by omega⟩)
  rw [Cert.Kernel3Ideal.Value.flushed17] at hb
  have he : ((cfg0.win 17).blk t).view.emb (ix3 0 ⟨s.val % 512, by omega⟩ ⟨h.val * 64 + d.val, by omega⟩) = (ix3 b s ⟨h.val * 64 + d.val, by omega⟩ : S4x4096x1024.Idx) := by
    funext a; apply Fin.ext
    match a with
    | ⟨0, _⟩ => show win0_17.index t (0 : Fin 3) * 1 + 1 * 0 = b.val; omega
    | ⟨1, _⟩ => show win0_17.index t (1 : Fin 3) * 512 + 1 * (s.val % 512) = s.val; omega
    | ⟨2, _⟩ => show win0_17.index t (2 : Fin 3) * 1024 + 1 * (h.val * 64 + d.val) = (h.val * 64 + d.val); omega
  have ho := qs_row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨s.val % 512, by omega⟩ (row_of m c t ⟨s.val % 512, by omega⟩ b s ht0.symm (by dsimp only; omega)) h d
  exact (congrArg ((dats m 0 c).arrAt 17 cfg0.N) he.symm).trans (hb.trans ho)

/-- The window attention's keys array after the run holds the tokens' outputs. -/
theorem at18 (b : Fin 4) (s : Fin 4096) (e : Fin 256) : (dats m 0 c).arrAt 18 cfg0.N (ix3 b s e : S4x4096x256.Idx) = (tokenOf m c b s).ksOut ⟨e.val / 128, by omega⟩ ⟨e.val % 64, by omega⟩ := by
  obtain ⟨t, ht0, ht1⟩ := point_exists b ⟨s.val / 512, by omega⟩
  dsimp only at ht1
  obtain ⟨-, -, -, -, hf, -⟩ := flushes t
  obtain ⟨e0, e1, e2⟩ := idx18 t
  have hb := congrFun (Cert.Kernel3Ideal.Value.blocks18 m c t hf) (ix3 0 ⟨s.val % 512, by omega⟩ e)
  rw [Cert.Kernel3Ideal.Value.flushed18] at hb
  have he : ((cfg0.win 18).blk t).view.emb (ix3 0 ⟨s.val % 512, by omega⟩ e) = (ix3 b s e : S4x4096x256.Idx) := by
    funext a; apply Fin.ext
    match a with
    | ⟨0, _⟩ => show win0_18.index t (0 : Fin 3) * 1 + 1 * 0 = b.val; omega
    | ⟨1, _⟩ => show win0_18.index t (1 : Fin 3) * 512 + 1 * (s.val % 512) = s.val; omega
    | ⟨2, _⟩ => show win0_18.index t (2 : Fin 3) * 256 + 1 * e.val = e.val; omega
  have ho := ks_row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨s.val % 512, by omega⟩ (row_of m c t ⟨s.val % 512, by omega⟩ b s ht0.symm (by dsimp only; omega)) e
  exact (congrArg ((dats m 0 c).arrAt 18 cfg0.N) he.symm).trans (hb.trans ho)

/-- The window attention's values array after the run holds the tokens' outputs. -/
theorem at19 (b : Fin 4) (s : Fin 4096) (e : Fin 256) : (dats m 0 c).arrAt 19 cfg0.N (ix3 b s e : S4x4096x256.Idx) = (tokenOf m c b s).sv ⟨e.val / 128, by omega⟩ ⟨e.val % 64, by omega⟩ := by
  obtain ⟨t, ht0, ht1⟩ := point_exists b ⟨s.val / 512, by omega⟩
  dsimp only at ht1
  obtain ⟨-, -, -, -, -, hf⟩ := flushes t
  obtain ⟨e0, e1, e2⟩ := idx19 t
  have hb := congrFun (Cert.Kernel3Ideal.Value.blocks19 m c t hf) (ix3 0 ⟨s.val % 512, by omega⟩ e)
  rw [Cert.Kernel3Ideal.Value.flushed19] at hb
  have he : ((cfg0.win 19).blk t).view.emb (ix3 0 ⟨s.val % 512, by omega⟩ e) = (ix3 b s e : S4x4096x256.Idx) := by
    funext a; apply Fin.ext
    match a with
    | ⟨0, _⟩ => show win0_19.index t (0 : Fin 3) * 1 + 1 * 0 = b.val; omega
    | ⟨1, _⟩ => show win0_19.index t (1 : Fin 3) * 512 + 1 * (s.val % 512) = s.val; omega
    | ⟨2, _⟩ => show win0_19.index t (2 : Fin 3) * 256 + 1 * e.val = e.val; omega
  have ho := vs_row (tokenOf m c b s) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ⟨s.val % 512, by omega⟩ (row_of m c t ⟨s.val % 512, by omega⟩ b s ht0.symm (by dsimp only; omega)) e
  exact (congrArg ((dats m 0 c).arrAt 19 cfg0.N) he.symm).trans (hb.trans ho)

/-- The reference's arguments, as its valuation reads them, are the launch's. -/
abbrev Agree (V0 : Valuation Cert.Reference3Ideal.τ Cert.Reference3Ideal.sig (Elt Ideal)) : Prop := ∀ (b : Fin 4) (s : Fin 4096), Ref.T V0 b s = tokenOf m c b s

variable (V0 : Valuation Cert.Reference3Ideal.τ Cert.Reference3Ideal.sig (Elt Ideal)) (hV : Agree m c V0)

include hV

theorem array14 : Ref.out0 V0 = (dats m 0 c).arrAt 14 cfg0.N := by
  funext i
  obtain ⟨b, h, s, e, rfl⟩ : ∃ (b : Fin 4) (h : Fin 8) (s : Fin 4096) (e : Fin 256), i = ix4 b h s e := ⟨_, _, _, _, eq_ix4 i⟩
  refine (Ref.out0_at V0 b s h e).trans ?_
  rw [hV]
  exact (at14 m c b h s e).symm

theorem array15 : Ref.out1 V0 = (dats m 0 c).arrAt 15 cfg0.N := by
  funext i
  obtain ⟨b, h, s, e, rfl⟩ : ∃ (b : Fin 4) (h : Fin 8) (s : Fin 4096) (e : Fin 256), i = ix4 b h s e := ⟨_, _, _, _, eq_ix4 i⟩
  refine (Ref.out1_at V0 b s h e).trans ?_
  rw [hV]
  exact (at15 m c b h s e).symm

theorem array16 : Ref.out2 V0 = (dats m 0 c).arrAt 16 cfg0.N := by
  funext i
  obtain ⟨b, h, k, d, r, rfl⟩ : ∃ (b : Fin 4) (h k : Fin 8) (d : Fin 128) (r : Fin 512), i = ix5 b h k d r := ⟨_, _, _, _, _, eq_ix5 i⟩
  refine (Ref.out2_at V0 b h k d r).trans ?_
  rw [hV]
  exact (at16 m c b h k d r).symm

theorem array17 : Ref.out3 V0 = (dats m 0 c).arrAt 17 cfg0.N := by
  funext i
  obtain ⟨b, s, e, rfl⟩ : ∃ (b : Fin 4) (s : Fin 4096) (e : Fin 1024), i = ix3 b s e := ⟨_, _, _, eq_ix3 i⟩
  refine (Ref.out3_at V0 b s e).trans ?_
  rw [hV]
  exact (at17 m c b s ⟨e.val / 64, by omega⟩ ⟨e.val % 64, by omega⟩).symm.trans
    (congrArg (fun x => (dats m 0 c).arrAt 17 cfg0.N (ix3 b s x : S4x4096x1024.Idx)) (Fin.ext (by dsimp only; omega)))

theorem array18 : Ref.out4 V0 = (dats m 0 c).arrAt 18 cfg0.N := by
  funext i
  obtain ⟨b, s, e, rfl⟩ : ∃ (b : Fin 4) (s : Fin 4096) (e : Fin 256), i = ix3 b s e := ⟨_, _, _, eq_ix3 i⟩
  refine (Ref.out4_at V0 b s e).trans ?_
  rw [hV]
  exact (at18 m c b s e).symm

theorem array19 : Ref.out5 V0 = (dats m 0 c).arrAt 19 cfg0.N := by
  funext i
  obtain ⟨b, s, e, rfl⟩ : ∃ (b : Fin 4) (s : Fin 4096) (e : Fin 256), i = ix3 b s e := ⟨_, _, _, eq_ix3 i⟩
  refine (Ref.out5_at V0 b s e).trans ?_
  rw [hV]
  exact (at19 m c b s e).symm

end Cert.In

end
-- ==== Proof.lean ====
/- The claims of the four programs: the frames, the named constants, and the equations of the results from their parts. -/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_operands
public import proofs.«01_k».proof.Proof.Array
public import proofs.«01_k».proof.Proof.RefAt
public import proofs.«01_k».proof.Proof.Finite
public import proofs.«01_k».proof.Proof.WinFinite
public import proofs.«01_k».proof.Proof.WinEqual
public import proofs.«01_k».proof.Proof.OutArray
public import proofs.«01_k».proof.Proof.InArray
public import Idealize.ShloMosaic.Adequacy
public import Idealize.ShloMosaic.Init

@[expose] public section

noncomputable section

namespace Cert.Proof

open Idealize.ShloMosaic Idealize.ShloMosaic.TcCoe Idealize.SL.Sem

open Cert.Attn

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's named constant. -/
theorem mask_named : Cert.preserves_Kernel_KernelIdeal := IdealRules.named_const.statement _ _ _ _ _ rfl

/-- The score of a key against a query, as a real number, by the key's number. -/
def scoreOf (q k : FVec Ideal Cert.KernelIdeal.S4x8x4096x256 .bf16) (b : Fin 4) (h : Fin 8) (s : Fin 4096) (t : ℕ) : ℝ :=
  if ht : t < 4096 then ∑ e : Fin 256, (q (ix4 b h s e)).toReal * (k (ix4 b h ⟨t, ht⟩ e)).toReal else 0

/-- A value of a key, by the key's number. -/
def valueOf (v : FVec Ideal Cert.KernelIdeal.S4x8x8x128x512 .bf16) (b : Fin 4) (h : Fin 8) (d : Fin 128) (t : ℕ) : EReal :=
  if ht : t < 4096 then v (ix5 b h ⟨t / 512, by omega⟩ d ⟨t % 512, by omega⟩) else 0

theorem scoreOf_eq (q k : FVec Ideal Cert.KernelIdeal.S4x8x4096x256 .bf16) (hq : ∀ i, ∃ r : ℝ, q i = (r : EReal)) (hk : ∀ i, ∃ r : ℝ, k i = (r : EReal))
    (b : Fin 4) (h : Fin 8) (s t : Fin 4096) : ∑ e : Fin 256, q (ix4 b h s e) * k (ix4 b h t e) = ((scoreOf q k b h s t.val : ℝ) : EReal) := by
  unfold scoreOf
  rw [dif_pos t.isLt, coe_sum_real]
  refine Finset.sum_congr rfl fun e _ => ?_
  obtain ⟨x, hx⟩ := hq (ix4 b h s e)
  obtain ⟨y, hy⟩ := hk (ix4 b h t e)
  rw [hx, hy, EReal.coe_mul, EReal.toReal_coe, EReal.toReal_coe]

theorem valueOf_eq (v : FVec Ideal Cert.KernelIdeal.S4x8x8x128x512 .bf16) (b : Fin 4) (h : Fin 8) (d : Fin 128) (k : Fin 8) (j : Fin 512) :
    v (ix5 b h k d j) = valueOf v b h d (512 * k.val + j.val) := by
  unfold valueOf
  rw [dif_pos (by omega)]
  congr 2
  · apply Fin.ext; dsimp only; omega
  · apply Fin.ext; dsimp only; omega

/-- On finite queries and keys the two results are equal, index by index. -/
theorem results_eq (m : (ℓ : Loc Cert.KernelIdeal.nD Cert.KernelIdeal.τ Cert.KernelIdeal.sig) → Buf (Elt Ideal) ℓ) (c : Dev Cert.KernelIdeal.nD)
    (hq : ∀ i, ∃ r : ℝ, queries m c i = (r : EReal)) (hk : ∀ i, ∃ r : ℝ, keys m c i = (r : EReal)) :
    Ref.joined (Ref.sums (Ref.rows (values m c)) (Ref.weights (Ref.powers (Ref.masked (Ref.scores (queries m c) (keys m c)))
      (Ref.rowMax (Ref.masked (Ref.scores (queries m c) (keys m c))))))) = (Cert.KernelIdeal.Gen.dats m 0 c).arrAt 3 Cert.KernelIdeal.cfg0.N := by
  funext i
  obtain ⟨b, s, w, rfl⟩ : ∃ (b : Fin 4) (s : Fin 4096) (w : Fin 1024), i = ix3 b s w := ⟨_, _, _, eq_ix3 i⟩
  have hw : w.val = 128 * (⟨w.val / 128, by omega⟩ : Fin 8).val + (⟨w.val % 128, by omega⟩ : Fin 128).val := by dsimp only; omega
  generalize (⟨w.val / 128, by omega⟩ : Fin 8) = h at hw
  generalize (⟨w.val % 128, by omega⟩ : Fin 128) = d at hw
  refine (Ref.result_at (queries m c) (keys m c) (values m c) hq hk b s h d w hw (scoreOf (queries m c) (keys m c) b h s) (valueOf (values m c) b h d)
    (scoreOf_eq _ _ hq hk b h s) (fun t => ?_)).trans
    (array_at m c b s h d w hw (scoreOf (queries m c) (keys m c) b h s) (valueOf (values m c) b h d) (fun t => ?_) (valueOf_eq _ b h d)).symm
  · exact (valueOf_eq (values m c) b h d _ _).trans (congrArg _ (Nat.div_add_mod t.val 512))
  · rw [← scoreOf_eq _ _ hq hk b h s t]
    exact Finset.sum_congr rfl fun e _ => mul_comm _ _

/-- The claim of equal results. -/
theorem equal : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨hq, hk⟩ := finite_real _ _ _ (hpre c)
  refine (Ref.res_stages m' c).trans ?_
  rw [(hagree c).1, (hagree c).2.1, (hagree c).2.2]
  exact results_eq m c hq hk

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The output projection's results are the reference's. -/
theorem equal2 : Cert.algebraic_Kernel2Ideal_Reference2Ideal := by
  intro m ρ m' ρ' _ hagree
  refine ⟨_, _, Cert.Kernel2Ideal.Value.run_blocks (F := Ideal) m ρ, ?_⟩
  refine (θ_run Cert.Reference2Ideal.defs _ _).mono (fun _ h c => ⟨(h c).1.trans ?_, (h c).2.1.trans ?_, (h c).2.2⟩) (Cert.Reference2Ideal.Value.run (F := Ideal) m' ρ')
  · obtain ⟨h0, h1, h2, h3, h4, -⟩ := hagree c
    rw [h0, h1, h2, h3, h4]
    exact Cert.Out.array_first m c
  · obtain ⟨h0, h1, h2, h3, h4, h5⟩ := hagree c
    refine (Cert.Out.Ref.res_second m' c).trans ?_
    rw [h0, h1, h2, h3, h4, h5]
    exact Cert.Out.array_second m c

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The named reciprocal of a query's width. -/
theorem width_named : Cert.preserves_Kernel3_Kernel3Ideal := IdealRules.named_const.statement _ _ _ _ _ rfl

/-- The input projection's results are the reference's. -/
theorem equal3 : Cert.algebraic_Kernel3Ideal_Reference3Ideal := by
  intro m ρ m' ρ' _ hagree
  refine ⟨_, _, _, _, _, _, Cert.Kernel3Ideal.Value.run_blocks (F := Ideal) m ρ, ?_⟩
  have hV : ∀ c, Cert.In.Agree m c (StableHlo.launchContents m' c) := by
    intro c b s
    obtain ⟨h0, h1, h2, h3, h4, h5, h6, h7, h8, h9, h10, h11⟩ := hagree c
    show Cert.In.Ref.tok (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg4))
      (m' ((c.tc : Thread Cert.Reference3Ideal.nD Cert.Reference3Ideal.τ).loc Cert.Reference3Ideal.main_arg5))
      (m' ((c.tc : Thread Cert.Reference3Ideal.nD Cert.Reference3Ideal.τ).loc Cert.Reference3Ideal.main_arg6))
      (m' ((c.tc : Thread Cert.Reference3Ideal.nD Cert.Reference3Ideal.τ).loc Cert.Reference3Ideal.main_arg7))
      (m' ((c.tc : Thread Cert.Reference3Ideal.nD Cert.Reference3Ideal.τ).loc Cert.Reference3Ideal.main_arg8))
      (m' ((c.tc : Thread Cert.Reference3Ideal.nD Cert.Reference3Ideal.τ).loc Cert.Reference3Ideal.main_arg9))
      (m' ((c.tc : Thread Cert.Reference3Ideal.nD Cert.Reference3Ideal.τ).loc Cert.Reference3Ideal.main_arg10))
      (m' ((c.tc : Thread Cert.Reference3Ideal.nD Cert.Reference3Ideal.τ).loc Cert.Reference3Ideal.main_arg11)) b s = _
    rw [h0, h1, h2, h3, h4, h5, h6, h7, h8, h9, h10, h11]
  exact (θ_run Cert.Reference3Ideal.defs _ _).mono (fun _ h c => ⟨(h c).1.trans (Cert.In.array14 m c _ (hV c)), (h c).2.1.trans (Cert.In.array15 m c _ (hV c)),
    (h c).2.2.1.trans (Cert.In.array16 m c _ (hV c)), (h c).2.2.2.1.trans (Cert.In.array17 m c _ (hV c)), (h c).2.2.2.2.1.trans (Cert.In.array18 m c _ (hV c)),
    (h c).2.2.2.2.2.1.trans (Cert.In.array19 m c _ (hV c)), (h c).2.2.2.2.2.2⟩) (Cert.Reference3Ideal.Value.run (F := Ideal) m' ρ')

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The window mask's named constant. -/
theorem mask_named4 : Cert.preserves_Kernel4_Kernel4Ideal := IdealRules.named_const.statement _ _ _ _ _ rfl

/-- The window attention's results are the reference's. -/
theorem equal4 : Cert.algebraic_Kernel4Ideal_Reference4Ideal_pre_finite_operands := by
  intro m ρ m' ρ' hpre hagree
  refine ⟨_, Cert.Kernel4Ideal.Value.run_blocks (F := Ideal) m ρ, ?_⟩
  refine (θ_run Cert.Reference4Ideal.defs _ _).mono (fun _ h c => ⟨(h c).1.trans ?_, (h c).2⟩) (Cert.Reference4Ideal.Value.run (F := Ideal) m' ρ')
  obtain ⟨hs, hq, hk, ht⟩ := Cert.Win.finite_real _ _ _ _ _ _ (hpre c)
  obtain ⟨h0, h1, h2, h3, h4, h5⟩ := hagree c
  refine (Cert.Win.Ref.res_stages m' c).trans ?_
  rw [h0, h1, h2, h3, h4, h5]
  exact Cert.Win.results_eq m c hs hq hk ht

/-- The claims, in the order in which they are stated. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts,
  Cert.Reference4Ideal.Gen.facts, Cert.Pre_finite_scores.Gen.facts, Cert.Pre_finite_operands.Gen.facts,
  frame_kernel, frame_ideal, fun m ρ _ => Cert.KernelIdeal.Gen.frame m ρ, frame_reference, fun m ρ _ => frame_reference m ρ trivial,
  frame_kernel2, frame_ideal2, frame_reference2, frame_kernel3, frame_ideal3, frame_reference3,
  frame_kernel4, frame_ideal4, fun m ρ _ => Cert.Kernel4Ideal.Gen.frame m ρ, frame_reference4, fun m ρ _ => frame_reference4 m ρ trivial,
  mask_named, equal, trivial, equal2, width_named, equal3, mask_named4, equal4⟩

end Cert.Proof

end
